-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v78)) (v1 : (c : Dev Cert.KernelIdeal.nD) → Buf (Elt Ideal) ((c.tc : Thread Cert.KernelIdeal.nD Cert.KernelIdeal.τ).loc Cert.KernelIdeal.main_values_3)) (v2 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_values_3) = v1 c
          ∧ r.2.mem ((c.tc : Thread Cert.KernelIdeal.nD Cert.KernelIdeal.τ).loc Cert.KernelIdeal.main_v41) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v171) = v0 c
          ∧ r.2.mem ((c.tc : Thread Cert.ReferenceIdeal.nD Cert.ReferenceIdeal.τ).loc Cert.ReferenceIdeal.main_values_30) = v1 c
          ∧ r.2.mem ((c.tc : Thread Cert.ReferenceIdeal.nD Cert.ReferenceIdeal.τ).loc Cert.ReferenceIdeal.main_v174) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S20000x81 : Shape := ⟨2, ![20000, 81]⟩
abbrev S20000x324 : Shape := ⟨2, ![20000, 324]⟩
abbrev S20000x4 : Shape := ⟨2, ![20000, 4]⟩
abbrev S20000x81x4 : Shape := ⟨3, ![20000, 81, 4]⟩
abbrev S20000x81x1 : Shape := ⟨3, ![20000, 81, 1]⟩
abbrev S1000x81 : Shape := ⟨2, ![1000, 81]⟩
abbrev S1000x4 : Shape := ⟨2, ![1000, 4]⟩
abbrev S1000 : Shape := ⟨1, ![1000]⟩
abbrev S1000x1 : Shape := ⟨2, ![1000, 1]⟩
abbrev S20000x80 : Shape := ⟨2, ![20000, 80]⟩
abbrev S80x20000 : Shape := ⟨2, ![80, 20000]⟩
abbrev S_ : Shape := ⟨0, ![]⟩
abbrev S80x5x4000 : Shape := ⟨3, ![80, 5, 4000]⟩
abbrev S80x5x512 : Shape := ⟨3, ![80, 5, 512]⟩
abbrev S5 : Shape := ⟨1, ![5]⟩
abbrev S1x5x1 : Shape := ⟨3, ![1, 5, 1]⟩
abbrev S80x2560 : Shape := ⟨2, ![80, 2560]⟩
abbrev S80x512 : Shape := ⟨2, ![80, 512]⟩
abbrev S80x512x1 : Shape := ⟨3, ![80, 512, 1]⟩
abbrev S1 : Shape := ⟨1, ![1]⟩
abbrev S1x1x1 : Shape := ⟨3, ![1, 1, 1]⟩
abbrev S1x512 : Shape := ⟨2, ![1, 512]⟩
abbrev S80 : Shape := ⟨1, ![80]⟩
abbrev S80x1 : Shape := ⟨2, ![80, 1]⟩
abbrev S40960 : Shape := ⟨1, ![40960]⟩
abbrev S100 : Shape := ⟨1, ![100]⟩
abbrev S100x1 : Shape := ⟨2, ![100, 1]⟩
abbrev S100x4 : Shape := ⟨2, ![100, 4]⟩

abbrev nBuf : Space → Nat
  | .hbm => 228
  | .vmem => 28
  | .smem => 0
  | _ => 0

abbrev hbmTy0_0 (i : Nat) : BufTy := match i % 128 with
  | 0 => ⟨S20000x81, .f32⟩
  | 1 => ⟨S20000x324, .f32⟩
  | 2 => ⟨S20000x4, .f32⟩
  | 3 => ⟨S20000x81x4, .f32⟩
  | 4 => ⟨S20000x81x1, .f32⟩
  | 5 => ⟨S20000x81, .f32⟩
  | 6 => ⟨S20000x81x1, .f32⟩
  | 7 => ⟨S20000x81, .f32⟩
  | 8 => ⟨S20000x81x1, .f32⟩
  | 9 => ⟨S20000x81, .f32⟩
  | 10 => ⟨S20000x81x1, .f32⟩
  | 11 => ⟨S20000x81, .f32⟩
  | 12 => ⟨S20000x81, .f32⟩
  | 13 => ⟨S20000x81, .f32⟩
  | 14 => ⟨S20000x81, .f32⟩
  | 15 => ⟨S20000x81, .f32⟩
  | 16 => ⟨S20000x81, .f32⟩
  | 17 => ⟨S20000x80, .f32⟩
  | 18 => ⟨S80x20000, .f32⟩
  | 19 => ⟨S_, .f32⟩
  | 20 => ⟨S80x20000, .f32⟩
  | 21 => ⟨S80x20000, .i1⟩
  | 22 => ⟨S_, .f32⟩
  | 23 => ⟨S_, .f32⟩
  | 24 => ⟨S80x20000, .f32⟩
  | 25 => ⟨S80x20000, .f32⟩
  | 26 => ⟨S80x5x4000, .f32⟩
  | 27 => ⟨S80x5x512, .f32⟩
  | 28 => ⟨S80x5x512, .i32⟩
  | 29 => ⟨S5, .i32⟩
  | 30 => ⟨S_, .i32⟩
  | 31 => ⟨S5, .i32⟩
  | 32 => ⟨S5, .i32⟩
  | 33 => ⟨S1x5x1, .i32⟩
  | 34 => ⟨S80x5x512, .i32⟩
  | 35 => ⟨S80x5x512, .i32⟩
  | 36 => ⟨S80x2560, .f32⟩
  | 37 => ⟨S80x512, .f32⟩
  | 38 => ⟨S80x512, .i32⟩
  | 39 => ⟨S80x2560, .i32⟩
  | 40 => ⟨S_, .i32⟩
  | 41 => ⟨S80x512, .i32⟩
  | 42 => ⟨S80x512, .i1⟩
  | 43 => ⟨S_, .i32⟩
  | 44 => ⟨S80x512, .i32⟩
  | 45 => ⟨S80x512, .i32⟩
  | 46 => ⟨S80x512, .i32⟩
  | 47 => ⟨S80x512x1, .i32⟩
  | 48 => ⟨S1, .i32⟩
  | 49 => ⟨S_, .i32⟩
  | 50 => ⟨S80x512x1, .i32⟩
  | 51 => ⟨S80x512x1, .i1⟩
  | 52 => ⟨S1x1x1, .i32⟩
  | 53 => ⟨S80x512x1, .i32⟩
  | 54 => ⟨S80x512x1, .i1⟩
  | 55 => ⟨S80x512x1, .i1⟩
  | 56 => ⟨S_, .i1⟩
  | 57 => ⟨S80x512, .i1⟩
  | 58 => ⟨S80x512, .i32⟩
  | 59 => ⟨S_, .i32⟩
  | 60 => ⟨S80x512, .i32⟩
  | 61 => ⟨S80x512, .i32⟩
  | 62 => ⟨S20000x80, .f32⟩
  | 63 => ⟨S80x20000, .f32⟩
  | 64 => ⟨S_, .i32⟩
  | 65 => ⟨S80x512, .i32⟩
  | 66 => ⟨S80x512, .i1⟩
  | 67 => ⟨S_, .i32⟩
  | 68 => ⟨S80x512, .i32⟩
  | 69 => ⟨S80x512, .i32⟩
  | 70 => ⟨S80x512, .i32⟩
  | 71 => ⟨S80x512x1, .i32⟩
  | 72 => ⟨S1, .i32⟩
  | 73 => ⟨S_, .i32⟩
  | 74 => ⟨S80x512x1, .i32⟩
  | 75 => ⟨S80x512x1, .i1⟩
  | 76 => ⟨S1x1x1, .i32⟩
  | 77 => ⟨S80x512x1, .i32⟩
  | 78 => ⟨S80x512x1, .i1⟩
  | 79 => ⟨S80x512x1, .i1⟩
  | 80 => ⟨S_, .i1⟩
  | 81 => ⟨S80x512, .i1⟩
  | 82 => ⟨S80x512, .f32⟩
  | 83 => ⟨S_, .f32⟩
  | 84 => ⟨S80x512, .f32⟩
  | 85 => ⟨S80x512, .f32⟩
  | 86 => ⟨S20000x80, .f32⟩
  | 87 => ⟨S80x20000, .f32⟩
  | 88 => ⟨S_, .i32⟩
  | 89 => ⟨S80x512, .i32⟩
  | 90 => ⟨S80x512, .i1⟩
  | 91 => ⟨S_, .i32⟩
  | 92 => ⟨S80x512, .i32⟩
  | 93 => ⟨S80x512, .i32⟩
  | 94 => ⟨S80x512, .i32⟩
  | 95 => ⟨S80x512x1, .i32⟩
  | 96 => ⟨S1, .i32⟩
  | 97 => ⟨S_, .i32⟩
  | 98 => ⟨S80x512x1, .i32⟩
  | 99 => ⟨S80x512x1, .i1⟩
  | 100 => ⟨S1x1x1, .i32⟩
  | 101 => ⟨S80x512x1, .i32⟩
  | 102 => ⟨S80x512x1, .i1⟩
  | 103 => ⟨S80x512x1, .i1⟩
  | 104 => ⟨S_, .i1⟩
  | 105 => ⟨S80x512, .i1⟩
  | 106 => ⟨S80x512, .f32⟩
  | 107 => ⟨S_, .f32⟩
  | 108 => ⟨S80x512, .f32⟩
  | 109 => ⟨S80x512, .f32⟩
  | 110 => ⟨S20000x80, .f32⟩
  | 111 => ⟨S80x20000, .f32⟩
  | 112 => ⟨S_, .i32⟩
  | 113 => ⟨S80x512, .i32⟩
  | 114 => ⟨S80x512, .i1⟩
  | 115 => ⟨S_, .i32⟩
  | 116 => ⟨S80x512, .i32⟩
  | 117 => ⟨S80x512, .i32⟩
  | 118 => ⟨S80x512, .i32⟩
  | 119 => ⟨S80x512x1, .i32⟩
  | 120 => ⟨S1, .i32⟩
  | 121 => ⟨S_, .i32⟩
  | 122 => ⟨S80x512x1, .i32⟩
  | 123 => ⟨S80x512x1, .i1⟩
  | 124 => ⟨S1x1x1, .i32⟩
  | 125 => ⟨S80x512x1, .i32⟩
  | 126 => ⟨S80x512x1, .i1⟩
  | 127 => ⟨S80x512x1, .i1⟩
  | _ => ⟨S20000x81, .f32⟩

abbrev hbmTy0_1 (i : Nat) : BufTy := match i % 128 with
  | 0 => ⟨S_, .i1⟩
  | 1 => ⟨S80x512, .i1⟩
  | 2 => ⟨S80x512, .f32⟩
  | 3 => ⟨S_, .f32⟩
  | 4 => ⟨S80x512, .f32⟩
  | 5 => ⟨S80x512, .f32⟩
  | 6 => ⟨S20000x80, .f32⟩
  | 7 => ⟨S80x20000, .f32⟩
  | 8 => ⟨S_, .i32⟩
  | 9 => ⟨S80x512, .i32⟩
  | 10 => ⟨S80x512, .i1⟩
  | 11 => ⟨S_, .i32⟩
  | 12 => ⟨S80x512, .i32⟩
  | 13 => ⟨S80x512, .i32⟩
  | 14 => ⟨S80x512, .i32⟩
  | 15 => ⟨S80x512x1, .i32⟩
  | 16 => ⟨S1, .i32⟩
  | 17 => ⟨S_, .i32⟩
  | 18 => ⟨S80x512x1, .i32⟩
  | 19 => ⟨S80x512x1, .i1⟩
  | 20 => ⟨S1x1x1, .i32⟩
  | 21 => ⟨S80x512x1, .i32⟩
  | 22 => ⟨S80x512x1, .i1⟩
  | 23 => ⟨S80x512x1, .i1⟩
  | 24 => ⟨S_, .i1⟩
  | 25 => ⟨S80x512, .i1⟩
  | 26 => ⟨S80x512, .f32⟩
  | 27 => ⟨S_, .f32⟩
  | 28 => ⟨S80x512, .f32⟩
  | 29 => ⟨S80x512, .f32⟩
  | 30 => ⟨S80x512, .f32⟩
  | 31 => ⟨S40960, .f32⟩
  | 32 => ⟨S100, .f32⟩
  | 33 => ⟨S100, .i32⟩
  | 34 => ⟨S_, .i32⟩
  | 35 => ⟨S_, .i32⟩
  | 36 => ⟨S100, .i32⟩
  | 37 => ⟨S100, .i32⟩
  | 38 => ⟨S100, .i32⟩
  | 39 => ⟨S_, .i32⟩
  | 40 => ⟨S100, .i32⟩
  | 41 => ⟨S100, .i1⟩
  | 42 => ⟨S100, .i32⟩
  | 43 => ⟨S100, .i32⟩
  | 44 => ⟨S_, .i32⟩
  | 45 => ⟨S100, .i32⟩
  | 46 => ⟨S100, .i1⟩
  | 47 => ⟨S100, .i1⟩
  | 48 => ⟨S_, .i32⟩
  | 49 => ⟨S100, .i32⟩
  | 50 => ⟨S100, .i32⟩
  | 51 => ⟨S100, .i32⟩
  | 52 => ⟨S_, .i32⟩
  | 53 => ⟨S100, .i32⟩
  | 54 => ⟨S100, .i32⟩
  | 55 => ⟨S40960, .f32⟩
  | 56 => ⟨S_, .i32⟩
  | 57 => ⟨S100, .i32⟩
  | 58 => ⟨S100, .i1⟩
  | 59 => ⟨S_, .i32⟩
  | 60 => ⟨S100, .i32⟩
  | 61 => ⟨S100, .i32⟩
  | 62 => ⟨S100, .i32⟩
  | 63 => ⟨S100x1, .i32⟩
  | 64 => ⟨S100, .f32⟩
  | 65 => ⟨S40960, .f32⟩
  | 66 => ⟨S_, .i32⟩
  | 67 => ⟨S100, .i32⟩
  | 68 => ⟨S100, .i1⟩
  | 69 => ⟨S_, .i32⟩
  | 70 => ⟨S100, .i32⟩
  | 71 => ⟨S100, .i32⟩
  | 72 => ⟨S100, .i32⟩
  | 73 => ⟨S100x1, .i32⟩
  | 74 => ⟨S100, .f32⟩
  | 75 => ⟨S40960, .f32⟩
  | 76 => ⟨S_, .i32⟩
  | 77 => ⟨S100, .i32⟩
  | 78 => ⟨S100, .i1⟩
  | 79 => ⟨S_, .i32⟩
  | 80 => ⟨S100, .i32⟩
  | 81 => ⟨S100, .i32⟩
  | 82 => ⟨S100, .i32⟩
  | 83 => ⟨S100x1, .i32⟩
  | 84 => ⟨S100, .f32⟩
  | 85 => ⟨S40960, .f32⟩
  | 86 => ⟨S_, .i32⟩
  | 87 => ⟨S100, .i32⟩
  | 88 => ⟨S100, .i1⟩
  | 89 => ⟨S_, .i32⟩
  | 90 => ⟨S100, .i32⟩
  | 91 => ⟨S100, .i32⟩
  | 92 => ⟨S100, .i32⟩
  | 93 => ⟨S100x1, .i32⟩
  | 94 => ⟨S100, .f32⟩
  | 95 => ⟨S100x1, .f32⟩
  | 96 => ⟨S100x1, .f32⟩
  | 97 => ⟨S100x1, .f32⟩
  | 98 => ⟨S100x1, .f32⟩
  | 99 => ⟨S100x4, .f32⟩
  | _ => ⟨S20000x81, .f32⟩

abbrev hbmTy (i : Nat) : BufTy := match i / 128 with
  | 0 => hbmTy0_0 i
  | 1 => hbmTy0_1 i
  | _ => ⟨S20000x81, .f32⟩

abbrev bufTy : (tb : Table) → Fin (tcTables nBuf tb) → BufTy
  | .hbm, ⟨i, _⟩ => hbmTy i
  | .local _ .vmem, ⟨0, _⟩ => ⟨S1000x81, .f32⟩
  | .local _ .vmem, ⟨1, _⟩ => ⟨S1000x81, .f32⟩
  | .local _ .vmem, ⟨2, _⟩ => ⟨S1000x81, .f32⟩
  | .local _ .vmem, ⟨3, _⟩ => ⟨S1000x81, .f32⟩
  | .local _ .vmem, ⟨4, _⟩ => ⟨S1000x81, .f32⟩
  | .local _ .vmem, ⟨5, _⟩ => ⟨S1000x81, .f32⟩
  | .local _ .vmem, ⟨6, _⟩ => ⟨S1000x81, .f32⟩
  | .local _ .vmem, ⟨7, _⟩ => ⟨S1000x81, .f32⟩
  | .local _ .vmem, ⟨8, _⟩ => ⟨S1000x81, .f32⟩
  | .local _ .vmem, ⟨9, _⟩ => ⟨S1000x81, .f32⟩
  | .local _ .vmem, ⟨10, _⟩ => ⟨S1000x4, .f32⟩
  | .local _ .vmem, ⟨11, _⟩ => ⟨S1000x4, .f32⟩
  | .local _ .vmem, ⟨12, _⟩ => ⟨S1000x81, .f32⟩
  | .local _ .vmem, ⟨13, _⟩ => ⟨S1000x81, .f32⟩
  | .local _ .vmem, ⟨14, _⟩ => ⟨S1000x81, .f32⟩
  | .local _ .vmem, ⟨15, _⟩ => ⟨S1000x81, .f32⟩
  | .local _ .vmem, ⟨16, _⟩ => ⟨S1000x81, .f32⟩
  | .local _ .vmem, ⟨17, _⟩ => ⟨S1000x81, .f32⟩
  | .local _ .vmem, ⟨18, _⟩ => ⟨S1000x81, .f32⟩
  | .local _ .vmem, ⟨19, _⟩ => ⟨S1000x81, .f32⟩
  | .local _ .vmem, ⟨20, _⟩ => ⟨S1000x81, .f32⟩
  | .local _ .vmem, ⟨21, _⟩ => ⟨S1000x81, .f32⟩
  | .local _ .vmem, ⟨22, _⟩ => ⟨S80x512, .f32⟩
  | .local _ .vmem, ⟨23, _⟩ => ⟨S80x512, .f32⟩
  | .local _ .vmem, ⟨24, _⟩ => ⟨S80x512, .f32⟩
  | .local _ .vmem, ⟨25, _⟩ => ⟨S80x512, .f32⟩
  | .local _ .vmem, ⟨26, _⟩ => ⟨S80x512, .f32⟩
  | .local _ .vmem, ⟨27, _⟩ => ⟨S80x512, .f32⟩
  | _, _ => ⟨S20000x81, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev main_v9_2 : Ref sig .tc := ⟨.hbm, 14, rfl⟩
abbrev main_v9_3 : Ref sig .tc := ⟨.hbm, 15, rfl⟩
abbrev main_v9_4 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_v15 : Ref sig .tc := ⟨.hbm, 26, rfl⟩
abbrev main_values : Ref sig .tc := ⟨.hbm, 27, rfl⟩
abbrev main_indices : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_values_1 : Ref sig .tc := ⟨.hbm, 37, rfl⟩
abbrev main_indices_2 : Ref sig .tc := ⟨.hbm, 38, rfl⟩
abbrev main_v23 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_c_4 : Ref sig .tc := ⟨.hbm, 59, rfl⟩
abbrev main_call1_v14 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_call2_c : Ref sig .tc := ⟨.hbm, 64, rfl⟩
abbrev main_call2_v0 : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_c_1 : Ref sig .tc := ⟨.hbm, 72, rfl⟩
abbrev main_call2_c_2 : Ref sig .tc := ⟨.hbm, 73, rfl⟩
abbrev main_call2_v6 : Ref sig .tc := ⟨.hbm, 74, rfl⟩
abbrev main_call2_v7 : Ref sig .tc := ⟨.hbm, 75, rfl⟩
abbrev main_call2_v8 : Ref sig .tc := ⟨.hbm, 76, rfl⟩
abbrev main_call2_v9 : Ref sig .tc := ⟨.hbm, 77, rfl⟩
abbrev main_call2_v10 : Ref sig .tc := ⟨.hbm, 78, rfl⟩
abbrev main_call2_v11 : Ref sig .tc := ⟨.hbm, 79, rfl⟩
abbrev main_call2_c_3 : Ref sig .tc := ⟨.hbm, 80, rfl⟩
abbrev main_call2_v12 : Ref sig .tc := ⟨.hbm, 81, rfl⟩
abbrev main_call2_v13 : Ref sig .tc := ⟨.hbm, 82, rfl⟩
abbrev main_call2_cst : Ref sig .tc := ⟨.hbm, 83, rfl⟩
abbrev main_call2_v14 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_call3_c : Ref sig .tc := ⟨.hbm, 88, rfl⟩
abbrev main_call3_v0 : Ref sig .tc := ⟨.hbm, 89, rfl⟩
abbrev main_call3_v1 : Ref sig .tc := ⟨.hbm, 90, rfl⟩
abbrev main_call3_c_0 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_call3_v5 : Ref sig .tc := ⟨.hbm, 95, rfl⟩
abbrev main_call3_c_1 : Ref sig .tc := ⟨.hbm, 96, rfl⟩
abbrev main_call3_c_2 : Ref sig .tc := ⟨.hbm, 97, rfl⟩
abbrev main_call3_v6 : Ref sig .tc := ⟨.hbm, 98, rfl⟩
abbrev main_call3_v7 : Ref sig .tc := ⟨.hbm, 99, rfl⟩
abbrev main_call3_v8 : Ref sig .tc := ⟨.hbm, 100, rfl⟩
abbrev main_call3_v9 : Ref sig .tc := ⟨.hbm, 101, rfl⟩
abbrev main_call3_v10 : Ref sig .tc := ⟨.hbm, 102, rfl⟩
abbrev main_call3_v11 : Ref sig .tc := ⟨.hbm, 103, rfl⟩
abbrev main_call3_c_3 : Ref sig .tc := ⟨.hbm, 104, rfl⟩
abbrev main_call3_v12 : Ref sig .tc := ⟨.hbm, 105, rfl⟩
abbrev main_call3_v13 : Ref sig .tc := ⟨.hbm, 106, rfl⟩
abbrev main_call3_cst : Ref sig .tc := ⟨.hbm, 107, rfl⟩
abbrev main_call3_v14 : Ref sig .tc := ⟨.hbm, 108, rfl⟩
abbrev main_v30 : Ref sig .tc := ⟨.hbm, 109, rfl⟩
abbrev main_v31 : Ref sig .tc := ⟨.hbm, 110, rfl⟩
abbrev main_v32 : Ref sig .tc := ⟨.hbm, 111, rfl⟩
abbrev main_call4_c : Ref sig .tc := ⟨.hbm, 112, rfl⟩
abbrev main_call4_v0 : Ref sig .tc := ⟨.hbm, 113, rfl⟩
abbrev main_call4_v1 : Ref sig .tc := ⟨.hbm, 114, rfl⟩
abbrev main_call4_c_0 : Ref sig .tc := ⟨.hbm, 115, rfl⟩
abbrev main_call4_v2 : Ref sig .tc := ⟨.hbm, 116, rfl⟩
abbrev main_call4_v3 : Ref sig .tc := ⟨.hbm, 117, rfl⟩
abbrev main_call4_v4 : Ref sig .tc := ⟨.hbm, 118, rfl⟩
abbrev main_call4_v5 : Ref sig .tc := ⟨.hbm, 119, rfl⟩
abbrev main_call4_c_1 : Ref sig .tc := ⟨.hbm, 120, rfl⟩
abbrev main_call4_c_2 : Ref sig .tc := ⟨.hbm, 121, rfl⟩
abbrev main_call4_v6 : Ref sig .tc := ⟨.hbm, 122, rfl⟩
abbrev main_call4_v7 : Ref sig .tc := ⟨.hbm, 123, rfl⟩
abbrev main_call4_v8 : Ref sig .tc := ⟨.hbm, 124, rfl⟩
abbrev main_call4_v9 : Ref sig .tc := ⟨.hbm, 125, rfl⟩
abbrev main_call4_v10 : Ref sig .tc := ⟨.hbm, 126, rfl⟩
abbrev main_call4_v11 : Ref sig .tc := ⟨.hbm, 127, rfl⟩
abbrev main_call4_c_3 : Ref sig .tc := ⟨.hbm, 128, rfl⟩
abbrev main_call4_v12 : Ref sig .tc := ⟨.hbm, 129, rfl⟩
abbrev main_call4_v13 : Ref sig .tc := ⟨.hbm, 130, rfl⟩
abbrev main_call4_cst : Ref sig .tc := ⟨.hbm, 131, rfl⟩
abbrev main_call4_v14 : Ref sig .tc := ⟨.hbm, 132, rfl⟩
abbrev main_v33 : Ref sig .tc := ⟨.hbm, 133, rfl⟩
abbrev main_v34 : Ref sig .tc := ⟨.hbm, 134, rfl⟩
abbrev main_v35 : Ref sig .tc := ⟨.hbm, 135, rfl⟩
abbrev main_call5_c : Ref sig .tc := ⟨.hbm, 136, rfl⟩
abbrev main_call5_v0 : Ref sig .tc := ⟨.hbm, 137, rfl⟩
abbrev main_call5_v1 : Ref sig .tc := ⟨.hbm, 138, rfl⟩
abbrev main_call5_c_0 : Ref sig .tc := ⟨.hbm, 139, rfl⟩
abbrev main_call5_v2 : Ref sig .tc := ⟨.hbm, 140, rfl⟩
abbrev main_call5_v3 : Ref sig .tc := ⟨.hbm, 141, rfl⟩
abbrev main_call5_v4 : Ref sig .tc := ⟨.hbm, 142, rfl⟩
abbrev main_call5_v5 : Ref sig .tc := ⟨.hbm, 143, rfl⟩
abbrev main_call5_c_1 : Ref sig .tc := ⟨.hbm, 144, rfl⟩
abbrev main_call5_c_2 : Ref sig .tc := ⟨.hbm, 145, rfl⟩
abbrev main_call5_v6 : Ref sig .tc := ⟨.hbm, 146, rfl⟩
abbrev main_call5_v7 : Ref sig .tc := ⟨.hbm, 147, rfl⟩
abbrev main_call5_v8 : Ref sig .tc := ⟨.hbm, 148, rfl⟩
abbrev main_call5_v9 : Ref sig .tc := ⟨.hbm, 149, rfl⟩
abbrev main_call5_v10 : Ref sig .tc := ⟨.hbm, 150, rfl⟩
abbrev main_call5_v11 : Ref sig .tc := ⟨.hbm, 151, rfl⟩
abbrev main_call5_c_3 : Ref sig .tc := ⟨.hbm, 152, rfl⟩
abbrev main_call5_v12 : Ref sig .tc := ⟨.hbm, 153, rfl⟩
abbrev main_call5_v13 : Ref sig .tc := ⟨.hbm, 154, rfl⟩
abbrev main_call5_cst : Ref sig .tc := ⟨.hbm, 155, rfl⟩
abbrev main_call5_v14 : Ref sig .tc := ⟨.hbm, 156, rfl⟩
abbrev main_v36 : Ref sig .tc := ⟨.hbm, 157, rfl⟩
abbrev main_v37 : Ref sig .tc := ⟨.hbm, 158, rfl⟩
abbrev main_v38 : Ref sig .tc := ⟨.hbm, 159, rfl⟩
abbrev main_values_3 : Ref sig .tc := ⟨.hbm, 160, rfl⟩
abbrev main_indices_4 : Ref sig .tc := ⟨.hbm, 161, rfl⟩
abbrev main_c_5 : Ref sig .tc := ⟨.hbm, 162, rfl⟩
abbrev main_call6_v0 : Ref sig .tc := ⟨.hbm, 163, rfl⟩
abbrev main_call6_v1 : Ref sig .tc := ⟨.hbm, 164, rfl⟩
abbrev main_call6_v2 : Ref sig .tc := ⟨.hbm, 165, rfl⟩
abbrev main_call6_v3 : Ref sig .tc := ⟨.hbm, 166, rfl⟩
abbrev main_call6_v4 : Ref sig .tc := ⟨.hbm, 167, rfl⟩
abbrev main_call6_v5 : Ref sig .tc := ⟨.hbm, 168, rfl⟩
abbrev main_call6_v6 : Ref sig .tc := ⟨.hbm, 169, rfl⟩
abbrev main_call6_v7 : Ref sig .tc := ⟨.hbm, 170, rfl⟩
abbrev main_call6_v8 : Ref sig .tc := ⟨.hbm, 171, rfl⟩
abbrev main_call6_c : Ref sig .tc := ⟨.hbm, 172, rfl⟩
abbrev main_call6_v9 : Ref sig .tc := ⟨.hbm, 173, rfl⟩
abbrev main_call6_v10 : Ref sig .tc := ⟨.hbm, 174, rfl⟩
abbrev main_call6_v11 : Ref sig .tc := ⟨.hbm, 175, rfl⟩
abbrev main_call6_c_0 : Ref sig .tc := ⟨.hbm, 176, rfl⟩
abbrev main_call6_v12 : Ref sig .tc := ⟨.hbm, 177, rfl⟩
abbrev main_call6_v13 : Ref sig .tc := ⟨.hbm, 178, rfl⟩
abbrev main_v39 : Ref sig .tc := ⟨.hbm, 179, rfl⟩
abbrev main_c_6 : Ref sig .tc := ⟨.hbm, 180, rfl⟩
abbrev main_v40 : Ref sig .tc := ⟨.hbm, 181, rfl⟩
abbrev main_v41 : Ref sig .tc := ⟨.hbm, 182, rfl⟩
abbrev main_v42 : Ref sig .tc := ⟨.hbm, 183, rfl⟩
abbrev main_c_7 : Ref sig .tc := ⟨.hbm, 184, rfl⟩
abbrev main_v43 : Ref sig .tc := ⟨.hbm, 185, rfl⟩
abbrev main_v44 : Ref sig .tc := ⟨.hbm, 186, rfl⟩
abbrev main_c_8 : Ref sig .tc := ⟨.hbm, 187, rfl⟩
abbrev main_v45 : Ref sig .tc := ⟨.hbm, 188, rfl⟩
abbrev main_v46 : Ref sig .tc := ⟨.hbm, 189, rfl⟩
abbrev main_v47 : Ref sig .tc := ⟨.hbm, 190, rfl⟩
abbrev main_v48 : Ref sig .tc := ⟨.hbm, 191, rfl⟩
abbrev main_v49 : Ref sig .tc := ⟨.hbm, 192, rfl⟩
abbrev main_v50 : Ref sig .tc := ⟨.hbm, 193, rfl⟩
abbrev main_c_9 : Ref sig .tc := ⟨.hbm, 194, rfl⟩
abbrev main_v51 : Ref sig .tc := ⟨.hbm, 195, rfl⟩
abbrev main_v52 : Ref sig .tc := ⟨.hbm, 196, rfl⟩
abbrev main_c_10 : Ref sig .tc := ⟨.hbm, 197, rfl⟩
abbrev main_v53 : Ref sig .tc := ⟨.hbm, 198, rfl⟩
abbrev main_v54 : Ref sig .tc := ⟨.hbm, 199, rfl⟩
abbrev main_v55 : Ref sig .tc := ⟨.hbm, 200, rfl⟩
abbrev main_v56 : Ref sig .tc := ⟨.hbm, 201, rfl⟩
abbrev main_v57 : Ref sig .tc := ⟨.hbm, 202, rfl⟩
abbrev main_v58 : Ref sig .tc := ⟨.hbm, 203, rfl⟩
abbrev main_c_11 : Ref sig .tc := ⟨.hbm, 204, rfl⟩
abbrev main_v59 : Ref sig .tc := ⟨.hbm, 205, rfl⟩
abbrev main_v60 : Ref sig .tc := ⟨.hbm, 206, rfl⟩
abbrev main_c_12 : Ref sig .tc := ⟨.hbm, 207, rfl⟩
abbrev main_v61 : Ref sig .tc := ⟨.hbm, 208, rfl⟩
abbrev main_v62 : Ref sig .tc := ⟨.hbm, 209, rfl⟩
abbrev main_v63 : Ref sig .tc := ⟨.hbm, 210, rfl⟩
abbrev main_v64 : Ref sig .tc := ⟨.hbm, 211, rfl⟩
abbrev main_v65 : Ref sig .tc := ⟨.hbm, 212, rfl⟩
abbrev main_v66 : Ref sig .tc := ⟨.hbm, 213, rfl⟩
abbrev main_c_13 : Ref sig .tc := ⟨.hbm, 214, rfl⟩
abbrev main_v67 : Ref sig .tc := ⟨.hbm, 215, rfl⟩
abbrev main_v68 : Ref sig .tc := ⟨.hbm, 216, rfl⟩
abbrev main_c_14 : Ref sig .tc := ⟨.hbm, 217, rfl⟩
abbrev main_v69 : Ref sig .tc := ⟨.hbm, 218, rfl⟩
abbrev main_v70 : Ref sig .tc := ⟨.hbm, 219, rfl⟩
abbrev main_v71 : Ref sig .tc := ⟨.hbm, 220, rfl⟩
abbrev main_v72 : Ref sig .tc := ⟨.hbm, 221, rfl⟩
abbrev main_v73 : Ref sig .tc := ⟨.hbm, 222, rfl⟩
abbrev main_v74 : Ref sig .tc := ⟨.hbm, 223, rfl⟩
abbrev main_v75 : Ref sig .tc := ⟨.hbm, 224, rfl⟩
abbrev main_v76 : Ref sig .tc := ⟨.hbm, 225, rfl⟩
abbrev main_v77 : Ref sig .tc := ⟨.hbm, 226, rfl⟩
abbrev main_v78 : Ref sig .tc := ⟨.hbm, 227, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc1_stg0_0 : Ref sig .tc := ⟨.vmem, 22, rfl⟩
abbrev cc1_stg1_0 : Ref sig .tc := ⟨.vmem, 23, rfl⟩
abbrev cc1_stg2_0 : Ref sig .tc := ⟨.vmem, 24, rfl⟩
abbrev cc1_stg3_0 : Ref sig .tc := ⟨.vmem, 25, rfl⟩
abbrev cc1_stg4_0 : Ref sig .tc := ⟨.vmem, 26, rfl⟩
abbrev cc1_stg5_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc1_sem0_0 : DmaSem sig := 22
abbrev cc1_sem1_0 : DmaSem sig := 23
abbrev cc1_sem2_0 : DmaSem sig := 24
abbrev cc1_sem3_0 : DmaSem sig := 25
abbrev cc1_sem4_0 : DmaSem sig := 26
abbrev cc1_sem5_0 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x81 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x81 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x81 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x81 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x81 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1000x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1000x81 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1000x81 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1000x81 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1000x81 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1000x81 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![1], ![false]⟩

@[reducible] def k1_t1_loop : Scf.Loop 32 :=
  let c0_i32 : BitVec 32 := 0#32
  let c512_i32 : BitVec 32 := 512#32
  let v15 : BitVec 32 := Scalar.addi c0_i32 c512_i32
  let c1_i32 : BitVec 32 := 1#32
  ⟨c0_i32, v15, c1_i32⟩
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S80x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S80x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S80x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S80x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S80x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S80x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]
-- ==== ReferenceIdeal.lean ====
abbrev S20000x81 : Shape := ⟨2, ![20000, 81]⟩
abbrev S20000x324 : Shape := ⟨2, ![20000, 324]⟩
abbrev S20000x4 : Shape := ⟨2, ![20000, 4]⟩
abbrev S_ : Shape := ⟨0, ![]⟩
abbrev S20000 : Shape := ⟨1, ![20000]⟩
abbrev S20000x1 : Shape := ⟨2, ![20000, 1]⟩
abbrev S20000x81x4 : Shape := ⟨3, ![20000, 81, 4]⟩
abbrev S20000x81x1 : Shape := ⟨3, ![20000, 81, 1]⟩
abbrev S20000x80 : Shape := ⟨2, ![20000, 80]⟩
abbrev S80x20000 : Shape := ⟨2, ![80, 20000]⟩
abbrev S20000x80x4 : Shape := ⟨3, ![20000, 80, 4]⟩
abbrev S80x20000x4 : Shape := ⟨3, ![80, 20000, 4]⟩
abbrev S80x512 : Shape := ⟨2, ![80, 512]⟩
abbrev S80x512x1 : Shape := ⟨3, ![80, 512, 1]⟩
abbrev S1 : Shape := ⟨1, ![1]⟩
abbrev S1x1x1 : Shape := ⟨3, ![1, 1, 1]⟩
abbrev S80x512x4 : Shape := ⟨3, ![80, 512, 4]⟩
abbrev S80x512x2 : Shape := ⟨3, ![80, 512, 2]⟩
abbrev S80x512x1x2 : Shape := ⟨4, ![80, 512, 1, 2]⟩
abbrev S80x1x512x2 : Shape := ⟨4, ![80, 1, 512, 2]⟩
abbrev S80x512x512x2 : Shape := ⟨4, ![80, 512, 512, 2]⟩
abbrev S80x512x512x1 : Shape := ⟨4, ![80, 512, 512, 1]⟩
abbrev S80x512x512 : Shape := ⟨3, ![80, 512, 512]⟩
abbrev S80x1x512 : Shape := ⟨3, ![80, 1, 512]⟩
abbrev S512 : Shape := ⟨1, ![512]⟩
abbrev S80x1 : Shape := ⟨2, ![80, 1]⟩
abbrev S1x512 : Shape := ⟨2, ![1, 512]⟩
abbrev S40960x4 : Shape := ⟨2, ![40960, 4]⟩
abbrev S40960 : Shape := ⟨1, ![40960]⟩
abbrev S100 : Shape := ⟨1, ![100]⟩
abbrev S100x1 : Shape := ⟨2, ![100, 1]⟩
abbrev S100x4 : Shape := ⟨2, ![100, 4]⟩

abbrev nBuf : Space → Nat
  | .hbm => 322
  | .vmem => 0
  | .smem => 0
  | _ => 0

abbrev hbmTy0_0 (i : Nat) : BufTy := match i % 128 with
  | 0 => ⟨S20000x81, .f32⟩
  | 1 => ⟨S20000x324, .f32⟩
  | 2 => ⟨S20000x4, .f32⟩
  | 3 => ⟨S_, .f32⟩
  | 4 => ⟨S20000, .f32⟩
  | 5 => ⟨S_, .f32⟩
  | 6 => ⟨S20000, .f32⟩
  | 7 => ⟨S20000, .f32⟩
  | 8 => ⟨S20000x1, .f32⟩
  | 9 => ⟨S20000x81, .f32⟩
  | 10 => ⟨S20000x81, .f32⟩
  | 11 => ⟨S20000x81, .f32⟩
  | 12 => ⟨S_, .f32⟩
  | 13 => ⟨S20000, .f32⟩
  | 14 => ⟨S20000x1, .f32⟩
  | 15 => ⟨S20000x81, .f32⟩
  | 16 => ⟨S20000x81, .f32⟩
  | 17 => ⟨S20000x1, .f32⟩
  | 18 => ⟨S20000, .f32⟩
  | 19 => ⟨S20000x1, .f32⟩
  | 20 => ⟨S20000, .f32⟩
  | 21 => ⟨S20000, .f32⟩
  | 22 => ⟨S20000x1, .f32⟩
  | 23 => ⟨S20000, .f32⟩
  | 24 => ⟨S20000x1, .f32⟩
  | 25 => ⟨S20000, .f32⟩
  | 26 => ⟨S20000, .f32⟩
  | 27 => ⟨S20000x1, .f32⟩
  | 28 => ⟨S20000, .f32⟩
  | 29 => ⟨S_, .f32⟩
  | 30 => ⟨S20000, .f32⟩
  | 31 => ⟨S20000, .f32⟩
  | 32 => ⟨S20000, .f32⟩
  | 33 => ⟨S20000x1, .f32⟩
  | 34 => ⟨S20000, .f32⟩
  | 35 => ⟨S_, .f32⟩
  | 36 => ⟨S20000, .f32⟩
  | 37 => ⟨S20000, .f32⟩
  | 38 => ⟨S20000, .f32⟩
  | 39 => ⟨S20000x81x4, .f32⟩
  | 40 => ⟨S20000x81x1, .f32⟩
  | 41 => ⟨S20000x81, .f32⟩
  | 42 => ⟨S_, .f32⟩
  | 43 => ⟨S20000x81, .f32⟩
  | 44 => ⟨S20000x81, .f32⟩
  | 45 => ⟨S20000x81x1, .f32⟩
  | 46 => ⟨S20000x81, .f32⟩
  | 47 => ⟨S_, .f32⟩
  | 48 => ⟨S20000x81, .f32⟩
  | 49 => ⟨S20000x81, .f32⟩
  | 50 => ⟨S20000x81x1, .f32⟩
  | 51 => ⟨S20000x81, .f32⟩
  | 52 => ⟨S_, .f32⟩
  | 53 => ⟨S20000x81, .f32⟩
  | 54 => ⟨S20000x81, .f32⟩
  | 55 => ⟨S_, .f32⟩
  | 56 => ⟨S20000x81, .f32⟩
  | 57 => ⟨S20000x81, .f32⟩
  | 58 => ⟨S20000x81x1, .f32⟩
  | 59 => ⟨S20000x81, .f32⟩
  | 60 => ⟨S_, .f32⟩
  | 61 => ⟨S20000x81, .f32⟩
  | 62 => ⟨S20000x81, .f32⟩
  | 63 => ⟨S_, .f32⟩
  | 64 => ⟨S20000x81, .f32⟩
  | 65 => ⟨S20000x81, .f32⟩
  | 66 => ⟨S20000x1, .f32⟩
  | 67 => ⟨S20000x81, .f32⟩
  | 68 => ⟨S20000x81, .f32⟩
  | 69 => ⟨S20000x1, .f32⟩
  | 70 => ⟨S20000x81, .f32⟩
  | 71 => ⟨S20000x81, .f32⟩
  | 72 => ⟨S20000x1, .f32⟩
  | 73 => ⟨S20000x81, .f32⟩
  | 74 => ⟨S20000x81, .f32⟩
  | 75 => ⟨S20000x1, .f32⟩
  | 76 => ⟨S20000x81, .f32⟩
  | 77 => ⟨S20000x81, .f32⟩
  | 78 => ⟨S20000x81, .f32⟩
  | 79 => ⟨S20000x1, .f32⟩
  | 80 => ⟨S20000x81, .f32⟩
  | 81 => ⟨S20000x81, .f32⟩
  | 82 => ⟨S20000x81, .f32⟩
  | 83 => ⟨S20000x1, .f32⟩
  | 84 => ⟨S20000x81, .f32⟩
  | 85 => ⟨S20000x81, .f32⟩
  | 86 => ⟨S_, .f32⟩
  | 87 => ⟨S20000x81, .f32⟩
  | 88 => ⟨S20000x81, .f32⟩
  | 89 => ⟨S20000x81, .f32⟩
  | 90 => ⟨S_, .f32⟩
  | 91 => ⟨S20000x81, .f32⟩
  | 92 => ⟨S20000x81, .f32⟩
  | 93 => ⟨S20000x81, .f32⟩
  | 94 => ⟨S_, .f32⟩
  | 95 => ⟨S20000x81, .f32⟩
  | 96 => ⟨S20000x81, .f32⟩
  | 97 => ⟨S20000x81, .f32⟩
  | 98 => ⟨S_, .f32⟩
  | 99 => ⟨S20000x81, .f32⟩
  | 100 => ⟨S20000x81, .f32⟩
  | 101 => ⟨S20000x81, .f32⟩
  | 102 => ⟨S20000x81x1, .f32⟩
  | 103 => ⟨S20000x81x1, .f32⟩
  | 104 => ⟨S20000x81x1, .f32⟩
  | 105 => ⟨S20000x81x1, .f32⟩
  | 106 => ⟨S20000x81x4, .f32⟩
  | 107 => ⟨S20000x81x1, .f32⟩
  | 108 => ⟨S20000x81, .f32⟩
  | 109 => ⟨S_, .f32⟩
  | 110 => ⟨S_, .f32⟩
  | 111 => ⟨S_, .f32⟩
  | 112 => ⟨S20000x81, .f32⟩
  | 113 => ⟨S20000x81, .f32⟩
  | 114 => ⟨S_, .f32⟩
  | 115 => ⟨S20000x81, .f32⟩
  | 116 => ⟨S20000x81, .f32⟩
  | 117 => ⟨S20000x81x1, .f32⟩
  | 118 => ⟨S20000x81, .f32⟩
  | 119 => ⟨S_, .f32⟩
  | 120 => ⟨S_, .f32⟩
  | 121 => ⟨S_, .f32⟩
  | 122 => ⟨S20000x81, .f32⟩
  | 123 => ⟨S20000x81, .f32⟩
  | 124 => ⟨S_, .f32⟩
  | 125 => ⟨S20000x81, .f32⟩
  | 126 => ⟨S20000x81, .f32⟩
  | 127 => ⟨S20000x81x1, .f32⟩
  | _ => ⟨S20000x81, .f32⟩

abbrev hbmTy0_1 (i : Nat) : BufTy := match i % 128 with
  | 0 => ⟨S20000x81, .f32⟩
  | 1 => ⟨S_, .f32⟩
  | 2 => ⟨S_, .f32⟩
  | 3 => ⟨S_, .f32⟩
  | 4 => ⟨S20000x81, .f32⟩
  | 5 => ⟨S20000x81, .f32⟩
  | 6 => ⟨S_, .f32⟩
  | 7 => ⟨S20000x81, .f32⟩
  | 8 => ⟨S20000x81, .f32⟩
  | 9 => ⟨S20000x81x1, .f32⟩
  | 10 => ⟨S20000x81, .f32⟩
  | 11 => ⟨S_, .f32⟩
  | 12 => ⟨S_, .f32⟩
  | 13 => ⟨S_, .f32⟩
  | 14 => ⟨S20000x81, .f32⟩
  | 15 => ⟨S20000x81, .f32⟩
  | 16 => ⟨S_, .f32⟩
  | 17 => ⟨S20000x81, .f32⟩
  | 18 => ⟨S20000x81, .f32⟩
  | 19 => ⟨S20000x81x1, .f32⟩
  | 20 => ⟨S20000x81x1, .f32⟩
  | 21 => ⟨S20000x81x1, .f32⟩
  | 22 => ⟨S20000x81x1, .f32⟩
  | 23 => ⟨S20000x81x4, .f32⟩
  | 24 => ⟨S20000x80, .f32⟩
  | 25 => ⟨S80x20000, .f32⟩
  | 26 => ⟨S20000x80x4, .f32⟩
  | 27 => ⟨S80x20000x4, .f32⟩
  | 28 => ⟨S_, .f32⟩
  | 29 => ⟨S80x20000, .f32⟩
  | 30 => ⟨S80x20000, .i1⟩
  | 31 => ⟨S_, .f32⟩
  | 32 => ⟨S_, .f32⟩
  | 33 => ⟨S80x20000, .f32⟩
  | 34 => ⟨S80x20000, .f32⟩
  | 35 => ⟨S80x512, .f32⟩
  | 36 => ⟨S80x512, .i32⟩
  | 37 => ⟨S80x512x1, .i32⟩
  | 38 => ⟨S_, .i32⟩
  | 39 => ⟨S80x512x1, .i32⟩
  | 40 => ⟨S80x512x1, .i1⟩
  | 41 => ⟨S_, .i32⟩
  | 42 => ⟨S80x512x1, .i32⟩
  | 43 => ⟨S80x512x1, .i32⟩
  | 44 => ⟨S80x512x1, .i32⟩
  | 45 => ⟨S1, .i32⟩
  | 46 => ⟨S_, .i32⟩
  | 47 => ⟨S80x512x1, .i32⟩
  | 48 => ⟨S80x512x1, .i1⟩
  | 49 => ⟨S1x1x1, .i32⟩
  | 50 => ⟨S80x512x1, .i32⟩
  | 51 => ⟨S80x512x1, .i1⟩
  | 52 => ⟨S80x512x1, .i1⟩
  | 53 => ⟨S_, .i1⟩
  | 54 => ⟨S80x512, .i1⟩
  | 55 => ⟨S80x512x4, .f32⟩
  | 56 => ⟨S80x512x4, .i1⟩
  | 57 => ⟨S_, .f32⟩
  | 58 => ⟨S80x512x4, .f32⟩
  | 59 => ⟨S80x512x4, .f32⟩
  | 60 => ⟨S80x512x1, .f32⟩
  | 61 => ⟨S80x512, .f32⟩
  | 62 => ⟨S80x512x1, .f32⟩
  | 63 => ⟨S80x512, .f32⟩
  | 64 => ⟨S80x512, .f32⟩
  | 65 => ⟨S80x512x1, .f32⟩
  | 66 => ⟨S80x512, .f32⟩
  | 67 => ⟨S80x512x1, .f32⟩
  | 68 => ⟨S80x512, .f32⟩
  | 69 => ⟨S80x512, .f32⟩
  | 70 => ⟨S80x512, .f32⟩
  | 71 => ⟨S80x512x2, .f32⟩
  | 72 => ⟨S80x512x1x2, .f32⟩
  | 73 => ⟨S80x512x2, .f32⟩
  | 74 => ⟨S80x1x512x2, .f32⟩
  | 75 => ⟨S80x512x512x2, .f32⟩
  | 76 => ⟨S80x512x512x2, .f32⟩
  | 77 => ⟨S80x512x512x2, .f32⟩
  | 78 => ⟨S80x512x2, .f32⟩
  | 79 => ⟨S80x512x1x2, .f32⟩
  | 80 => ⟨S80x512x2, .f32⟩
  | 81 => ⟨S80x1x512x2, .f32⟩
  | 82 => ⟨S80x512x512x2, .f32⟩
  | 83 => ⟨S80x512x512x2, .f32⟩
  | 84 => ⟨S80x512x512x2, .f32⟩
  | 85 => ⟨S80x512x512x2, .f32⟩
  | 86 => ⟨S_, .f32⟩
  | 87 => ⟨S_, .f32⟩
  | 88 => ⟨S80x512x512x2, .f32⟩
  | 89 => ⟨S80x512x512x2, .f32⟩
  | 90 => ⟨S80x512x512x1, .f32⟩
  | 91 => ⟨S80x512x512, .f32⟩
  | 92 => ⟨S80x512x512x1, .f32⟩
  | 93 => ⟨S80x512x512, .f32⟩
  | 94 => ⟨S80x512x512, .f32⟩
  | 95 => ⟨S80x512x1, .f32⟩
  | 96 => ⟨S80x1x512, .f32⟩
  | 97 => ⟨S80x512x512, .f32⟩
  | 98 => ⟨S80x512x512, .f32⟩
  | 99 => ⟨S80x512x512, .f32⟩
  | 100 => ⟨S80x512x512, .f32⟩
  | 101 => ⟨S_, .f32⟩
  | 102 => ⟨S80x512x512, .f32⟩
  | 103 => ⟨S80x512x512, .f32⟩
  | 104 => ⟨S80x512x512, .f32⟩
  | 105 => ⟨S512, .i32⟩
  | 106 => ⟨S_, .i1⟩
  | 107 => ⟨S80x512, .i1⟩
  | 108 => ⟨S_, .i32⟩
  | 109 => ⟨S_, .i32⟩
  | 110 => ⟨S80x512x512, .f32⟩
  | 111 => ⟨S512, .i32⟩
  | 112 => ⟨S_, .i32⟩
  | 113 => ⟨S_, .i32⟩
  | 114 => ⟨S80x512, .i1⟩
  | 115 => ⟨S_, .i32⟩
  | 116 => ⟨S_, .i1⟩
  | 117 => ⟨S_, .i32⟩
  | 118 => ⟨S_, .i32⟩
  | 119 => ⟨S_, .i32⟩
  | 120 => ⟨S_, .i1⟩
  | 121 => ⟨S_, .i32⟩
  | 122 => ⟨S_, .i32⟩
  | 123 => ⟨S_, .i32⟩
  | 124 => ⟨S_, .i32⟩
  | 125 => ⟨S_, .i32⟩
  | 126 => ⟨S_, .i32⟩
  | 127 => ⟨S80x1x512, .f32⟩
  | _ => ⟨S20000x81, .f32⟩

abbrev hbmTy0_2 (i : Nat) : BufTy := match i % 128 with
  | 0 => ⟨S80x512, .f32⟩
  | 1 => ⟨S_, .i32⟩
  | 2 => ⟨S_, .i1⟩
  | 3 => ⟨S_, .i32⟩
  | 4 => ⟨S_, .i32⟩
  | 5 => ⟨S_, .i32⟩
  | 6 => ⟨S_, .i32⟩
  | 7 => ⟨S_, .i32⟩
  | 8 => ⟨S80x1, .i1⟩
  | 9 => ⟨S_, .f32⟩
  | 10 => ⟨S80x512, .f32⟩
  | 11 => ⟨S80x512, .i1⟩
  | 12 => ⟨S_, .i32⟩
  | 13 => ⟨S512, .i32⟩
  | 14 => ⟨S512, .i1⟩
  | 15 => ⟨S1x512, .i1⟩
  | 16 => ⟨S80x512, .i1⟩
  | 17 => ⟨S80x512, .i1⟩
  | 18 => ⟨S80x512, .i1⟩
  | 19 => ⟨S80x512, .i1⟩
  | 20 => ⟨S80x512, .i1⟩
  | 21 => ⟨S80x512, .i1⟩
  | 22 => ⟨S_, .i32⟩
  | 23 => ⟨S_, .i32⟩
  | 24 => ⟨S_, .f32⟩
  | 25 => ⟨S80x512, .f32⟩
  | 26 => ⟨S80x512, .i1⟩
  | 27 => ⟨S80x512, .i1⟩
  | 28 => ⟨S_, .f32⟩
  | 29 => ⟨S_, .f32⟩
  | 30 => ⟨S80x512, .f32⟩
  | 31 => ⟨S80x512, .f32⟩
  | 32 => ⟨S40960x4, .f32⟩
  | 33 => ⟨S40960, .f32⟩
  | 34 => ⟨S100, .f32⟩
  | 35 => ⟨S100, .i32⟩
  | 36 => ⟨S_, .i32⟩
  | 37 => ⟨S100, .i32⟩
  | 38 => ⟨S100, .i1⟩
  | 39 => ⟨S_, .i32⟩
  | 40 => ⟨S100, .i32⟩
  | 41 => ⟨S100, .i32⟩
  | 42 => ⟨S100, .i32⟩
  | 43 => ⟨S100x1, .i32⟩
  | 44 => ⟨S100x4, .f32⟩
  | 45 => ⟨S_, .i32⟩
  | 46 => ⟨S_, .i32⟩
  | 47 => ⟨S100, .i32⟩
  | 48 => ⟨S100, .i32⟩
  | 49 => ⟨S100, .i32⟩
  | 50 => ⟨S_, .i32⟩
  | 51 => ⟨S100, .i32⟩
  | 52 => ⟨S100, .i1⟩
  | 53 => ⟨S100, .i32⟩
  | 54 => ⟨S100, .i32⟩
  | 55 => ⟨S_, .i32⟩
  | 56 => ⟨S100, .i32⟩
  | 57 => ⟨S100, .i1⟩
  | 58 => ⟨S100, .i1⟩
  | 59 => ⟨S_, .i32⟩
  | 60 => ⟨S100, .i32⟩
  | 61 => ⟨S100, .i32⟩
  | 62 => ⟨S100, .i32⟩
  | 63 => ⟨S_, .i32⟩
  | 64 => ⟨S100, .i32⟩
  | 65 => ⟨S100, .i32⟩
  | _ => ⟨S20000x81, .f32⟩

abbrev hbmTy (i : Nat) : BufTy := match i / 128 with
  | 0 => hbmTy0_0 i
  | 1 => hbmTy0_1 i
  | 2 => hbmTy0_2 i
  | _ => ⟨S20000x81, .f32⟩

abbrev bufTy : (tb : Table) → Fin (tcTables nBuf tb) → BufTy
  | .hbm, ⟨i, _⟩ => hbmTy i
  | _, _ => ⟨S20000x81, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_4 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_5 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_6 : Ref sig .tc := ⟨.hbm, 52, rfl⟩
abbrev main_v42 : Ref sig .tc := ⟨.hbm, 53, rfl⟩
abbrev main_v43 : Ref sig .tc := ⟨.hbm, 54, rfl⟩
abbrev main_cst_7 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_8 : Ref sig .tc := ⟨.hbm, 60, rfl⟩
abbrev main_v48 : Ref sig .tc := ⟨.hbm, 61, rfl⟩
abbrev main_v49 : Ref sig .tc := ⟨.hbm, 62, rfl⟩
abbrev main_cst_9 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_cst_10 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_cst_11 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_cst_12 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_cst_13 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_cst_14 : Ref sig .tc := ⟨.hbm, 109, rfl⟩
abbrev main_cst_15 : Ref sig .tc := ⟨.hbm, 110, rfl⟩
abbrev main_call0_v0 : Ref sig .tc := ⟨.hbm, 111, rfl⟩
abbrev main_call0_v1 : Ref sig .tc := ⟨.hbm, 112, rfl⟩
abbrev main_call0_v2 : Ref sig .tc := ⟨.hbm, 113, rfl⟩
abbrev main_call0_v3 : Ref sig .tc := ⟨.hbm, 114, rfl⟩
abbrev main_call0_v4 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_cst_16 : Ref sig .tc := ⟨.hbm, 119, rfl⟩
abbrev main_cst_17 : Ref sig .tc := ⟨.hbm, 120, rfl⟩
abbrev main_call1_v0 : Ref sig .tc := ⟨.hbm, 121, rfl⟩
abbrev main_call1_v1 : Ref sig .tc := ⟨.hbm, 122, rfl⟩
abbrev main_call1_v2 : Ref sig .tc := ⟨.hbm, 123, rfl⟩
abbrev main_call1_v3 : Ref sig .tc := ⟨.hbm, 124, rfl⟩
abbrev main_call1_v4 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_cst_18 : Ref sig .tc := ⟨.hbm, 129, rfl⟩
abbrev main_cst_19 : Ref sig .tc := ⟨.hbm, 130, rfl⟩
abbrev main_call2_v0 : Ref sig .tc := ⟨.hbm, 131, rfl⟩
abbrev main_call2_v1 : Ref sig .tc := ⟨.hbm, 132, rfl⟩
abbrev main_call2_v2 : Ref sig .tc := ⟨.hbm, 133, rfl⟩
abbrev main_call2_v3 : Ref sig .tc := ⟨.hbm, 134, rfl⟩
abbrev main_call2_v4 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_cst_20 : Ref sig .tc := ⟨.hbm, 139, rfl⟩
abbrev main_cst_21 : Ref sig .tc := ⟨.hbm, 140, rfl⟩
abbrev main_call3_v0 : Ref sig .tc := ⟨.hbm, 141, rfl⟩
abbrev main_call3_v1 : Ref sig .tc := ⟨.hbm, 142, rfl⟩
abbrev main_call3_v2 : Ref sig .tc := ⟨.hbm, 143, rfl⟩
abbrev main_call3_v3 : Ref sig .tc := ⟨.hbm, 144, rfl⟩
abbrev main_call3_v4 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_cst_22 : Ref sig .tc := ⟨.hbm, 156, rfl⟩
abbrev main_v110 : Ref sig .tc := ⟨.hbm, 157, rfl⟩
abbrev main_v111 : Ref sig .tc := ⟨.hbm, 158, rfl⟩
abbrev main_cst_23 : Ref sig .tc := ⟨.hbm, 159, rfl⟩
abbrev main_call4_v0 : Ref sig .tc := ⟨.hbm, 160, rfl⟩
abbrev main_call4_v1 : Ref sig .tc := ⟨.hbm, 161, rfl⟩
abbrev main_v112 : Ref sig .tc := ⟨.hbm, 162, rfl⟩
abbrev main_values : Ref sig .tc := ⟨.hbm, 163, rfl⟩
abbrev main_indices : Ref sig .tc := ⟨.hbm, 164, rfl⟩
abbrev main_v113 : Ref sig .tc := ⟨.hbm, 165, rfl⟩
abbrev main_call5_c : Ref sig .tc := ⟨.hbm, 166, rfl⟩
abbrev main_call5_v0 : Ref sig .tc := ⟨.hbm, 167, rfl⟩
abbrev main_call5_v1 : Ref sig .tc := ⟨.hbm, 168, rfl⟩
abbrev main_call5_c_0 : Ref sig .tc := ⟨.hbm, 169, rfl⟩
abbrev main_call5_v2 : Ref sig .tc := ⟨.hbm, 170, rfl⟩
abbrev main_call5_v3 : Ref sig .tc := ⟨.hbm, 171, rfl⟩
abbrev main_call5_v4 : Ref sig .tc := ⟨.hbm, 172, rfl⟩
abbrev main_call5_c_1 : Ref sig .tc := ⟨.hbm, 173, rfl⟩
abbrev main_call5_c_2 : Ref sig .tc := ⟨.hbm, 174, rfl⟩
abbrev main_call5_v5 : Ref sig .tc := ⟨.hbm, 175, rfl⟩
abbrev main_call5_v6 : Ref sig .tc := ⟨.hbm, 176, rfl⟩
abbrev main_call5_v7 : Ref sig .tc := ⟨.hbm, 177, rfl⟩
abbrev main_call5_v8 : Ref sig .tc := ⟨.hbm, 178, rfl⟩
abbrev main_call5_v9 : Ref sig .tc := ⟨.hbm, 179, rfl⟩
abbrev main_call5_v10 : Ref sig .tc := ⟨.hbm, 180, rfl⟩
abbrev main_call5_c_3 : Ref sig .tc := ⟨.hbm, 181, rfl⟩
abbrev main_call5_v11 : Ref sig .tc := ⟨.hbm, 182, rfl⟩
abbrev main_call5_v12 : Ref sig .tc := ⟨.hbm, 183, rfl⟩
abbrev main_call5_v13 : Ref sig .tc := ⟨.hbm, 184, rfl⟩
abbrev main_call5_cst : Ref sig .tc := ⟨.hbm, 185, rfl⟩
abbrev main_call5_v14 : Ref sig .tc := ⟨.hbm, 186, rfl⟩
abbrev main_v114 : Ref sig .tc := ⟨.hbm, 187, rfl⟩
abbrev main_v115 : Ref sig .tc := ⟨.hbm, 188, rfl⟩
abbrev main_v116 : Ref sig .tc := ⟨.hbm, 189, rfl⟩
abbrev main_v117 : Ref sig .tc := ⟨.hbm, 190, rfl⟩
abbrev main_v118 : Ref sig .tc := ⟨.hbm, 191, rfl⟩
abbrev main_v119 : Ref sig .tc := ⟨.hbm, 192, rfl⟩
abbrev main_v120 : Ref sig .tc := ⟨.hbm, 193, rfl⟩
abbrev main_v121 : Ref sig .tc := ⟨.hbm, 194, rfl⟩
abbrev main_v122 : Ref sig .tc := ⟨.hbm, 195, rfl⟩
abbrev main_v123 : Ref sig .tc := ⟨.hbm, 196, rfl⟩
abbrev main_v124 : Ref sig .tc := ⟨.hbm, 197, rfl⟩
abbrev main_v125 : Ref sig .tc := ⟨.hbm, 198, rfl⟩
abbrev main_v126 : Ref sig .tc := ⟨.hbm, 199, rfl⟩
abbrev main_v127 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_v134 : Ref sig .tc := ⟨.hbm, 207, rfl⟩
abbrev main_v135 : Ref sig .tc := ⟨.hbm, 208, rfl⟩
abbrev main_v136 : Ref sig .tc := ⟨.hbm, 209, rfl⟩
abbrev main_v137 : Ref sig .tc := ⟨.hbm, 210, rfl⟩
abbrev main_v138 : Ref sig .tc := ⟨.hbm, 211, rfl⟩
abbrev main_v139 : Ref sig .tc := ⟨.hbm, 212, rfl⟩
abbrev main_v140 : Ref sig .tc := ⟨.hbm, 213, rfl⟩
abbrev main_cst_24 : Ref sig .tc := ⟨.hbm, 214, rfl⟩
abbrev main_call6_v0 : Ref sig .tc := ⟨.hbm, 215, rfl⟩
abbrev main_call6_v1 : Ref sig .tc := ⟨.hbm, 216, rfl⟩
abbrev main_v141 : Ref sig .tc := ⟨.hbm, 217, rfl⟩
abbrev main_v142 : Ref sig .tc := ⟨.hbm, 218, rfl⟩
abbrev main_v143 : Ref sig .tc := ⟨.hbm, 219, rfl⟩
abbrev main_v144 : Ref sig .tc := ⟨.hbm, 220, rfl⟩
abbrev main_v145 : Ref sig .tc := ⟨.hbm, 221, rfl⟩
abbrev main_v146 : Ref sig .tc := ⟨.hbm, 222, rfl⟩
abbrev main_v147 : Ref sig .tc := ⟨.hbm, 223, rfl⟩
abbrev main_v148 : Ref sig .tc := ⟨.hbm, 224, rfl⟩
abbrev main_v149 : Ref sig .tc := ⟨.hbm, 225, rfl⟩
abbrev main_v150 : Ref sig .tc := ⟨.hbm, 226, rfl⟩
abbrev main_v151 : Ref sig .tc := ⟨.hbm, 227, rfl⟩
abbrev main_v152 : Ref sig .tc := ⟨.hbm, 228, rfl⟩
abbrev main_cst_25 : Ref sig .tc := ⟨.hbm, 229, rfl⟩
abbrev main_v153 : Ref sig .tc := ⟨.hbm, 230, rfl⟩
abbrev main_v154 : Ref sig .tc := ⟨.hbm, 231, rfl⟩
abbrev main_v155 : Ref sig .tc := ⟨.hbm, 232, rfl⟩
abbrev main_v156 : Ref sig .tc := ⟨.hbm, 233, rfl⟩
abbrev main_c : Ref sig .tc := ⟨.hbm, 234, rfl⟩
abbrev main_v157 : Ref sig .tc := ⟨.hbm, 235, rfl⟩
abbrev main_c_26 : Ref sig .tc := ⟨.hbm, 236, rfl⟩
abbrev main_c_27 : Ref sig .tc := ⟨.hbm, 237, rfl⟩
abbrev main_v158_0 : Ref sig .tc := ⟨.hbm, 238, rfl⟩
abbrev main_v158_1 : Ref sig .tc := ⟨.hbm, 239, rfl⟩
abbrev main_v158_2 : Ref sig .tc := ⟨.hbm, 240, rfl⟩
abbrev main_v158_3 : Ref sig .tc := ⟨.hbm, 241, rfl⟩
abbrev main_v158_4 : Ref sig .tc := ⟨.hbm, 242, rfl⟩
abbrev main_while0c_c_40 : Ref sig .tc := ⟨.hbm, 243, rfl⟩
abbrev main_while0c_v175 : Ref sig .tc := ⟨.hbm, 244, rfl⟩
abbrev main_while0b_c_40 : Ref sig .tc := ⟨.hbm, 245, rfl⟩
abbrev main_while0b_v175 : Ref sig .tc := ⟨.hbm, 246, rfl⟩
abbrev main_while0b_c_41 : Ref sig .tc := ⟨.hbm, 247, rfl⟩
abbrev main_while0b_v176 : Ref sig .tc := ⟨.hbm, 248, rfl⟩
abbrev main_while0b_v177 : Ref sig .tc := ⟨.hbm, 249, rfl⟩
abbrev main_while0b_c_42 : Ref sig .tc := ⟨.hbm, 250, rfl⟩
abbrev main_while0b_v178 : Ref sig .tc := ⟨.hbm, 251, rfl⟩
abbrev main_while0b_v179 : Ref sig .tc := ⟨.hbm, 252, rfl⟩
abbrev main_while0b_c_43 : Ref sig .tc := ⟨.hbm, 253, rfl⟩
abbrev main_while0b_c_44 : Ref sig .tc := ⟨.hbm, 254, rfl⟩
abbrev main_while0b_v180 : Ref sig .tc := ⟨.hbm, 255, rfl⟩
abbrev main_while0b_v181 : Ref sig .tc := ⟨.hbm, 256, rfl⟩
abbrev main_while0b_c_45 : Ref sig .tc := ⟨.hbm, 257, rfl⟩
abbrev main_while0b_v182 : Ref sig .tc := ⟨.hbm, 258, rfl⟩
abbrev main_while0b_v183 : Ref sig .tc := ⟨.hbm, 259, rfl⟩
abbrev main_while0b_c_46 : Ref sig .tc := ⟨.hbm, 260, rfl⟩
abbrev main_while0b_v184 : Ref sig .tc := ⟨.hbm, 261, rfl⟩
abbrev main_while0b_v185 : Ref sig .tc := ⟨.hbm, 262, rfl⟩
abbrev main_while0b_c_47 : Ref sig .tc := ⟨.hbm, 263, rfl⟩
abbrev main_while0b_v186 : Ref sig .tc := ⟨.hbm, 264, rfl⟩
abbrev main_while0b_cst_48 : Ref sig .tc := ⟨.hbm, 265, rfl⟩
abbrev main_while0b_v187 : Ref sig .tc := ⟨.hbm, 266, rfl⟩
abbrev main_while0b_v188 : Ref sig .tc := ⟨.hbm, 267, rfl⟩
abbrev main_while0b_v189 : Ref sig .tc := ⟨.hbm, 268, rfl⟩
abbrev main_while0b_v190 : Ref sig .tc := ⟨.hbm, 269, rfl⟩
abbrev main_while0b_v191 : Ref sig .tc := ⟨.hbm, 270, rfl⟩
abbrev main_while0b_v192 : Ref sig .tc := ⟨.hbm, 271, rfl⟩
abbrev main_while0b_v193 : Ref sig .tc := ⟨.hbm, 272, rfl⟩
abbrev main_while0b_v194 : Ref sig .tc := ⟨.hbm, 273, rfl⟩
abbrev main_while0b_v195 : Ref sig .tc := ⟨.hbm, 274, rfl⟩
abbrev main_while0b_v196 : Ref sig .tc := ⟨.hbm, 275, rfl⟩
abbrev main_while0b_call7_v0 : Ref sig .tc := ⟨.hbm, 276, rfl⟩
abbrev main_while0b_v197 : Ref sig .tc := ⟨.hbm, 277, rfl⟩
abbrev main_while0b_c_49 : Ref sig .tc := ⟨.hbm, 278, rfl⟩
abbrev main_while0b_v198 : Ref sig .tc := ⟨.hbm, 279, rfl⟩
abbrev main_cst_28 : Ref sig .tc := ⟨.hbm, 280, rfl⟩
abbrev main_v159 : Ref sig .tc := ⟨.hbm, 281, rfl⟩
abbrev main_v160 : Ref sig .tc := ⟨.hbm, 282, rfl⟩
abbrev main_v161 : Ref sig .tc := ⟨.hbm, 283, rfl⟩
abbrev main_cst_29 : Ref sig .tc := ⟨.hbm, 284, rfl⟩
abbrev main_call8_v0 : Ref sig .tc := ⟨.hbm, 285, rfl⟩
abbrev main_call8_v1 : Ref sig .tc := ⟨.hbm, 286, rfl⟩
abbrev main_v162 : Ref sig .tc := ⟨.hbm, 287, rfl⟩
abbrev main_v163 : Ref sig .tc := ⟨.hbm, 288, rfl⟩
abbrev main_v164 : Ref sig .tc := ⟨.hbm, 289, rfl⟩
abbrev main_values_30 : Ref sig .tc := ⟨.hbm, 290, rfl⟩
abbrev main_indices_31 : Ref sig .tc := ⟨.hbm, 291, rfl⟩
abbrev main_c_32 : Ref sig .tc := ⟨.hbm, 292, rfl⟩
abbrev main_v165 : Ref sig .tc := ⟨.hbm, 293, rfl⟩
abbrev main_v166 : Ref sig .tc := ⟨.hbm, 294, rfl⟩
abbrev main_c_33 : Ref sig .tc := ⟨.hbm, 295, rfl⟩
abbrev main_v167 : Ref sig .tc := ⟨.hbm, 296, rfl⟩
abbrev main_v168 : Ref sig .tc := ⟨.hbm, 297, rfl⟩
abbrev main_v169 : Ref sig .tc := ⟨.hbm, 298, rfl⟩
abbrev main_v170 : Ref sig .tc := ⟨.hbm, 299, rfl⟩
abbrev main_v171 : Ref sig .tc := ⟨.hbm, 300, rfl⟩
abbrev main_c_34 : Ref sig .tc := ⟨.hbm, 301, rfl⟩
abbrev main_call9_v0 : Ref sig .tc := ⟨.hbm, 302, rfl⟩
abbrev main_call9_v1 : Ref sig .tc := ⟨.hbm, 303, rfl⟩
abbrev main_call9_v2 : Ref sig .tc := ⟨.hbm, 304, rfl⟩
abbrev main_call9_v3 : Ref sig .tc := ⟨.hbm, 305, rfl⟩
abbrev main_call9_v4 : Ref sig .tc := ⟨.hbm, 306, rfl⟩
abbrev main_call9_v5 : Ref sig .tc := ⟨.hbm, 307, rfl⟩
abbrev main_call9_v6 : Ref sig .tc := ⟨.hbm, 308, rfl⟩
abbrev main_call9_v7 : Ref sig .tc := ⟨.hbm, 309, rfl⟩
abbrev main_call9_v8 : Ref sig .tc := ⟨.hbm, 310, rfl⟩
abbrev main_call9_c : Ref sig .tc := ⟨.hbm, 311, rfl⟩
abbrev main_call9_v9 : Ref sig .tc := ⟨.hbm, 312, rfl⟩
abbrev main_call9_v10 : Ref sig .tc := ⟨.hbm, 313, rfl⟩
abbrev main_call9_v11 : Ref sig .tc := ⟨.hbm, 314, rfl⟩
abbrev main_call9_c_0 : Ref sig .tc := ⟨.hbm, 315, rfl⟩
abbrev main_call9_v12 : Ref sig .tc := ⟨.hbm, 316, rfl⟩
abbrev main_call9_v13 : Ref sig .tc := ⟨.hbm, 317, rfl⟩
abbrev main_v172 : Ref sig .tc := ⟨.hbm, 318, rfl⟩
abbrev main_c_35 : Ref sig .tc := ⟨.hbm, 319, rfl⟩
abbrev main_v173 : Ref sig .tc := ⟨.hbm, 320, rfl⟩
abbrev main_v174 : Ref sig .tc := ⟨.hbm, 321, rfl⟩

abbrev nD : Nat := 1
abbrev τ : Topo := Topo.v7x

variable {F : FTy → Type} [FloatOps F]

abbrev main_while0_count : Scf.Loop 32 := ⟨0#32, 512#32, 1#32⟩
-- ==== Proof.KernelIdealBody.lean ====
/- The two kernel bodies of `KernelIdeal`: what each leaves in its staging buffers, and the obligations of the two pipelines. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0__decode_softmax_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- A whole block of region 0, as a rectangle. -/
abbrev r0_0 : Rect S1000x81 := Rect.unit (s := S1000x81) ![0, 0] S1000x81.size inb_S1000x81_S1000x81_0_0
/-- A whole block of region 0, as a rectangle. -/
abbrev r0_1 : Rect S1000x4 := Rect.unit (s := S1000x4) ![0, 0] S1000x4.size inb_S1000x4_S1000x4_0_0

/-! ## What the body leaves in each output window's buffer -/

/-! ### Values of the body that the stores' payloads, spelt out, would write more than once

    Each is a vector the body binds (often a part call's result), stated over the input windows' blocks and
    numbered on from the skeleton's payload functions (`k0_pay18` …, after `k0_pay17`), so that
    `out0_W` and the values after it name it instead of spelling it out (`unfold_out out0_W` opens a canon
    with them, `unfold_payloads` opens them with the payloads); the comment after each is the printed function's
    name for the value (a count appended where that name is bound again). -/

/-- A block's widths. -/
def k0_pay18 (x0 : Vec F S1000x81 .f32) (x1 : Vec F S1000x81 .f32) (x2 : Vec F S1000x81 .f32) (x3 : Vec F S1000x81 .f32) (x4 : Vec F S1000x81 .f32) (x5 : Vec F S1000x4 .f32) : FVec F S1000x1 .f32 :=
  k0_pay4 (View.ld x5 r0_1) -- `v14`
/-- A block's heights. -/
def k0_pay19 (x0 : Vec F S1000x81 .f32) (x1 : Vec F S1000x81 .f32) (x2 : Vec F S1000x81 .f32) (x3 : Vec F S1000x81 .f32) (x4 : Vec F S1000x81 .f32) (x5 : Vec F S1000x4 .f32) : FVec F S1000x1 .f32 :=
  k0_pay5 (View.ld x5 r0_1) -- `v17`
/-- A block's horizontal centres. -/
def k0_pay20 (x0 : Vec F S1000x81 .f32) (x1 : Vec F S1000x81 .f32) (x2 : Vec F S1000x81 .f32) (x3 : Vec F S1000x81 .f32) (x4 : Vec F S1000x81 .f32) (x5 : Vec F S1000x4 .f32) : FVec F S1000x1 .f32 :=
  k0_pay6 (View.ld x5 r0_1) -- `v21`
/-- A block's vertical centres. -/
def k0_pay21 (x0 : Vec F S1000x81 .f32) (x1 : Vec F S1000x81 .f32) (x2 : Vec F S1000x81 .f32) (x3 : Vec F S1000x81 .f32) (x4 : Vec F S1000x81 .f32) (x5 : Vec F S1000x4 .f32) : FVec F S1000x1 .f32 :=
  k0_pay7 (View.ld x5 r0_1) -- `v25`
/-- A block's horizontal shifts over their weight. -/
def k0_pay22 (x0 : Vec F S1000x81 .f32) (x1 : Vec F S1000x81 .f32) (x2 : Vec F S1000x81 .f32) (x3 : Vec F S1000x81 .f32) (x4 : Vec F S1000x81 .f32) (x5 : Vec F S1000x4 .f32) : FVec F S1000x81 .f32 :=
  k0_pay8 (View.ld x1 r0_0) -- `v29`
/-- A block's vertical shifts over their weight. -/
def k0_pay23 (x0 : Vec F S1000x81 .f32) (x1 : Vec F S1000x81 .f32) (x2 : Vec F S1000x81 .f32) (x3 : Vec F S1000x81 .f32) (x4 : Vec F S1000x81 .f32) (x5 : Vec F S1000x4 .f32) : FVec F S1000x81 .f32 :=
  k0_pay9 (View.ld x2 r0_0) -- `v33`
/-- A block's width deltas over their weight. -/
def k0_pay24 (x0 : Vec F S1000x81 .f32) (x1 : Vec F S1000x81 .f32) (x2 : Vec F S1000x81 .f32) (x3 : Vec F S1000x81 .f32) (x4 : Vec F S1000x81 .f32) (x5 : Vec F S1000x4 .f32) : FVec F S1000x81 .f32 :=
  k0_pay10 (View.ld x3 r0_0) -- `v37`

/-- Window 6's staging buffer after the body, from the input windows' blocks: its 1 store as pieces, LAST
    FIRST (Lib/Pipeline/FrameBody.lean `View.canon`; the payloads are the skeleton's and the values stated above). -/
def out0_6 (x0 : Vec F S1000x81 .f32) (x1 : Vec F S1000x81 .f32) (x2 : Vec F S1000x81 .f32) (x3 : Vec F S1000x81 .f32) (x4 : Vec F S1000x81 .f32) (x5 : Vec F S1000x4 .f32) : Vec F S1000x81 .f32 :=
  View.canon [⟨r0_0, k0_pay3 (View.ld x0 r0_0)⟩]

/-- Its stores tile the buffer (checked by evaluation), so they cover it. -/
theorem cover0_6 (p0 : Vec F S1000x81 .f32) (y : S1000x81.Idx) :
    ∃ pc ∈ ([⟨r0_0, p0⟩] : List (View.Piece (Elt F) S1000x81 .f32)), y ∈ pc.1.set :=
  View.cover_of_tiled [⟨r0_0, p0⟩] S1000x81.size (by rfl) y

/-- Window 7's staging buffer after the body, from the input windows' blocks: its 1 store as pieces, LAST
    FIRST (Lib/Pipeline/FrameBody.lean `View.canon`; the payloads are the skeleton's and the values stated above). -/
def out0_7 (x0 : Vec F S1000x81 .f32) (x1 : Vec F S1000x81 .f32) (x2 : Vec F S1000x81 .f32) (x3 : Vec F S1000x81 .f32) (x4 : Vec F S1000x81 .f32) (x5 : Vec F S1000x4 .f32) : Vec F S1000x81 .f32 :=
  View.canon [⟨r0_0, k0_pay15 (k0_pay18 x0 x1 x2 x3 x4 x5) (k0_pay20 x0 x1 x2 x3 x4 x5) (k0_pay22 x0 x1 x2 x3 x4 x5) (k0_pay24 x0 x1 x2 x3 x4 x5) (Scalar.ofBits .f32 0x40845349#32)⟩]

/-- Its stores tile the buffer (checked by evaluation), so they cover it. -/
theorem cover0_7 (p0 : Vec F S1000x81 .f32) (y : S1000x81.Idx) :
    ∃ pc ∈ ([⟨r0_0, p0⟩] : List (View.Piece (Elt F) S1000x81 .f32)), y ∈ pc.1.set :=
  View.cover_of_tiled [⟨r0_0, p0⟩] S1000x81.size (by rfl) y

/-- Window 8's staging buffer after the body, from the input windows' blocks: its 1 store as pieces, LAST
    FIRST (Lib/Pipeline/FrameBody.lean `View.canon`; the payloads are the skeleton's and the values stated above). -/
def out0_8 (x0 : Vec F S1000x81 .f32) (x1 : Vec F S1000x81 .f32) (x2 : Vec F S1000x81 .f32) (x3 : Vec F S1000x81 .f32) (x4 : Vec F S1000x81 .f32) (x5 : Vec F S1000x4 .f32) : Vec F S1000x81 .f32 :=
  View.canon [⟨r0_0, k0_pay16 (k0_pay19 x0 x1 x2 x3 x4 x5) (k0_pay21 x0 x1 x2 x3 x4 x5) (k0_pay23 x0 x1 x2 x3 x4 x5) (View.ld x4 r0_0)⟩]

/-- Its stores tile the buffer (checked by evaluation), so they cover it. -/
theorem cover0_8 (p0 : Vec F S1000x81 .f32) (y : S1000x81.Idx) :
    ∃ pc ∈ ([⟨r0_0, p0⟩] : List (View.Piece (Elt F) S1000x81 .f32)), y ∈ pc.1.set :=
  View.cover_of_tiled [⟨r0_0, p0⟩] S1000x81.size (by rfl) y

/-- Window 9's staging buffer after the body, from the input windows' blocks: its 1 store as pieces, LAST
    FIRST (Lib/Pipeline/FrameBody.lean `View.canon`; the payloads are the skeleton's and the values stated above). -/
def out0_9 (x0 : Vec F S1000x81 .f32) (x1 : Vec F S1000x81 .f32) (x2 : Vec F S1000x81 .f32) (x3 : Vec F S1000x81 .f32) (x4 : Vec F S1000x81 .f32) (x5 : Vec F S1000x4 .f32) : Vec F S1000x81 .f32 :=
  View.canon [⟨r0_0, k0_pay1 (k0_pay17 (k0_pay18 x0 x1 x2 x3 x4 x5) (k0_pay20 x0 x1 x2 x3 x4 x5) (k0_pay22 x0 x1 x2 x3 x4 x5) (k0_pay24 x0 x1 x2 x3 x4 x5) (Scalar.ofBits .f32 0x40845349#32)) (Scalar.ofBits .f32 0x00000000#32) (Scalar.ofBits .f32 0x44A6A000#32)⟩]

/-- Its stores tile the buffer (checked by evaluation), so they cover it. -/
theorem cover0_9 (p0 : Vec F S1000x81 .f32) (y : S1000x81.Idx) :
    ∃ pc ∈ ([⟨r0_0, p0⟩] : List (View.Piece (Elt F) S1000x81 .f32)), y ∈ pc.1.set :=
  View.cover_of_tiled [⟨r0_0, p0⟩] S1000x81.size (by rfl) y

/-- Window 10's staging buffer after the body, from the input windows' blocks: its 1 store as pieces, LAST
    FIRST (Lib/Pipeline/FrameBody.lean `View.canon`; the payloads are the skeleton's and the values stated above). -/
def out0_10 (x0 : Vec F S1000x81 .f32) (x1 : Vec F S1000x81 .f32) (x2 : Vec F S1000x81 .f32) (x3 : Vec F S1000x81 .f32) (x4 : Vec F S1000x81 .f32) (x5 : Vec F S1000x4 .f32) : Vec F S1000x81 .f32 :=
  View.canon [⟨r0_0, k0_pay2 (k0_pay12 (k0_pay19 x0 x1 x2 x3 x4 x5) (k0_pay21 x0 x1 x2 x3 x4 x5) (k0_pay23 x0 x1 x2 x3 x4 x5)) (k0_pay14 (k0_pay19 x0 x1 x2 x3 x4 x5) (View.ld x4 r0_0))⟩]

/-- Its stores tile the buffer (checked by evaluation), so they cover it. -/
theorem cover0_10 (p0 : Vec F S1000x81 .f32) (y : S1000x81.Idx) :
    ∃ pc ∈ ([⟨r0_0, p0⟩] : List (View.Piece (Elt F) S1000x81 .f32)), y ∈ pc.1.set :=
  View.cover_of_tiled [⟨r0_0, p0⟩] S1000x81.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S1000x81 .f32) (harg1 : arg1.IsWhole) (arg2 : Memref sig .tc .vmem S1000x81 .f32) (harg2 : arg2.IsWhole) (arg3 : Memref sig .tc .vmem S1000x81 .f32) (harg3 : arg3.IsWhole) (arg4 : Memref sig .tc .vmem S1000x81 .f32) (harg4 : arg4.IsWhole) (arg5 : Memref sig .tc .vmem S1000x81 .f32) (harg5 : arg5.IsWhole) (arg6 : Memref sig .tc .vmem S1000x4 .f32) (harg6 : arg6.IsWhole) (arg7 : Memref sig .tc .vmem S1000x81 .f32) (harg7 : arg7.IsWhole) (arg8 : Memref sig .tc .vmem S1000x81 .f32) (harg8 : arg8.IsWhole) (arg9 : Memref sig .tc .vmem S1000x81 .f32) (harg9 : arg9.IsWhole) (arg10 : Memref sig .tc .vmem S1000x81 .f32) (harg10 : arg10.IsWhole) (arg11 : Memref sig .tc .vmem S1000x81 .f32) (harg11 : arg11.IsWhole)
    (x0 : Vec F S1000x81 .f32) (x1 : Vec F S1000x81 .f32) (x2 : Vec F S1000x81 .f32) (x3 : Vec F S1000x81 .f32) (x4 : Vec F S1000x81 .f32) (x5 : Vec F S1000x4 .f32) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5) ∗ owns (c : Thread nD τ) arg8 fullShare (out0_7 x0 x1 x2 x3 x4 x5) ∗ owns (c : Thread nD τ) arg9 fullShare (out0_8 x0 x1 x2 x3 x4 x5) ∗ owns (c : Thread nD τ) arg10 fullShare (out0_9 x0 x1 x2 x3 x4 x5) ∗ owns (c : Thread nD τ) arg11 fullShare (out0_10 x0 x1 x2 x3 x4 x5)) -∗ K ⟨⟩))
      ⊢ wp frame (wpE (defs₀ (F := F)) Variants.none c none) E (cc0__decode_softmax_kernel i arg1 harg1 arg2 harg2 arg3 harg3 arg4 harg4 arg5 harg5 arg6 harg6 arg7 harg7 arg8 harg8 arg9 harg9 arg10 harg10 arg11 harg11) K := by
  simp only [cc0__decode_softmax_kernel_eq_skeleton]; unfold cc0__decode_softmax_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (cover0_6 _)).trans ?_
    rfl
  isplitl [H7]
  · iexists _; isplitr
    swap; · iexact H7
    ipureintro
    refine (View.read_writes_eq_canon _ _ _ (cover0_7 _)).trans ?_
    rfl
  isplitl [H8]
  · iexists _; isplitr
    swap; · iexact H8
    ipureintro
    refine (View.read_writes_eq_canon _ _ _ (cover0_8 _)).trans ?_
    rfl
  isplitl [H9]
  · iexists _; isplitr
    swap; · iexact H9
    ipureintro
    refine (View.read_writes_eq_canon _ _ _ (cover0_9 _)).trans ?_
    rfl
  iexists _; isplitr
  swap; · iexact H10
  ipureintro
  refine (View.read_writes_eq_canon _ _ _ (cover0_10 _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
    | ⟨8, _⟩ => out0_8 (iblk0 V c 0 t) (iblk0 V c 1 t) (iblk0 V c 2 t) (iblk0 V c 3 t) (iblk0 V c 4 t) (iblk0 V c 5 t)
    | ⟨9, _⟩ => out0_9 (iblk0 V c 0 t) (iblk0 V c 1 t) (iblk0 V c 2 t) (iblk0 V c 3 t) (iblk0 V c 4 t) (iblk0 V c 5 t)
    | ⟨10, _⟩ => out0_10 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
/-- What region 0's rounds leave in window 1. -/
theorem after0_1 (c : Dev nD) (t : Fin cfg0.N) : (dat0 V c).after 1 t = iblk0 V c 1 t := by dsimp only [dat0]
/-- What region 0's rounds leave in window 2. -/
theorem after0_2 (c : Dev nD) (t : Fin cfg0.N) : (dat0 V c).after 2 t = iblk0 V c 2 t := by dsimp only [dat0]
/-- What region 0's rounds leave in window 3. -/
theorem after0_3 (c : Dev nD) (t : Fin cfg0.N) : (dat0 V c).after 3 t = iblk0 V c 3 t := by dsimp only [dat0]
/-- What region 0's rounds leave in window 4. -/
theorem after0_4 (c : Dev nD) (t : Fin cfg0.N) : (dat0 V c).after 4 t = iblk0 V c 4 t := by dsimp only [dat0]
/-- What region 0's rounds leave in window 5. -/
theorem after0_5 (c : Dev nD) (t : Fin cfg0.N) : (dat0 V c).after 5 t = iblk0 V c 5 t := by dsimp only [dat0]
/-- What region 0's rounds leave in window 6. -/
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]
/-- What region 0's rounds leave in window 7. -/
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) := by dsimp only [dat0]
/-- What region 0's rounds leave in window 8. -/
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) := by dsimp only [dat0]
/-- What region 0's rounds leave in window 9. -/
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) := by dsimp only [dat0]
/-- What region 0's rounds leave in window 10. -/
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
/-- What region 0's rounds find in window 1. -/
theorem before0_1 (c : Dev nD) (t : Fin cfg0.N) (d) : (dat0 V c).before 1 t d = iblk0 V c 1 t :=
  before0_1_of V (dat0 V c) (A_eq0 V c 1) (after0_1 V c) t d
/-- What region 0's rounds find in window 2. -/
theorem before0_2 (c : Dev nD) (t : Fin cfg0.N) (d) : (dat0 V c).before 2 t d = iblk0 V c 2 t :=
  before0_2_of V (dat0 V c) (A_eq0 V c 2) (after0_2 V c) t d
/-- What region 0's rounds find in window 3. -/
theorem before0_3 (c : Dev nD) (t : Fin cfg0.N) (d) : (dat0 V c).before 3 t d = iblk0 V c 3 t :=
  before0_3_of V (dat0 V c) (A_eq0 V c 3) (after0_3 V c) t d
/-- What region 0's rounds find in window 4. -/
theorem before0_4 (c : Dev nD) (t : Fin cfg0.N) (d) : (dat0 V c).before 4 t d = iblk0 V c 4 t :=
  before0_4_of V (dat0 V c) (A_eq0 V c 4) (after0_4 V c) t d
/-- What region 0's rounds find in window 5. -/
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t` (Lib/Pipeline.lean `BodyObligation`'s precondition, the windows one by one), -/
def bodyPre0 (c : Dev nD) (t : Fin cfg0.N) : sProp (MT nD τ sig Unit (Elt F) ℕ (UR sig nD τ) ℕ) :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- and what it returns. -/
def bodyPost0 (c : Dev nD) (t : Fin cfg0.N) : sProp (MT nD τ sig Unit (Elt F) ℕ (UR sig nD τ) ℕ) :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ (grid0.coords t) _ _ _ _ _ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1__nms_kernel` (pipeline 1), at the entry contents `V` — class R -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The loop of the kernel, as a step on the carried vector -/

/-- The staging buffer of window 0 in the second region. -/
abbrev ms1_0 (t : Fin cfg1.N) : Memref sig .tc .vmem S80x512 .f32 := win1_0.stage (cfg1.slots t 0)
/-- That staging buffer is a whole one. -/
abbrev hs1_0 (t : Fin cfg1.N) : (ms1_0 t).IsWhole := hstage1_0 ((cfg1.slots t 0).cast nbuf1_0)
/-- The staging buffer of window 1 in the second region. -/
abbrev ms1_1 (t : Fin cfg1.N) : Memref sig .tc .vmem S80x512 .f32 := win1_1.stage (cfg1.slots t 1)
/-- That staging buffer is a whole one. -/
abbrev hs1_1 (t : Fin cfg1.N) : (ms1_1 t).IsWhole := hstage1_1 ((cfg1.slots t 1).cast nbuf1_1)
/-- The staging buffer of window 2 in the second region. -/
abbrev ms1_2 (t : Fin cfg1.N) : Memref sig .tc .vmem S80x512 .f32 := win1_2.stage (cfg1.slots t 2)
/-- That staging buffer is a whole one. -/
abbrev hs1_2 (t : Fin cfg1.N) : (ms1_2 t).IsWhole := hstage1_2 ((cfg1.slots t 2).cast nbuf1_2)
/-- The staging buffer of window 3 in the second region. -/
abbrev ms1_3 (t : Fin cfg1.N) : Memref sig .tc .vmem S80x512 .f32 := win1_3.stage (cfg1.slots t 3)
/-- That staging buffer is a whole one. -/
abbrev hs1_3 (t : Fin cfg1.N) : (ms1_3 t).IsWhole := hstage1_3 ((cfg1.slots t 3).cast nbuf1_3)
/-- The staging buffer of window 4 in the second region. -/
abbrev ms1_4 (t : Fin cfg1.N) : Memref sig .tc .vmem S80x512 .f32 := win1_4.stage (cfg1.slots t 4)
/-- That staging buffer is a whole one. -/
abbrev hs1_4 (t : Fin cfg1.N) : (ms1_4 t).IsWhole := hstage1_4 ((cfg1.slots t 4).cast nbuf1_4)
/-- The staging buffer of window 5 in the second region. -/
abbrev ms1_5 (t : Fin cfg1.N) : Memref sig .tc .vmem S80x512 .f32 := win1_5.stage (cfg1.slots t 5)
/-- That staging buffer is a whole one. -/
abbrev hs1_5 (t : Fin cfg1.N) : (ms1_5 t).IsWhole := hstage1_5 ((cfg1.slots t 5).cast nbuf1_5)

/-- The lane numbers, as the kernel makes them. -/
def lanes : IVec S1x512 32 := iota .tc S1x512 32 [1] iota_S1x512_d1_w32

/-- One trip of the suppression loop as a function: the carried vector after trip `k`, from the four coordinate
    blocks and the vector before it. -/
def nmsStep (v0 v2 v4 v6 : Vec F S80x512 .f32) (k : Fin k1_t1_loop.trips) (acc : FVec F S80x512 .f32) : FVec F S80x512 .f32 :=
  k1_pay6 v0 v2 v4 v6 acc (Scf.iv 0#32 1#32 k) (k1_pay9 (k1_pay2 v2) lanes 0#32 1#32 k) (k1_pay11 (k1_pay4 v6) lanes 0#32 1#32 k)
    (k1_pay12 lanes 0#32 1#32 k acc) (k1_pay13 (k1_pay1 v0) (k1_pay2 v2) (k1_pay3 v4) (k1_pay4 v6) lanes 0#32 1#32 k)
    (k1_pay14 (k1_pay1 v0) (k1_pay3 v4) lanes 0#32 1#32 k) (Scalar.ofBits .f32 0x00000000#32)

/-- The loop's region touches no memory: it returns `nmsStep`. -/
theorem t1_body_eq (i : grid1.Coords) (arg1 : Memref sig .tc .vmem S80x512 .f32) (harg1 : arg1.IsWhole) (arg2 : Memref sig .tc .vmem S80x512 .f32) (harg2 : arg2.IsWhole) (arg3 : Memref sig .tc .vmem S80x512 .f32) (harg3 : arg3.IsWhole) (arg4 : Memref sig .tc .vmem S80x512 .f32) (harg4 : arg4.IsWhole) (arg5 : Memref sig .tc .vmem S80x512 .f32) (harg5 : arg5.IsWhole) (arg6 : Memref sig .tc .vmem S80x512 .f32) (harg6 : arg6.IsWhole)
    (v0 v2 v4 v6 : Vec F S80x512 .f32) :
    k1_t1_body i arg1 harg1 arg2 harg2 arg3 harg3 arg4 harg4 arg5 harg5 arg6 harg6 v0 v2 v4 v6 lanes = fun k acc => .ret (nmsStep v0 v2 v4 v6 k acc) := by
  funext k acc
  unfold k1_t1_body
  rw [k1_part1_eq_skeleton]
  rfl

/-- The carried vector after the whole loop. -/
def nmsLoop (v0 v2 v4 v6 : Vec F S80x512 .f32) : FVec F S80x512 .f32 :=
  Scf.fold (n := k1_t1_loop.trips) (nmsStep v0 v2 v4 v6) (k1_pay5 (F := F))

/-- A whole block of region 1, as a rectangle. -/
abbrev r1_0 : Rect S80x512 := Rect.unit (s := S80x512) ![0, 0] S80x512.size inb_S80x512_S80x512_0_0

/-- What the body leaves in the output's staging buffer, from the five input blocks. -/
def out1_5 (x0 x1 x2 x3 x4 : Vec F S80x512 .f32) : Vec F S80x512 .f32 :=
  View.canon [⟨r1_0, k1_pay7 (View.ld x4 r1_0) (nmsLoop (View.ld x0 r1_0) (View.ld x1 r1_0) (View.ld x2 r1_0) (View.ld x3 r1_0))⟩]

/-- The one store covers the buffer. -/
theorem cover1_5 (p0 : Vec F S80x512 .f32) (y : S80x512.Idx) :
    ∃ pc ∈ ([⟨r1_0, p0⟩] : List (View.Piece (Elt F) S80x512 .f32)), y ∈ pc.1.set :=
  View.cover_of_tiled [⟨r1_0, p0⟩] S80x512.size (by rfl) y

set_option maxHeartbeats 1000000 in
/-- The suppression kernel's body on whole staging memrefs: the inputs stay, the output ends at `out1_5`. -/
theorem sound_kernel1 (c : Dev nD) (E : Set ℕ) (i : grid1.Coords) (arg1 : Memref sig .tc .vmem S80x512 .f32) (harg1 : arg1.IsWhole) (arg2 : Memref sig .tc .vmem S80x512 .f32) (harg2 : arg2.IsWhole) (arg3 : Memref sig .tc .vmem S80x512 .f32) (harg3 : arg3.IsWhole) (arg4 : Memref sig .tc .vmem S80x512 .f32) (harg4 : arg4.IsWhole) (arg5 : Memref sig .tc .vmem S80x512 .f32) (harg5 : arg5.IsWhole) (arg6 : Memref sig .tc .vmem S80x512 .f32) (harg6 : arg6.IsWhole)
    (x0 x1 x2 x3 x4 : Vec F S80x512 .f32) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__nms_kernel i arg1 harg1 arg2 harg2 arg3 harg3 arg4 harg4 arg5 harg5 arg6 harg6) K := by
  simp only [cc1__nms_kernel_eq_skeleton]; unfold cc1__nms_kernel_skel
  rw [show (iota .tc S1x512 32 [1] iota_S1x512_d1_w32 : IVec S1x512 32) = lanes from rfl]
  simp only [t1_body_eq]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (View.read_writes_eq_canon _ _ _ (cover1_5 _)).trans ?_
  rfl

/-! ## The pipeline's proof data -/

/-- The proof data of pipeline 1 on core `c`: the arrays as the region finds them (`V`); after the body at
    point `t` each input's buffer at its block and the outputs' at `out1_5`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
/-- What region 1's rounds leave in window 1. -/
theorem after1_1 (c : Dev nD) (t : Fin cfg1.N) : (dat1 V c).after 1 t = iblk1 V c 1 t := by dsimp only [dat1]
/-- What region 1's rounds leave in window 2. -/
theorem after1_2 (c : Dev nD) (t : Fin cfg1.N) : (dat1 V c).after 2 t = iblk1 V c 2 t := by dsimp only [dat1]
/-- What region 1's rounds leave in window 3. -/
theorem after1_3 (c : Dev nD) (t : Fin cfg1.N) : (dat1 V c).after 3 t = iblk1 V c 3 t := by dsimp only [dat1]
/-- What region 1's rounds leave in window 4. -/
theorem after1_4 (c : Dev nD) (t : Fin cfg1.N) : (dat1 V c).after 4 t = iblk1 V c 4 t := by dsimp only [dat1]
/-- What region 1's rounds leave in window 5. -/
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
/-- What region 1's rounds find in window 1. -/
theorem before1_1 (c : Dev nD) (t : Fin cfg1.N) (d) : (dat1 V c).before 1 t d = iblk1 V c 1 t :=
  before1_1_of V (dat1 V c) (A_eq1 V c 1) (after1_1 V c) t d
/-- What region 1's rounds find in window 2. -/
theorem before1_2 (c : Dev nD) (t : Fin cfg1.N) (d) : (dat1 V c).before 2 t d = iblk1 V c 2 t :=
  before1_2_of V (dat1 V c) (A_eq1 V c 2) (after1_2 V c) t d
/-- What region 1's rounds find in window 3. -/
theorem before1_3 (c : Dev nD) (t : Fin cfg1.N) (d) : (dat1 V c).before 3 t d = iblk1 V c 3 t :=
  before1_3_of V (dat1 V c) (A_eq1 V c 3) (after1_3 V c) t d
/-- What region 1's rounds find in window 4. -/
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t` (Lib/Pipeline.lean `BodyObligation`'s precondition, the windows one by one), -/
def bodyPre1 (c : Dev nD) (t : Fin cfg1.N) : sProp (MT nD τ sig Unit (Elt F) ℕ (UR sig nD τ) ℕ) :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp (MT nD τ sig Unit (Elt F) ℕ (UR sig nD τ) ℕ) :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

/-- The body at any point: the inputs' memrefs hold their blocks (`before1_W`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Whole

end
-- ==== Proof.KernelIdealRun.lean ====
/- The run of `KernelIdeal`'s @main: two kernel regions among stretches of host operations. -/
module

public import proofs.«01_k».proof.Proof.KernelIdealBody

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5, main_v6, main_v7, main_v8]
/-- `hostOps0` writes only the references listed. -/
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v10, main_v11, main_cst, main_v12, main_v13, main_cst_0]
/-- `hostOps1` writes only the references listed. -/
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps1_1` allocates a buffer. -/
theorem hostOps1_1_fresh : (hostOps1_1 : List (HloOp τ sig (Elt F))).Forall fun op => op.fresh = ∅ := by
  simp only [List.Forall]; repeat' constructor
/-- The reference each operation of `hostOps1_1` writes, in order. -/
abbrev hostOps1_1_W : List (Ref sig .tc) := [main_call0_v0, main_call0_v1, main_v14]
/-- `hostOps1_1` writes only the references listed. -/
theorem hostOps1_1_writes : (hostOps1_1 : List (HloOp τ sig (Elt F))).Forall fun op => op.writes ⊆ (hostOps1_1_W.map (Proc.devRef (τ := τ) .tc)).toFinset :=
  StableHlo.forall_writes_sub_of_map rfl
/-- `hostOps1_1` writes none of the argument arrays (checked: each argument against each reference it writes). -/
theorem hostOps1_1_args : ∀ a ∈ argRefs, a ∉ hostOps1_1_W := ListAll.forall_mem_of_all_decide (by decide +kernel)

/-- No operation of `hostOps1_2` allocates a buffer. -/
theorem hostOps1_2_fresh : (hostOps1_2 : List (HloOp τ sig (Elt F))).Forall fun op => op.fresh = ∅ := by
  simp only [List.Forall]; repeat' constructor
/-- The reference each operation of `hostOps1_2` writes, in order. -/
abbrev hostOps1_2_W : List (Ref sig .tc) := [main_v15, main_values, main_indices, main_v16, main_c, main_v17, main_v18, main_v19, main_v20, main_v21, main_v22, main_values_1, main_indices_2, main_v23]
/-- `hostOps1_2` writes only the references listed. -/
theorem hostOps1_2_writes : (hostOps1_2 : List (HloOp τ sig (Elt F))).Forall fun op => op.writes ⊆ (hostOps1_2_W.map (Proc.devRef (τ := τ) .tc)).toFinset :=
  StableHlo.forall_writes_sub_of_map rfl
/-- `hostOps1_2` writes none of the argument arrays (checked: each argument against each reference it writes). -/
theorem hostOps1_2_args : ∀ a ∈ argRefs, a ∉ hostOps1_2_W := ListAll.forall_mem_of_all_decide (by decide +kernel)

/-- No operation of `hostOps1_3` allocates a buffer. -/
theorem hostOps1_3_fresh : (hostOps1_3 : List (HloOp τ sig (Elt F))).Forall fun op => op.fresh = ∅ := by
  simp only [List.Forall]; repeat' constructor
/-- The reference each operation of `hostOps1_3` writes, in order. -/
abbrev hostOps1_3_W : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_c_4, main_call1_v14, main_v24]
/-- `hostOps1_3` writes only the references listed. -/
theorem hostOps1_3_writes : (hostOps1_3 : List (HloOp τ sig (Elt F))).Forall fun op => op.writes ⊆ (hostOps1_3_W.map (Proc.devRef (τ := τ) .tc)).toFinset :=
  StableHlo.forall_writes_sub_of_map rfl
/-- `hostOps1_3` writes none of the argument arrays (checked: each argument against each reference it writes). -/
theorem hostOps1_3_args : ∀ a ∈ argRefs, a ∉ hostOps1_3_W := ListAll.forall_mem_of_all_decide (by decide +kernel)

/-- No operation of `hostOps1_4` allocates a buffer. -/
theorem hostOps1_4_fresh : (hostOps1_4 : List (HloOp τ sig (Elt F))).Forall fun op => op.fresh = ∅ := by
  simp only [List.Forall]; repeat' constructor
/-- The reference each operation of `hostOps1_4` writes, in order. -/
abbrev hostOps1_4_W : List (Ref sig .tc) := [main_v25, main_v26]
/-- `hostOps1_4` writes only the references listed. -/
theorem hostOps1_4_writes : (hostOps1_4 : List (HloOp τ sig (Elt F))).Forall fun op => op.writes ⊆ (hostOps1_4_W.map (Proc.devRef (τ := τ) .tc)).toFinset :=
  StableHlo.forall_writes_sub_of_map rfl
/-- `hostOps1_4` writes none of the argument arrays (checked: each argument against each reference it writes). -/
theorem hostOps1_4_args : ∀ a ∈ argRefs, a ∉ hostOps1_4_W := ListAll.forall_mem_of_all_decide (by decide +kernel)

/-- No operation of `hostOps1_5` allocates a buffer. -/
theorem hostOps1_5_fresh : (hostOps1_5 : List (HloOp τ sig (Elt F))).Forall fun op => op.fresh = ∅ := by
  simp only [List.Forall]; repeat' constructor
/-- The reference each operation of `hostOps1_5` writes, in order. -/
abbrev hostOps1_5_W : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_cst, main_call2_v14, main_v27]
/-- `hostOps1_5` writes only the references listed. -/
theorem hostOps1_5_writes : (hostOps1_5 : List (HloOp τ sig (Elt F))).Forall fun op => op.writes ⊆ (hostOps1_5_W.map (Proc.devRef (τ := τ) .tc)).toFinset :=
  StableHlo.forall_writes_sub_of_map rfl
/-- `hostOps1_5` writes none of the argument arrays (checked: each argument against each reference it writes). -/
theorem hostOps1_5_args : ∀ a ∈ argRefs, a ∉ hostOps1_5_W := ListAll.forall_mem_of_all_decide (by decide +kernel)

/-- No operation of `hostOps1_6` allocates a buffer. -/
theorem hostOps1_6_fresh : (hostOps1_6 : List (HloOp τ sig (Elt F))).Forall fun op => op.fresh = ∅ := by
  simp only [List.Forall]; repeat' constructor
/-- The reference each operation of `hostOps1_6` writes, in order. -/
abbrev hostOps1_6_W : List (Ref sig .tc) := [main_v28, main_v29]
/-- `hostOps1_6` writes only the references listed. -/
theorem hostOps1_6_writes : (hostOps1_6 : List (HloOp τ sig (Elt F))).Forall fun op => op.writes ⊆ (hostOps1_6_W.map (Proc.devRef (τ := τ) .tc)).toFinset :=
  StableHlo.forall_writes_sub_of_map rfl
/-- `hostOps1_6` writes none of the argument arrays (checked: each argument against each reference it writes). -/
theorem hostOps1_6_args : ∀ a ∈ argRefs, a ∉ hostOps1_6_W := ListAll.forall_mem_of_all_decide (by decide +kernel)

/-- No operation of `hostOps1_7` allocates a buffer. -/
theorem hostOps1_7_fresh : (hostOps1_7 : List (HloOp τ sig (Elt F))).Forall fun op => op.fresh = ∅ := by
  simp only [List.Forall]; repeat' constructor
/-- The reference each operation of `hostOps1_7` writes, in order. -/
abbrev hostOps1_7_W : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_cst, main_call3_v14, main_v30]
/-- `hostOps1_7` writes only the references listed. -/
theorem hostOps1_7_writes : (hostOps1_7 : List (HloOp τ sig (Elt F))).Forall fun op => op.writes ⊆ (hostOps1_7_W.map (Proc.devRef (τ := τ) .tc)).toFinset :=
  StableHlo.forall_writes_sub_of_map rfl
/-- `hostOps1_7` writes none of the argument arrays (checked: each argument against each reference it writes). -/
theorem hostOps1_7_args : ∀ a ∈ argRefs, a ∉ hostOps1_7_W := ListAll.forall_mem_of_all_decide (by decide +kernel)

/-- No operation of `hostOps1_8` allocates a buffer. -/
theorem hostOps1_8_fresh : (hostOps1_8 : List (HloOp τ sig (Elt F))).Forall fun op => op.fresh = ∅ := by
  simp only [List.Forall]; repeat' constructor
/-- The reference each operation of `hostOps1_8` writes, in order. -/
abbrev hostOps1_8_W : List (Ref sig .tc) := [main_v31, main_v32]
/-- `hostOps1_8` writes only the references listed. -/
theorem hostOps1_8_writes : (hostOps1_8 : List (HloOp τ sig (Elt F))).Forall fun op => op.writes ⊆ (hostOps1_8_W.map (Proc.devRef (τ := τ) .tc)).toFinset :=
  StableHlo.forall_writes_sub_of_map rfl
/-- `hostOps1_8` writes none of the argument arrays (checked: each argument against each reference it writes). -/
theorem hostOps1_8_args : ∀ a ∈ argRefs, a ∉ hostOps1_8_W := ListAll.forall_mem_of_all_decide (by decide +kernel)

/-- No operation of `hostOps1_9` allocates a buffer. -/
theorem hostOps1_9_fresh : (hostOps1_9 : List (HloOp τ sig (Elt F))).Forall fun op => op.fresh = ∅ := by
  simp only [List.Forall]; repeat' constructor
/-- The reference each operation of `hostOps1_9` writes, in order. -/
abbrev hostOps1_9_W : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_cst, main_call4_v14, main_v33]
/-- `hostOps1_9` writes only the references listed. -/
theorem hostOps1_9_writes : (hostOps1_9 : List (HloOp τ sig (Elt F))).Forall fun op => op.writes ⊆ (hostOps1_9_W.map (Proc.devRef (τ := τ) .tc)).toFinset :=
  StableHlo.forall_writes_sub_of_map rfl
/-- `hostOps1_9` writes none of the argument arrays (checked: each argument against each reference it writes). -/
theorem hostOps1_9_args : ∀ a ∈ argRefs, a ∉ hostOps1_9_W := ListAll.forall_mem_of_all_decide (by decide +kernel)

/-- No operation of `hostOps1_10` allocates a buffer. -/
theorem hostOps1_10_fresh : (hostOps1_10 : List (HloOp τ sig (Elt F))).Forall fun op => op.fresh = ∅ := by
  simp only [List.Forall]; repeat' constructor
/-- The reference each operation of `hostOps1_10` writes, in order. -/
abbrev hostOps1_10_W : List (Ref sig .tc) := [main_v34, main_v35]
/-- `hostOps1_10` writes only the references listed. -/
theorem hostOps1_10_writes : (hostOps1_10 : List (HloOp τ sig (Elt F))).Forall fun op => op.writes ⊆ (hostOps1_10_W.map (Proc.devRef (τ := τ) .tc)).toFinset :=
  StableHlo.forall_writes_sub_of_map rfl
/-- `hostOps1_10` writes none of the argument arrays (checked: each argument against each reference it writes). -/
theorem hostOps1_10_args : ∀ a ∈ argRefs, a ∉ hostOps1_10_W := ListAll.forall_mem_of_all_decide (by decide +kernel)

/-- No operation of `hostOps1_11` allocates a buffer. -/
theorem hostOps1_11_fresh : (hostOps1_11 : List (HloOp τ sig (Elt F))).Forall fun op => op.fresh = ∅ := by
  simp only [List.Forall]; repeat' constructor
/-- The reference each operation of `hostOps1_11` writes, in order. -/
abbrev hostOps1_11_W : List (Ref sig .tc) := [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_cst, main_call5_v14, main_v36]
/-- `hostOps1_11` writes only the references listed. -/
theorem hostOps1_11_writes : (hostOps1_11 : List (HloOp τ sig (Elt F))).Forall fun op => op.writes ⊆ (hostOps1_11_W.map (Proc.devRef (τ := τ) .tc)).toFinset :=
  StableHlo.forall_writes_sub_of_map rfl
/-- `hostOps1_11` writes none of the argument arrays (checked: each argument against each reference it writes). -/
theorem hostOps1_11_args : ∀ a ∈ argRefs, a ∉ hostOps1_11_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v38, main_values_3, main_indices_4, main_c_5]
/-- `hostOps2` writes only the references listed. -/
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-- No operation of `hostOps2_1` allocates a buffer. -/
theorem hostOps2_1_fresh : (hostOps2_1 : List (HloOp τ sig (Elt F))).Forall fun op => op.fresh = ∅ := by
  simp only [List.Forall]; repeat' constructor
/-- The reference each operation of `hostOps2_1` writes, in order. -/
abbrev hostOps2_1_W : List (Ref sig .tc) := [main_call6_v0, main_call6_v1, main_call6_v2, main_call6_v3, main_call6_v4, main_call6_v5, main_call6_v6, main_call6_v7, main_call6_v8, main_call6_c, main_call6_v9, main_call6_v10, main_call6_v11, main_call6_c_0, main_call6_v12, main_call6_v13, main_v39]
/-- `hostOps2_1` writes only the references listed. -/
theorem hostOps2_1_writes : (hostOps2_1 : List (HloOp τ sig (Elt F))).Forall fun op => op.writes ⊆ (hostOps2_1_W.map (Proc.devRef (τ := τ) .tc)).toFinset :=
  StableHlo.forall_writes_sub_of_map rfl
/-- `hostOps2_1` writes none of the argument arrays (checked: each argument against each reference it writes). -/
theorem hostOps2_1_args : ∀ a ∈ argRefs, a ∉ hostOps2_1_W := ListAll.forall_mem_of_all_decide (by decide +kernel)

/-- No operation of `hostOps2_2` allocates a buffer. -/
theorem hostOps2_2_fresh : (hostOps2_2 : List (HloOp τ sig (Elt F))).Forall fun op => op.fresh = ∅ := by
  simp only [List.Forall]; repeat' constructor
/-- The reference each operation of `hostOps2_2` writes, in order. -/
abbrev hostOps2_2_W : List (Ref sig .tc) := [main_c_6, main_v40, main_v41, main_v42, main_c_7, main_v43, main_v44, main_c_8, main_v45, main_v46, main_v47, main_v48, main_v49, main_v50, main_c_9, main_v51, main_v52, main_c_10, main_v53, main_v54, main_v55, main_v56, main_v57, main_v58, main_c_11, main_v59, main_v60, main_c_12, main_v61, main_v62, main_v63, main_v64, main_v65, main_v66, main_c_13, main_v67, main_v68, main_c_14, main_v69, main_v70, main_v71, main_v72, main_v73, main_v74, main_v75, main_v76, main_v77, main_v78]
/-- `hostOps2_2` writes only the references listed. -/
theorem hostOps2_2_writes : (hostOps2_2 : List (HloOp τ sig (Elt F))).Forall fun op => op.writes ⊆ (hostOps2_2_W.map (Proc.devRef (τ := τ) .tc)).toFinset :=
  StableHlo.forall_writes_sub_of_map rfl
/-- `hostOps2_2` writes none of the argument arrays (checked: each argument against each reference it writes). -/
theorem hostOps2_2_args : ∀ a ∈ argRefs, a ∉ hostOps2_2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
/-- Step 0's contents hold the arguments as given. -/
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- Step 1's contents hold the arguments as given. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
/-- The region's arrays hold what its rounds left. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- The region leaves every other buffer alone. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
/-- Step 2's contents hold the arguments as given. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
/-- The first region changes none but its arrays. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1`. -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
/-- Step 3's contents hold the arguments as given. -/
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- After `hostOps1_1`. -/
abbrev W4 : Dev nD → Valuation τ sig (Elt F) := fun c => StableHlo.after hostOps1_1 (W3 m ρ c)
/-- A reference `hostOps1_1` does not write keeps its contents across it. -/
theorem W4_of (c : Dev nD) (r : Ref sig .tc) (h : r ∉ hostOps1_1_W) : W4 m ρ c (Proc.devRef .tc r) = W3 m ρ c (Proc.devRef .tc r) :=
  StableHlo.after_of_writes_sub hostOps1_1 _ hostOps1_1_writes h
/-- Step 4's contents hold the arguments as given. -/
theorem W4_args (c : Dev nD) : ∀ a ∈ argRefs, W4 m ρ c (Proc.devRef .tc a) = m ((c : Thread nD τ).loc a) :=
  fun a ha => (W4_of m ρ c a (hostOps1_1_args a ha)).trans (W3_args m ρ c a ha)
/-- After `hostOps1_2`. -/
abbrev W5 : Dev nD → Valuation τ sig (Elt F) := fun c => StableHlo.after hostOps1_2 (W4 m ρ c)
/-- A reference `hostOps1_2` does not write keeps its contents across it. -/
theorem W5_of (c : Dev nD) (r : Ref sig .tc) (h : r ∉ hostOps1_2_W) : W5 m ρ c (Proc.devRef .tc r) = W4 m ρ c (Proc.devRef .tc r) :=
  StableHlo.after_of_writes_sub hostOps1_2 _ hostOps1_2_writes h
/-- Step 5's contents hold the arguments as given. -/
theorem W5_args (c : Dev nD) : ∀ a ∈ argRefs, W5 m ρ c (Proc.devRef .tc a) = m ((c : Thread nD τ).loc a) :=
  fun a ha => (W5_of m ρ c a (hostOps1_2_args a ha)).trans (W4_args m ρ c a ha)
/-- After `hostOps1_3`. -/
abbrev W6 : Dev nD → Valuation τ sig (Elt F) := fun c => StableHlo.after hostOps1_3 (W5 m ρ c)
/-- A reference `hostOps1_3` does not write keeps its contents across it. -/
theorem W6_of (c : Dev nD) (r : Ref sig .tc) (h : r ∉ hostOps1_3_W) : W6 m ρ c (Proc.devRef .tc r) = W5 m ρ c (Proc.devRef .tc r) :=
  StableHlo.after_of_writes_sub hostOps1_3 _ hostOps1_3_writes h
/-- Step 6's contents hold the arguments as given. -/
theorem W6_args (c : Dev nD) : ∀ a ∈ argRefs, W6 m ρ c (Proc.devRef .tc a) = m ((c : Thread nD τ).loc a) :=
  fun a ha => (W6_of m ρ c a (hostOps1_3_args a ha)).trans (W5_args m ρ c a ha)
/-- After `hostOps1_4`. -/
abbrev W7 : Dev nD → Valuation τ sig (Elt F) := fun c => StableHlo.after hostOps1_4 (W6 m ρ c)
/-- A reference `hostOps1_4` does not write keeps its contents across it. -/
theorem W7_of (c : Dev nD) (r : Ref sig .tc) (h : r ∉ hostOps1_4_W) : W7 m ρ c (Proc.devRef .tc r) = W6 m ρ c (Proc.devRef .tc r) :=
  StableHlo.after_of_writes_sub hostOps1_4 _ hostOps1_4_writes h
/-- Step 7's contents hold the arguments as given. -/
theorem W7_args (c : Dev nD) : ∀ a ∈ argRefs, W7 m ρ c (Proc.devRef .tc a) = m ((c : Thread nD τ).loc a) :=
  fun a ha => (W7_of m ρ c a (hostOps1_4_args a ha)).trans (W6_args m ρ c a ha)
/-- After `hostOps1_5`. -/
abbrev W8 : Dev nD → Valuation τ sig (Elt F) := fun c => StableHlo.after hostOps1_5 (W7 m ρ c)
/-- A reference `hostOps1_5` does not write keeps its contents across it. -/
theorem W8_of (c : Dev nD) (r : Ref sig .tc) (h : r ∉ hostOps1_5_W) : W8 m ρ c (Proc.devRef .tc r) = W7 m ρ c (Proc.devRef .tc r) :=
  StableHlo.after_of_writes_sub hostOps1_5 _ hostOps1_5_writes h
/-- Step 8's contents hold the arguments as given. -/
theorem W8_args (c : Dev nD) : ∀ a ∈ argRefs, W8 m ρ c (Proc.devRef .tc a) = m ((c : Thread nD τ).loc a) :=
  fun a ha => (W8_of m ρ c a (hostOps1_5_args a ha)).trans (W7_args m ρ c a ha)
/-- After `hostOps1_6`. -/
abbrev W9 : Dev nD → Valuation τ sig (Elt F) := fun c => StableHlo.after hostOps1_6 (W8 m ρ c)
/-- A reference `hostOps1_6` does not write keeps its contents across it. -/
theorem W9_of (c : Dev nD) (r : Ref sig .tc) (h : r ∉ hostOps1_6_W) : W9 m ρ c (Proc.devRef .tc r) = W8 m ρ c (Proc.devRef .tc r) :=
  StableHlo.after_of_writes_sub hostOps1_6 _ hostOps1_6_writes h
/-- Step 9's contents hold the arguments as given. -/
theorem W9_args (c : Dev nD) : ∀ a ∈ argRefs, W9 m ρ c (Proc.devRef .tc a) = m ((c : Thread nD τ).loc a) :=
  fun a ha => (W9_of m ρ c a (hostOps1_6_args a ha)).trans (W8_args m ρ c a ha)
/-- After `hostOps1_7`. -/
abbrev W10 : Dev nD → Valuation τ sig (Elt F) := fun c => StableHlo.after hostOps1_7 (W9 m ρ c)
/-- A reference `hostOps1_7` does not write keeps its contents across it. -/
theorem W10_of (c : Dev nD) (r : Ref sig .tc) (h : r ∉ hostOps1_7_W) : W10 m ρ c (Proc.devRef .tc r) = W9 m ρ c (Proc.devRef .tc r) :=
  StableHlo.after_of_writes_sub hostOps1_7 _ hostOps1_7_writes h
/-- Step 10's contents hold the arguments as given. -/
theorem W10_args (c : Dev nD) : ∀ a ∈ argRefs, W10 m ρ c (Proc.devRef .tc a) = m ((c : Thread nD τ).loc a) :=
  fun a ha => (W10_of m ρ c a (hostOps1_7_args a ha)).trans (W9_args m ρ c a ha)
/-- After `hostOps1_8`. -/
abbrev W11 : Dev nD → Valuation τ sig (Elt F) := fun c => StableHlo.after hostOps1_8 (W10 m ρ c)
/-- A reference `hostOps1_8` does not write keeps its contents across it. -/
theorem W11_of (c : Dev nD) (r : Ref sig .tc) (h : r ∉ hostOps1_8_W) : W11 m ρ c (Proc.devRef .tc r) = W10 m ρ c (Proc.devRef .tc r) :=
  StableHlo.after_of_writes_sub hostOps1_8 _ hostOps1_8_writes h
/-- Step 11's contents hold the arguments as given. -/
theorem W11_args (c : Dev nD) : ∀ a ∈ argRefs, W11 m ρ c (Proc.devRef .tc a) = m ((c : Thread nD τ).loc a) :=
  fun a ha => (W11_of m ρ c a (hostOps1_8_args a ha)).trans (W10_args m ρ c a ha)
/-- After `hostOps1_9`. -/
abbrev W12 : Dev nD → Valuation τ sig (Elt F) := fun c => StableHlo.after hostOps1_9 (W11 m ρ c)
/-- A reference `hostOps1_9` does not write keeps its contents across it. -/
theorem W12_of (c : Dev nD) (r : Ref sig .tc) (h : r ∉ hostOps1_9_W) : W12 m ρ c (Proc.devRef .tc r) = W11 m ρ c (Proc.devRef .tc r) :=
  StableHlo.after_of_writes_sub hostOps1_9 _ hostOps1_9_writes h
/-- Step 12's contents hold the arguments as given. -/
theorem W12_args (c : Dev nD) : ∀ a ∈ argRefs, W12 m ρ c (Proc.devRef .tc a) = m ((c : Thread nD τ).loc a) :=
  fun a ha => (W12_of m ρ c a (hostOps1_9_args a ha)).trans (W11_args m ρ c a ha)
/-- After `hostOps1_10`. -/
abbrev W13 : Dev nD → Valuation τ sig (Elt F) := fun c => StableHlo.after hostOps1_10 (W12 m ρ c)
/-- A reference `hostOps1_10` does not write keeps its contents across it. -/
theorem W13_of (c : Dev nD) (r : Ref sig .tc) (h : r ∉ hostOps1_10_W) : W13 m ρ c (Proc.devRef .tc r) = W12 m ρ c (Proc.devRef .tc r) :=
  StableHlo.after_of_writes_sub hostOps1_10 _ hostOps1_10_writes h
/-- Step 13's contents hold the arguments as given. -/
theorem W13_args (c : Dev nD) : ∀ a ∈ argRefs, W13 m ρ c (Proc.devRef .tc a) = m ((c : Thread nD τ).loc a) :=
  fun a ha => (W13_of m ρ c a (hostOps1_10_args a ha)).trans (W12_args m ρ c a ha)
/-- After `hostOps1_11` (region 1's entry). -/
abbrev W14 : Dev nD → Valuation τ sig (Elt F) := fun c => StableHlo.after hostOps1_11 (W13 m ρ c)
/-- A reference `hostOps1_11` does not write keeps its contents across it. -/
theorem W14_of (c : Dev nD) (r : Ref sig .tc) (h : r ∉ hostOps1_11_W) : W14 m ρ c (Proc.devRef .tc r) = W13 m ρ c (Proc.devRef .tc r) :=
  StableHlo.after_of_writes_sub hostOps1_11 _ hostOps1_11_writes h
/-- Step 14's contents hold the arguments as given. -/
theorem W14_args (c : Dev nD) : ∀ a ∈ argRefs, W14 m ρ c (Proc.devRef .tc a) = m ((c : Thread nD τ).loc a) :=
  fun a ha => (W14_of m ρ c a (hostOps1_11_args a ha)).trans (W13_args m ρ c a ha)
/-- The same read at the TensorCore's references (what region 1's proof data take). -/
abbrev V14 : (c : Dev nD) → (b : Ref sig .tc) → Buf (Elt F) ((c : Thread nD τ).loc b) := fun c b => W14 m ρ c b
/-- At region 1's exit: its arrays at what the pipeline leaves (the inputs as entered, each output's write-backs
    folded: `Dat.arrAt … N`), every other buffer as entered (Lib/Pipeline/FrameSuffix.lean `withArrays`). -/
def W15 (c : Dev nD) : Valuation τ sig (Elt F) :=
  Pipeline.withArrays spec1 c (W14 m ρ c) fun w => (dat1 (V14 m ρ) c).arrAt w cfg1.N
/-- The region's arrays hold what its rounds left. -/
theorem W15_arr (c : Dev nD) (w : Fin cfg1.W) :
    W15 m ρ c (Proc.devRef .tc (Pipeline.arrRef spec1 w)) = (dat1 (V14 m ρ) c).arrAt w cfg1.N := by
  unfold W15; exact Pipeline.withArrays_arr spec1 launch1.win.arr_inj c _ _ w
/-- The region leaves every other buffer alone. -/
theorem W15_of_ne (c : Dev nD) (b : Ref sig .tc) (hb : ∀ w, Pipeline.arrRef spec1 w ≠ b) :
    W15 m ρ c (Proc.devRef .tc b) = W14 m ρ c (Proc.devRef .tc b) := by
  unfold W15; exact Pipeline.withArrays_of_ne spec1 c _ _ b hb
/-- A reference that is none of region 1's OUTPUT arrays keeps its entry contents across it: an input window's
    array is never written back (`Dat.arrAt_in`, `A_eq1`); any other buffer is left as is. -/
theorem W15_of (c : Dev nD) (r : Ref sig .tc) (h : ∀ w : Fin cfg1.W, Pipeline.arrRef spec1 w = r → (cfg1.win w).isOut = false) :
    W15 m ρ c (Proc.devRef .tc r) = W14 m ρ c (Proc.devRef .tc r) := by
  by_cases hw : ∃ w : Fin cfg1.W, Pipeline.arrRef spec1 w = r
  · obtain ⟨w, rfl⟩ := hw
    exact (W15_arr m ρ c w).trans (((dat1 (V14 m ρ) c).arrAt_in w (h w rfl) _).trans (A_eq1 (V14 m ρ) c w))
  · exact W15_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
/-- Step 15's contents hold the arguments as given. -/
theorem W15_args (c : Dev nD) : ∀ a ∈ argRefs, W15 m ρ c (Proc.devRef .tc a) = m ((c : Thread nD τ).loc a) :=
  fun a ha => (W15_of m ρ c a (argsIn1 a ha)).trans (W14_args m ρ c a ha)
/-- The same read at the TensorCore's references (region 1's exit contents). -/
abbrev V15 : (c : Dev nD) → (b : Ref sig .tc) → Buf (Elt F) ((c : Thread nD τ).loc b) := fun c b => W15 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V14 m ρ) c).arrAt w cfg1.N = V15 m ρ c (Pipeline.arrRef spec1 w) :=
  (W15_arr m ρ c w).symm
/-- The second region changes none but its arrays. -/
theorem hrest1 (c : Dev nD) : ∀ b, b ∉ Finset.univ.image (Pipeline.arrRef spec1) → V15 m ρ c b = V14 m ρ c b :=
  fun b hb => W15_of_ne m ρ c b fun w e => hb (Finset.mem_image.mpr ⟨w, Finset.mem_univ _, e⟩)

/-- After `hostOps2`. -/
abbrev W16 : Dev nD → Valuation τ sig (Elt F) := fun c => StableHlo.after hostOps2 (W15 m ρ c)
/-- A reference `hostOps2` does not write keeps its contents across it. -/
theorem W16_of (c : Dev nD) (r : Ref sig .tc) (h : r ∉ hostOps2_W) : W16 m ρ c (Proc.devRef .tc r) = W15 m ρ c (Proc.devRef .tc r) :=
  StableHlo.after_of_writes_sub hostOps2 _ hostOps2_writes h
/-- Step 16's contents hold the arguments as given. -/
theorem W16_args (c : Dev nD) : ∀ a ∈ argRefs, W16 m ρ c (Proc.devRef .tc a) = m ((c : Thread nD τ).loc a) :=
  fun a ha => (W16_of m ρ c a (hostOps2_args a ha)).trans (W15_args m ρ c a ha)
/-- After `hostOps2_1`. -/
abbrev W17 : Dev nD → Valuation τ sig (Elt F) := fun c => StableHlo.after hostOps2_1 (W16 m ρ c)
/-- A reference `hostOps2_1` does not write keeps its contents across it. -/
theorem W17_of (c : Dev nD) (r : Ref sig .tc) (h : r ∉ hostOps2_1_W) : W17 m ρ c (Proc.devRef .tc r) = W16 m ρ c (Proc.devRef .tc r) :=
  StableHlo.after_of_writes_sub hostOps2_1 _ hostOps2_1_writes h
/-- Step 17's contents hold the arguments as given. -/
theorem W17_args (c : Dev nD) : ∀ a ∈ argRefs, W17 m ρ c (Proc.devRef .tc a) = m ((c : Thread nD τ).loc a) :=
  fun a ha => (W17_of m ρ c a (hostOps2_1_args a ha)).trans (W16_args m ρ c a ha)
/-- After `hostOps2_2`. -/
abbrev W18 : Dev nD → Valuation τ sig (Elt F) := fun c => StableHlo.after hostOps2_2 (W17 m ρ c)
/-- A reference `hostOps2_2` does not write keeps its contents across it. -/
theorem W18_of (c : Dev nD) (r : Ref sig .tc) (h : r ∉ hostOps2_2_W) : W18 m ρ c (Proc.devRef .tc r) = W17 m ρ c (Proc.devRef .tc r) :=
  StableHlo.after_of_writes_sub hostOps2_2 _ hostOps2_2_writes h
/-- Step 18's contents hold the arguments as given. -/
theorem W18_args (c : Dev nD) : ∀ a ∈ argRefs, W18 m ρ c (Proc.devRef .tc a) = m ((c : Thread nD τ).loc a) :=
  fun a ha => (W18_of m ρ c a (hostOps2_2_args a ha)).trans (W17_args m ρ c a ha)

/-! ### The arguments end as launched: no host stretch writes one and no region may change one (a region reads it
    through an input window or bypasses it) -/

/-- At the end argument 0 is as given. -/
theorem W18_main_arg0 (c : Dev nD) : W18 m ρ c (Proc.devRef .tc main_arg0) = m ((c : Thread nD τ).loc main_arg0) :=
  W18_args m ρ c main_arg0 (by decide)
/-- At the end argument 1 is as given. -/
theorem W18_main_arg1 (c : Dev nD) : W18 m ρ c (Proc.devRef .tc main_arg1) = m ((c : Thread nD τ).loc main_arg1) :=
  W18_args m ρ c main_arg1 (by decide)
/-- At the end argument 2 is as given. -/
theorem W18_main_arg2 (c : Dev nD) : W18 m ρ c (Proc.devRef .tc main_arg2) = m ((c : Thread nD τ).loc main_arg2) :=
  W18_args m ρ c main_arg2 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V14 m ρ) c
/-- No loop needs a measure. -/
abbrev 𝒱₀ : Variants := Variants.none
/-- No core owes another anything: no level is assigned. -/
abbrev L : GSem nD τ sig → Finset Unit := fun _ => ∅
/-- No level is used. -/
abbrev lv : GSem nD τ sig → Unit → ℕ := fun _ _ => 0
/-- What rides beside the buffers through every segment: the core's generator register at some state (the class-A
    invariant takes it in and gives it back) and its `owes`, at nothing. -/
abbrev R (c : Dev nD) : sProp (MT nD τ sig Unit (Elt F) ℕ (UR sig nD τ) ℕ) := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W18`, the generator register at some state. -/
abbrev Tₙ (c : Dev nD) : sProp (MT nD τ sig Unit (Elt F) ℕ (UR sig nD τ) ℕ) := iprop(StableHlo.held (c : Thread nD τ) (Pipeline.ucRefs τ sig) (W18 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W14`, left at `W15`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V14 m ρ) c).loose
  hwaits := Pipeline.hwaits_of_owed_zero _ _ _ _ L lv 1 fun _ _ => rfl
  pre c := iprop(StableHlo.held (c : Thread nD τ) (Pipeline.ucRefs τ sig) (W14 m ρ c) ∗ R c)
  post c := iprop(StableHlo.held (c : Thread nD τ) (Pipeline.ucRefs τ sig) (W15 m ρ c) ∗ R c)
  X c := iprop(∃ r, prngReg c r)
  Y c := iprop(∃ r, prngReg c r)
  Z c := Pipeline.unscopedRest (Ix := Unit) (Name := ℕ) (U := UR sig nD τ) (Lvl := ℕ) spec1 c (V14 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V14 m ρ c) (A_eq1 (V14 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V14 m ρ c) (V15 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 18 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .host (hseg hostOps1_4 hostOps1_4_sub hostOps1_4_fresh (W6 m ρ)),
    .host (hseg hostOps1_5 hostOps1_5_sub hostOps1_5_fresh (W7 m ρ)),
    .host (hseg hostOps1_6 hostOps1_6_sub hostOps1_6_fresh (W8 m ρ)),
    .host (hseg hostOps1_7 hostOps1_7_sub hostOps1_7_fresh (W9 m ρ)),
    .host (hseg hostOps1_8 hostOps1_8_sub hostOps1_8_fresh (W10 m ρ)),
    .host (hseg hostOps1_9 hostOps1_9_sub hostOps1_9_fresh (W11 m ρ)),
    .host (hseg hostOps1_10 hostOps1_10_sub hostOps1_10_fresh (W12 m ρ)),
    .host (hseg hostOps1_11 hostOps1_11_sub hostOps1_11_fresh (W13 m ρ)),
    .region (reg1 m ρ),
    .host (hseg hostOps2 hostOps2_sub hostOps2_fresh (W15 m ρ)),
    .host (hseg hostOps2_1 hostOps2_1_sub hostOps2_1_fresh (W16 m ρ)),
    .host (hseg hostOps2_2 hostOps2_2_sub hostOps2_2_fresh (W17 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: every weakly fair execution of @main terminates, nothing faulting, and leaves every unscoped buffer at the
    last boundary's contents `W18` and every semaphore at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W18 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h hz => ⟨h, funext fun g => hz g (.inr (no_unscoped g.2))⟩)

/-- The arguments end as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨(fun c =>
      ⟨(h.1 c _ (mem_uc main_arg0 (by decide))).trans (W18_main_arg0 m ρ c),
       (h.1 c _ (mem_uc main_arg1 (by decide))).trans (W18_main_arg1 m ρ c),
       (h.1 c _ (mem_uc main_arg2 (by decide))).trans (W18_main_arg2 m ρ c)⟩), h.2⟩) (run_all m ρ)

end Cert.KernelIdeal.Whole

end
-- ==== Proof.ReferenceFrame.lean ====
/- The reference's frame: its run ends with the arguments as launched, read off the fold of its operations. -/
module

public import proofs.«01_k».proof.Proof.Gen.ReferenceIdeal
public import proofs.«01_k».proof.Proof.Gen.ReferenceIdeal.Run

@[expose] public section

set_option maxRecDepth 16384

noncomputable section

namespace Cert.ReferenceIdeal.Frm

open Cert.ReferenceIdeal.Gen Cert.ReferenceIdeal.Value
open Idealize.ShloMosaic Idealize.ShloMosaic.TcCoe Idealize.ShloMosaic.StableHlo
open Idealize.SL.Sem

variable {F : FTy → Type} [FloatOps F]

/-- The three arguments. -/
abbrev argRefs : List (Ref sig .tc) := [main_arg0, main_arg1, main_arg2]

/-- A stretch that writes no argument. -/
def Keeps (ops : List (HloOp τ sig (Elt F))) : Prop :=
  ∀ (V : Valuation τ sig (Elt F)), ∀ a ∈ argRefs, after ops V (Proc.devRef .tc a) = V (Proc.devRef .tc a)

/-- `keeps_of` writes only the references listed. -/
theorem keeps_of_writes {ops : List (HloOp τ sig (Elt F))} {W : List (Ref sig .tc)}
    (h : ops.Forall fun op => op.writes ⊆ (W.map (Proc.devRef (τ := τ) .tc)).toFinset) (hW : ∀ a ∈ argRefs, a ∉ W) : Keeps ops :=
  fun V a ha => after_of_writes_sub ops V h (hW a ha)

/-- Stretches that write no argument, one after the other. -/
theorem afterL_keeps : ∀ (items : List (List (HloOp τ sig (Elt F)))), (∀ ops ∈ items, Keeps ops) →
    ∀ (V : Valuation τ sig (Elt F)), ∀ a ∈ argRefs, afterL items V (Proc.devRef .tc a) = V (Proc.devRef .tc a)
  | [], _, _, _, _ => rfl
  | ops :: rest, h, V, a, ha => by
    rw [afterL_cons, afterL_keeps rest (fun o ho => h o (List.mem_cons_of_mem _ ho)) _ a ha]
    exact h ops List.mem_cons_self V a ha

/-- The references `hostOps0_15` writes. -/
abbrev hostOps0_15_W : List (Ref sig .tc) := [main_cst_28, main_v159, main_v160, main_v161, main_cst_29]
/-- `hostOps0_15` writes only the references listed. -/
theorem hostOps0_15_writes : (hostOps0_15 : List (HloOp τ sig (Elt F))).Forall fun op => op.writes ⊆ (hostOps0_15_W.map (Proc.devRef (τ := τ) .tc)).toFinset :=
  StableHlo.forall_writes_sub_of_map rfl
/-- The references `hostOps0_16` writes. -/
abbrev hostOps0_16_W : List (Ref sig .tc) := [main_call8_v0, main_call8_v1, main_v162]
/-- `hostOps0_16` writes only the references listed. -/
theorem hostOps0_16_writes : (hostOps0_16 : List (HloOp τ sig (Elt F))).Forall fun op => op.writes ⊆ (hostOps0_16_W.map (Proc.devRef (τ := τ) .tc)).toFinset :=
  StableHlo.forall_writes_sub_of_map rfl
/-- The references `hostOps0_17` writes. -/
abbrev hostOps0_17_W : List (Ref sig .tc) := [main_v163, main_v164, main_values_30, main_indices_31, main_c_32, main_v165, main_v166, main_c_33, main_v167, main_v168, main_v169, main_v170, main_v171, main_c_34]
/-- `hostOps0_17` writes only the references listed. -/
theorem hostOps0_17_writes : (hostOps0_17 : List (HloOp τ sig (Elt F))).Forall fun op => op.writes ⊆ (hostOps0_17_W.map (Proc.devRef (τ := τ) .tc)).toFinset :=
  StableHlo.forall_writes_sub_of_map rfl
/-- The references `hostOps0_18` writes. -/
abbrev hostOps0_18_W : List (Ref sig .tc) := [main_call9_v0, main_call9_v1, main_call9_v2, main_call9_v3, main_call9_v4, main_call9_v5, main_call9_v6, main_call9_v7, main_call9_v8, main_call9_c, main_call9_v9, main_call9_v10, main_call9_v11, main_call9_c_0, main_call9_v12, main_call9_v13, main_v172]
/-- `hostOps0_18` writes only the references listed. -/
theorem hostOps0_18_writes : (hostOps0_18 : List (HloOp τ sig (Elt F))).Forall fun op => op.writes ⊆ (hostOps0_18_W.map (Proc.devRef (τ := τ) .tc)).toFinset :=
  StableHlo.forall_writes_sub_of_map rfl
/-- The references `hostOps0_19` writes. -/
abbrev hostOps0_19_W : List (Ref sig .tc) := [main_c_35, main_v173, main_v174]
/-- `hostOps0_19` writes only the references listed. -/
theorem hostOps0_19_writes : (hostOps0_19 : List (HloOp τ sig (Elt F))).Forall fun op => op.writes ⊆ (hostOps0_19_W.map (Proc.devRef (τ := τ) .tc)).toFinset :=
  StableHlo.forall_writes_sub_of_map rfl

/-- `hostOps0` leaves the arguments alone. -/
theorem hostOps0_keeps : Keeps (hostOps0 : List (HloOp τ sig (Elt F))) := keeps_of_writes hostOps0_writes (by decide +kernel)
/-- `hostOps0_1` leaves the arguments alone. -/
theorem hostOps0_1_keeps : Keeps (hostOps0_1 : List (HloOp τ sig (Elt F))) := keeps_of_writes hostOps0_1_writes (by decide +kernel)
/-- `hostOps0_2` leaves the arguments alone. -/
theorem hostOps0_2_keeps : Keeps (hostOps0_2 : List (HloOp τ sig (Elt F))) := keeps_of_writes hostOps0_2_writes (by decide +kernel)
/-- `hostOps0_3` leaves the arguments alone. -/
theorem hostOps0_3_keeps : Keeps (hostOps0_3 : List (HloOp τ sig (Elt F))) := keeps_of_writes hostOps0_3_writes (by decide +kernel)
/-- `hostOps0_4` leaves the arguments alone. -/
theorem hostOps0_4_keeps : Keeps (hostOps0_4 : List (HloOp τ sig (Elt F))) := keeps_of_writes hostOps0_4_writes (by decide +kernel)
/-- `hostOps0_5` leaves the arguments alone. -/
theorem hostOps0_5_keeps : Keeps (hostOps0_5 : List (HloOp τ sig (Elt F))) := keeps_of_writes hostOps0_5_writes (by decide +kernel)
/-- `hostOps0_6` leaves the arguments alone. -/
theorem hostOps0_6_keeps : Keeps (hostOps0_6 : List (HloOp τ sig (Elt F))) := keeps_of_writes hostOps0_6_writes (by decide +kernel)
/-- `hostOps0_7` leaves the arguments alone. -/
theorem hostOps0_7_keeps : Keeps (hostOps0_7 : List (HloOp τ sig (Elt F))) := keeps_of_writes hostOps0_7_writes (by decide +kernel)
/-- `hostOps0_8` leaves the arguments alone. -/
theorem hostOps0_8_keeps : Keeps (hostOps0_8 : List (HloOp τ sig (Elt F))) := keeps_of_writes hostOps0_8_writes (by decide +kernel)
/-- `hostOps0_9` leaves the arguments alone. -/
theorem hostOps0_9_keeps : Keeps (hostOps0_9 : List (HloOp τ sig (Elt F))) := keeps_of_writes hostOps0_9_writes (by decide +kernel)
/-- `hostOps0_10` leaves the arguments alone. -/
theorem hostOps0_10_keeps : Keeps (hostOps0_10 : List (HloOp τ sig (Elt F))) := keeps_of_writes hostOps0_10_writes (by decide +kernel)
/-- `hostOps0_11` leaves the arguments alone. -/
theorem hostOps0_11_keeps : Keeps (hostOps0_11 : List (HloOp τ sig (Elt F))) := keeps_of_writes hostOps0_11_writes (by decide +kernel)
/-- `hostOps0_12` leaves the arguments alone. -/
theorem hostOps0_12_keeps : Keeps (hostOps0_12 : List (HloOp τ sig (Elt F))) := keeps_of_writes hostOps0_12_writes (by decide +kernel)
/-- `hostOps0_13` leaves the arguments alone. -/
theorem hostOps0_13_keeps : Keeps (hostOps0_13 : List (HloOp τ sig (Elt F))) := keeps_of_writes hostOps0_13_writes (by decide +kernel)
/-- `hostOps0_14` leaves the arguments alone. -/
theorem hostOps0_14_keeps : Keeps (hostOps0_14 : List (HloOp τ sig (Elt F))) := keeps_of_writes hostOps0_14_writes (by decide +kernel)
/-- `while0Ops0` leaves the arguments alone. -/
theorem while0Ops0_keeps : Keeps (while0Ops0 : List (HloOp τ sig (Elt F))) := keeps_of_writes while0Ops0_writes (by decide +kernel)
/-- `while0Ops0_1` leaves the arguments alone. -/
theorem while0Ops0_1_keeps : Keeps (while0Ops0_1 : List (HloOp τ sig (Elt F))) := keeps_of_writes while0Ops0_1_writes (by decide +kernel)
/-- `while0Ops0_2` leaves the arguments alone. -/
theorem while0Ops0_2_keeps : Keeps (while0Ops0_2 : List (HloOp τ sig (Elt F))) := keeps_of_writes while0Ops0_2_writes (by decide +kernel)
/-- `hostOps0_15` leaves the arguments alone. -/
theorem hostOps0_15_keeps : Keeps (hostOps0_15 : List (HloOp τ sig (Elt F))) := keeps_of_writes hostOps0_15_writes (by decide +kernel)
/-- `hostOps0_16` leaves the arguments alone. -/
theorem hostOps0_16_keeps : Keeps (hostOps0_16 : List (HloOp τ sig (Elt F))) := keeps_of_writes hostOps0_16_writes (by decide +kernel)
/-- `hostOps0_17` leaves the arguments alone. -/
theorem hostOps0_17_keeps : Keeps (hostOps0_17 : List (HloOp τ sig (Elt F))) := keeps_of_writes hostOps0_17_writes (by decide +kernel)
/-- `hostOps0_18` leaves the arguments alone. -/
theorem hostOps0_18_keeps : Keeps (hostOps0_18 : List (HloOp τ sig (Elt F))) := keeps_of_writes hostOps0_18_writes (by decide +kernel)
/-- `hostOps0_19` leaves the arguments alone. -/
theorem hostOps0_19_keeps : Keeps (hostOps0_19 : List (HloOp τ sig (Elt F))) := keeps_of_writes hostOps0_19_writes (by decide +kernel)
/-- `condOps` leaves the arguments alone. -/
theorem condOps_keeps : Keeps (condOps : List (HloOp τ sig (Elt F))) := keeps_of_writes condOps_writes (by decide +kernel)

/-- `preI` leaves the arguments alone. -/
theorem preI_keeps : ∀ ops ∈ (preI (F := F)), Keeps ops := by
  intro ops h
  simp only [preI, List.mem_cons, List.not_mem_nil, or_false] at h
  rcases h with rfl | rfl | rfl | rfl | rfl | rfl | rfl | rfl | rfl | rfl | rfl | rfl | rfl | rfl | rfl
  · exact hostOps0_keeps
  · exact hostOps0_1_keeps
  · exact hostOps0_2_keeps
  · exact hostOps0_3_keeps
  · exact hostOps0_4_keeps
  · exact hostOps0_5_keeps
  · exact hostOps0_6_keeps
  · exact hostOps0_7_keeps
  · exact hostOps0_8_keeps
  · exact hostOps0_9_keeps
  · exact hostOps0_10_keeps
  · exact hostOps0_11_keeps
  · exact hostOps0_12_keeps
  · exact hostOps0_13_keeps
  · exact hostOps0_14_keeps

/-- `bodyI` leaves the arguments alone. -/
theorem bodyI_keeps : ∀ ops ∈ (bodyI (F := F)), Keeps ops := by
  intro ops h
  simp only [bodyI, List.mem_cons, List.not_mem_nil, or_false] at h
  rcases h with rfl | rfl | rfl
  · exact while0Ops0_keeps
  · exact while0Ops0_1_keeps
  · exact while0Ops0_2_keeps

/-- `postI` leaves the arguments alone. -/
theorem postI_keeps : ∀ ops ∈ (postI (F := F)), Keeps ops := by
  intro ops h
  simp only [postI, List.mem_cons, List.not_mem_nil, or_false] at h
  rcases h with rfl | rfl | rfl | rfl | rfl
  · exact hostOps0_15_keeps
  · exact hostOps0_16_keeps
  · exact hostOps0_17_keeps
  · exact hostOps0_18_keeps
  · exact hostOps0_19_keeps

variable (m : (ℓ : Loc nD τ sig) → Buf (Elt F) ℓ) (ρ : Dev nD → PrngReg)

/-- At every trip the arguments are as given. -/
theorem atTrip_keeps (c : Dev nD) : ∀ (k : ℕ), ∀ a ∈ argRefs,
    atTrip condOps bodyI (entryContents preI m) k c (Proc.devRef .tc a) = m ((c.tc : Thread nD τ).loc a)
  | 0, a, ha => afterL_keeps preI preI_keeps _ a ha
  | k + 1, a, ha => by
    rw [atTrip_succ, afterL_keeps bodyI bodyI_keeps _ a ha, condOps_keeps _ a ha]
    exact atTrip_keeps c k a ha

/-- At the end the arguments are as given. -/
theorem final_keeps (c : Dev nD) : ∀ a ∈ argRefs,
    finalContents condOps preI bodyI postI 512 m c (Proc.devRef .tc a) = m ((c.tc : Thread nD τ).loc a) := fun a ha => by
  unfold finalContents
  rw [afterL_keeps postI postI_keeps _ a ha, condOps_keeps _ a ha]
  exact atTrip_keeps m c 512 a ha

/-- The reference has no semaphore. -/
theorem no_sem {α : Type} [Zero α] (f : GSem nD τ sig → α) : f = fun _ => 0 :=
  funext fun g => by
    rcases g with ⟨_, s | s⟩
    · exact absurd s.2 (Nat.not_lt_zero _)
    · exact absurd s.2 (Nat.not_lt_zero _)

/-- The reference runs, its arguments end as launched, and every semaphore (there is none) is at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨(h c main_arg0 rfl).trans (final_keeps m c _ (by decide)),
     (h c main_arg1 rfl).trans (final_keeps m c _ (by decide)),
     (h c main_arg2 rfl).trans (final_keeps m c _ (by decide))⟩, no_sem _⟩) (run_fold m ρ)

end Cert.ReferenceIdeal.Frm

end
-- ==== Proof.TopK.lean ====
/- The stable top-k in positions, and the chunked selection: the best of each chunk, and then the best of those, are the
   best of the whole, in the same order. -/
module

public import Idealize.ShloMosaic.Lib.SortPrefix
public import Idealize.ShloMosaic.PureOps.Ideal

@[expose] public section

noncomputable section

namespace Cert.TopK

open Idealize.ShloMosaic

/-- Greater key first. -/
def byKey {n : Nat} (key : Fin n → EReal) (k k' : Fin n) : Bool := decide (key k' < key k)

/-- Greater key first, the earlier position first among equal keys. -/
def byKeyPos {n : Nat} (key : Fin n → EReal) (k k' : Fin n) : Bool :=
  decide (key k' < key k) || (decide (key k = key k') && decide (k < k'))

/-- The position of the `k`-th greatest key, equal keys in position order. -/
def rank {n : Nat} (key : Fin n → EReal) : Fin n → Fin n := sortedFrom (byKey key)

/-- Key, then position, is a strict total order. -/
theorem strict {n : Nat} (key : Fin n → EReal) : StrictTotalBefore (byKeyPos key) :=
  StrictTotalBefore.of_key_then_position (fun a b : EReal => decide (b < a)) key (by simp)
    (fun a b c hab hbc => by
      simp only [decide_eq_true_eq] at *
      exact lt_trans hbc hab)
    (fun a b => by
      simp only [decide_eq_true_eq]
      rcases lt_trichotomy a b with h | h | h
      · exact Or.inr (Or.inr h)
      · exact Or.inr (Or.inl h)
      · exact Or.inl h)

/-- On an increasing list of positions the stable sort by the key alone already puts equal keys in position order. -/
theorem stableSort_byKey {n : Nat} (key : Fin n → EReal) (l : List (Fin n)) (hl : l.Pairwise (· < ·)) :
    stableSort (byKey key) l = stableSort (byKeyPos key) l := by
  induction l with
  | nil => rfl
  | cons a l ih =>
    rw [List.pairwise_cons] at hl
    unfold stableSort
    rw [ih hl.2]
    refine insertBefore_congr _ _ a _ fun b hb => ?_
    have hab : a < b := hl.1 b ((perm_stableSort (byKeyPos key) l).mem_iff.mp hb)
    simp [byKey, byKeyPos, not_lt_of_gt hab]

/-- The top-k's positions, read under the strict total order. -/
theorem rank_eq {n : Nat} (key : Fin n → EReal) : rank key = sortedFrom (byKeyPos key) := by
  funext k
  have h : sortPositions n (byKey key) = sortPositions n (byKeyPos key) :=
    stableSort_byKey key (List.finRange n) (List.pairwise_lt_finRange n)
  unfold rank sortedFrom
  simp only [List.get_eq_getElem, Fin.val_cast]
  congr 1

/-- Of two sorted positions the later is not before the earlier. -/
theorem ordered {n : Nat} {B : Fin n → Fin n → Bool} (hB : StrictTotalBefore B) {i j : Fin n} (h : i < j) :
    B (sortedFrom B j) (sortedFrom B i) = false :=
  sortedFrom_noInversion B B (fun a b h => hB.asymm a b h) (fun _ _ h => h) hB.negTrans i j h

/-- Among candidates `g` such that every position left out is beaten by `k` of them, the first `k` of the candidates'
    sort are the first `k` of the whole sort. -/
theorem two_stage {n M k : Nat} {B : Fin n → Fin n → Bool} (hB : StrictTotalBefore B) (g : Fin M → Fin n)
    (hg : Function.Injective g) (hk : k ≤ M) (hkn : k ≤ n)
    (hout : ∀ p, (∀ u, g u ≠ p) → ∃ e : Fin k → Fin M, Function.Injective e ∧ ∀ r, B (g (e r)) p = true) (i : Fin k) :
    sortedFrom B (i.castLE hkn) = g (sortedFrom (fun u v => B (g u) (g v)) (i.castLE hk)) := by
  have hB2 : StrictTotalBefore (fun u v : Fin M => B (g u) (g v)) :=
    ⟨fun a => hB.irrefl _, fun a b c => hB.trans _ _ _, fun a b h => hB.total _ _ (fun e => h (hg e))⟩
  refine hB.sortedFrom_eq_of_prefix hkn
    (fun i : Fin k => g (sortedFrom (fun u v => B (g u) (g v)) (i.castLE hk))) ?_ ?_ ?_ i
  · intro a b h
    have := sortedFrom_injective _ (hg h)
    exact Fin.ext (by simpa using congrArg Fin.val this)
  · intro a b h
    exact ordered hB2 (i := a.castLE hk) (j := b.castLE hk) h
  · intro i p hp
    by_cases hr : ∃ u, g u = p
    · obtain ⟨u, rfl⟩ := hr
      obtain ⟨v, rfl⟩ := sortedFrom_surjective (fun u v : Fin M => B (g u) (g v)) u
      have hv : ¬ v.val < k := fun h => hp ⟨v.val, h⟩ rfl
      exact ordered hB2 (i := i.castLE hk) (j := v) (by
        have := i.isLt
        simp only [Fin.lt_def, Fin.val_castLE]
        omega)
    · have hne : ∀ u, g u ≠ p := fun u h => hr ⟨u, h⟩
      obtain ⟨e, he, hbe⟩ := hout p hne
      by_contra hc
      have hc' : B p (g (sortedFrom (fun u v => B (g u) (g v)) (i.castLE hk))) = true := by
        simpa using hc
      have hall : ∀ r : Fin k, ∃ v : Fin i.val, ∃ h : v.val < M,
          sortedFrom (fun u v : Fin M => B (g u) (g v)) ⟨v.val, h⟩ = e r := by
        intro r
        have hbr : B (g (e r)) (g (sortedFrom (fun u v => B (g u) (g v)) (i.castLE hk))) = true :=
          hB.trans _ _ _ (hbe r) hc'
        obtain ⟨v, hv⟩ := sortedFrom_surjective (fun u v : Fin M => B (g u) (g v)) (e r)
        have hlt : v.val < i.val := by
          by_contra hn
          rcases Nat.lt_or_eq_of_le (Nat.le_of_not_lt hn) with h | h
          · have := ordered hB2 (i := i.castLE hk) (j := v) h
            rw [hv] at this
            rw [hbr] at this
            exact absurd this (by decide)
          · have hvi : v = i.castLE hk := Fin.ext h.symm
            rw [← hv, hvi, hB.irrefl] at hbr
            exact absurd hbr (by decide)
        exact ⟨⟨v.val, hlt⟩, v.isLt, hv⟩
      choose f hf hfe using hall
      have hinj : Function.Injective f := by
        intro a b h
        refine he ?_
        rw [← hfe a, ← hfe b]
        simp only [h]
      have := Fintype.card_le_of_injective f hinj
      simp only [Fintype.card_fin] at this
      exact absurd i.isLt (by omega)

section Chunks

variable (key : Fin 20000 → EReal)

/-- Position `q` of chunk `c` in the whole. -/
def loc (c : Fin 5) (q : Fin 4000) : Fin 20000 := ⟨4000 * c.val + q.val, by omega⟩

/-- The chunk of a candidate. -/
def chunk (u : Fin 2560) : Fin 5 := ⟨u.val / 512, by omega⟩

/-- The rank of a candidate in its chunk. -/
def slot (u : Fin 2560) : Fin 512 := ⟨u.val % 512, by omega⟩

/-- Candidate `u`'s position in its chunk: the chunk's `slot u`-th greatest. -/
def inChunk (u : Fin 2560) : Fin 4000 :=
  rank (fun q => key (loc (chunk u) q)) ((slot u).castLE (by omega))

/-- Candidate `u`'s position in the whole. -/
def cand (u : Fin 2560) : Fin 20000 := loc (chunk u) (inChunk key u)

/-- Different ranks are different positions. -/
theorem rank_injective {n : Nat} (f : Fin n → EReal) : Function.Injective (rank f) := sortedFrom_injective _

/-- Within a chunk the order is that of the whole. -/
theorem loc_order (c : Fin 5) (q q' : Fin 4000) :
    byKeyPos key (loc c q) (loc c q') = byKeyPos (fun q => key (loc c q)) q q' := by
  unfold byKeyPos
  congr 3
  simp only [loc, Fin.lt_def, eq_iff_iff]
  omega

/-- Different survivors are different positions. -/
theorem cand_injective : Function.Injective (cand key) := by
  intro u v h
  have h1 := congrArg Fin.val h
  simp only [cand, loc, chunk] at h1
  have hu := (inChunk key u).isLt
  have hv := (inChunk key v).isLt
  have hc : u.val / 512 = v.val / 512 := by omega
  have hq : inChunk key u = inChunk key v := Fin.ext (by omega)
  have hcc : chunk u = chunk v := Fin.ext hc
  unfold inChunk at hq
  rw [hcc] at hq
  have := congrArg Fin.val (rank_injective _ hq)
  simp only [slot, Fin.val_castLE] at this
  exact Fin.ext (by omega)

/-- Among equal keys the candidates stand in the order of their positions in the whole. -/
theorem cand_lt (u v : Fin 2560) (h : u < v) (he : key (cand key u) = key (cand key v)) :
    cand key u < cand key v := by
  have hu := (inChunk key u).isLt
  have hv := (inChunk key v).isLt
  rw [Fin.lt_def] at h ⊢
  by_cases hc : u.val / 512 = v.val / 512
  · have hcc : chunk u = chunk v := Fin.ext hc
    have hs : (slot u).castLE (by omega : 512 ≤ 4000) < (slot v).castLE (by omega : 512 ≤ 4000) := by
      simp only [Fin.lt_def, slot, Fin.val_castLE]
      omega
    have ho := ordered (strict fun q => key (loc (chunk v) q)) hs
    rw [← rank_eq] at ho
    have hne : inChunk key u ≠ inChunk key v := fun e => by
      have e2 : cand key u = cand key v := by unfold cand; rw [hcc, e]
      have := congrArg Fin.val (cand_injective key e2)
      omega
    have ho' : byKeyPos (fun q => key (loc (chunk v) q)) (inChunk key v) (inChunk key u) = false := by
      have e1 : inChunk key u = rank (fun q => key (loc (chunk v) q)) ((slot u).castLE (by omega)) := by
        unfold inChunk; rw [hcc]
      rw [e1]
      exact ho
    have hk : key (loc (chunk v) (inChunk key v)) = key (loc (chunk v) (inChunk key u)) := by
      have := he.symm
      unfold cand at this
      rw [hcc] at this
      exact this
    simp only [byKeyPos, hk, lt_irrefl, decide_false, Bool.false_or, decide_true, Bool.true_and,
      decide_eq_false_iff_not, not_lt] at ho'
    have hlt : (inChunk key u).val < (inChunk key v).val := by
      rw [Fin.le_def] at ho'
      exact lt_of_le_of_ne ho' (fun e => hne (Fin.ext e))
    simp only [cand, loc, chunk, hc]
    omega
  · simp only [cand, loc, chunk]
    omega

/-- Among the survivors the order is that of the whole. -/
theorem cand_order (u v : Fin 2560) :
    byKeyPos key (cand key u) (cand key v) = byKeyPos (fun u => key (cand key u)) u v := by
  unfold byKeyPos
  by_cases he : key (cand key u) = key (cand key v)
  · have hiff : (cand key u < cand key v) ↔ u < v := by
      constructor
      · intro h
        rcases lt_trichotomy u v with h1 | h1 | h1
        · exact h1
        · subst h1; exact absurd h (lt_irrefl _)
        · exact absurd h (not_lt_of_gt (cand_lt key v u h1 he.symm))
      · exact fun h => cand_lt key u v h he
    simp only [he, hiff]
  · simp [he]

/-- A position that is no candidate is beaten by its chunk's 512 candidates. -/
theorem cand_out (p : Fin 20000) (hp : ∀ u, cand key u ≠ p) :
    ∃ e : Fin 512 → Fin 2560, Function.Injective e ∧ ∀ r, byKeyPos key (cand key (e r)) p = true := by
  let c : Fin 5 := ⟨p.val / 4000, by omega⟩
  let q : Fin 4000 := ⟨p.val % 4000, by omega⟩
  have hpq : p = loc c q := Fin.ext (by simp only [loc, c, q]; omega)
  let e : Fin 512 → Fin 2560 := fun r => ⟨512 * c.val + r.val, by omega⟩
  have hec : ∀ r, chunk (e r) = c := fun r => Fin.ext (by simp only [chunk, e]; omega)
  have hes : ∀ r, slot (e r) = r := fun r => Fin.ext (by simp only [slot, e]; omega)
  have hcand : ∀ r, cand key (e r) = loc c (rank (fun q => key (loc c q)) (r.castLE (by omega))) := fun r => by
    unfold cand inChunk
    rw [hec, hes]
  refine ⟨e, fun a b h => Fin.ext (by have := congrArg Fin.val h; simp only [e] at this; omega), fun r => ?_⟩
  obtain ⟨w, hw⟩ := sortedFrom_surjective (byKeyPos fun q => key (loc c q)) q
  rw [← rank_eq] at hw
  have hwk : ¬ w.val < 512 := fun h => by
    refine hp (e ⟨w.val, h⟩) ?_
    rw [hcand, hpq, ← hw]
    rfl
  have ho := ordered (strict fun q => key (loc c q)) (i := r.castLE (by omega)) (j := w) (by
    simp only [Fin.lt_def, Fin.val_castLE]; omega)
  rw [← rank_eq, hw] at ho
  have hne : rank (fun q => key (loc c q)) (r.castLE (by omega)) ≠ q := fun h => by
    refine hp (e r) ?_
    rw [hcand, hpq, h]
  rw [hcand, hpq, loc_order]
  rcases (strict fun q => key (loc c q)).total _ _ hne with h | h
  · exact h
  · rw [h] at ho; exact absurd ho (by decide)

/-- The chunked selection's `i`-th position is the direct selection's. -/
theorem rank_chunked (i : Fin 512) :
    rank key (i.castLE (by omega)) = cand key (rank (fun u => key (cand key u)) (i.castLE (by omega))) := by
  have hB : (fun u v => byKeyPos key (cand key u) (cand key v)) = byKeyPos (fun u => key (cand key u)) :=
    funext fun u => funext fun v => cand_order key u v
  rw [rank_eq, rank_eq, ← hB]
  exact two_stage (strict key) (cand key) (cand_injective key) (by omega) (by omega) (cand_out key) i

end Chunks

end Cert.TopK
-- ==== Proof.Spec.lean ====
module
public import proofs.«01_k».proof.Proof.TopK
public import Idealize.ShloMosaic.PureOps.Ideal
@[expose] public section
noncomputable section
namespace Cert.Spec
open Idealize.ShloMosaic Cert.TopK

/-- A 32-bit pattern, read as the extended real it stands for. -/
abbrev cb (b : BitVec 32) : EReal := Ideal.ofBits .f32 b

variable (L : Fin 20000 → Fin 81 → EReal) (D : Fin 20000 → Fin 324 → EReal) (B : Fin 20000 → Fin 4 → EReal)

/-- The largest logit of a row. -/
def rmax (n : Fin 20000) : EReal := Finset.fold max (cb 0xFF800000#32) (fun k => L n k) Finset.univ

/-- The softmax of a row of logits. -/
def prob (n : Fin 20000) (c : Fin 81) : EReal :=
  Ideal.div (Ideal.exp (L n c - rmax L n)) (∑ k, Ideal.exp (L n k - rmax L n))

/-- Column of the regression array that holds delta `q` of class `c`. -/
def col (c : Fin 81) (q : Fin 4) : Fin 324 := ⟨c.val * 4 + q.val, by omega⟩

/-- Width (`a = 0`) or height (`a = 1`) of a proposal. -/
def ext (n : Fin 20000) (a : Fin 2) : EReal := B n ⟨a.val + 2, by omega⟩ - B n ⟨a.val, by omega⟩

/-- Centre of a proposal along one axis. -/
def ctr (n : Fin 20000) (a : Fin 2) : EReal := B n ⟨a.val, by omega⟩ + cb 0x3F000000#32 * ext B n a

/-- Centre of the decoded box along one axis. -/
def pctr (n : Fin 20000) (c : Fin 81) (a : Fin 2) : EReal :=
  Ideal.div (D n (col c ⟨a.val, by omega⟩)) (cb 0x41200000#32) * ext B n a + ctr B n a

/-- Extent of the decoded box along one axis. -/
def pext (n : Fin 20000) (c : Fin 81) (a : Fin 2) : EReal :=
  Ideal.exp (min (Ideal.div (D n (col c ⟨a.val + 2, by omega⟩)) (cb 0x40A00000#32)) (cb 0x40845349#32)) * ext B n a

/-- Low edge of the decoded box along one axis. -/
def lowRaw (n : Fin 20000) (c : Fin 81) (a : Fin 2) : EReal :=
  pctr D B n c a - cb 0x3F000000#32 * pext D B n c a

/-- High edge of the decoded box along one axis. -/
def highRaw (n : Fin 20000) (c : Fin 81) (a : Fin 2) : EReal :=
  pctr D B n c a + cb 0x3F000000#32 * pext D B n c a

/-- A coordinate held within the image. -/
def clipTo (hi : BitVec 32) (x : EReal) : EReal := min (cb hi) (max (cb 0x00000000#32) x)

/-- The four clipped coordinates of the decoded box of proposal `n` and class `c`. -/
def box (n : Fin 20000) (c : Fin 81) : Fin 4 → EReal
  | 0 => clipTo 0x44A6A000#32 (lowRaw D B n c 0)
  | 1 => clipTo 0x44480000#32 (lowRaw D B n c 1)
  | 2 => clipTo 0x44A6A000#32 (highRaw D B n c 0)
  | 3 => clipTo 0x44480000#32 (highRaw D B n c 1)

/-- The class, background left out, as a column of the logits. -/
def up (c : Fin 80) : Fin 81 := ⟨1 + c.val, by omega⟩

/-- A score, or minus one where it is not above the threshold. -/
def thr (x : EReal) : EReal := if cb 0x3D4CCCCD#32 < x then x else cb 0xBF800000#32

/-- The thresholded scores of one class. -/
def sc (c : Fin 80) (n : Fin 20000) : EReal := thr (prob L n (up c))

/-- The proposal in place `r` of the class's ordering by score. -/
def pos (c : Fin 80) (r : Fin 512) : Fin 20000 := rank (sc L c) (r.castLE (by decide))

/-- The score in place `r`. -/
def ts (c : Fin 80) (r : Fin 512) : EReal := sc L c (pos L c r)

/-- Coordinate `k` of the box in place `r`. -/
def bb (c : Fin 80) (r : Fin 512) (k : Fin 4) : EReal := box D B (pos L c r) (up c) k

/-- Area of box `i` of a list of boxes. -/
def area (b : Fin 512 → Fin 4 → EReal) (i : Fin 512) : EReal := (b i 2 - b i 0) * (b i 3 - b i 1)

/-- Area of the intersection of two boxes. -/
def inter (b : Fin 512 → Fin 4 → EReal) (i j : Fin 512) : EReal :=
  max (cb 0x00000000#32) (min (b i 2) (b j 2) - max (b i 0) (b j 0)) *
    max (cb 0x00000000#32) (min (b i 3) (b j 3) - max (b i 1) (b j 1))

/-- Overlap of two boxes: intersection over union. -/
def iou (b : Fin 512 → Fin 4 → EReal) (i j : Fin 512) : EReal :=
  Ideal.div (inter b i j) (area b i + area b j - inter b i j + cb 0x3089705F#32)

/-- Whether box `i` overlaps a later box `j` too much. -/
def sup (b : Fin 512 → Fin 4 → EReal) (i j : Fin 512) : Bool :=
  decide (cb 0x3F000000#32 < iou b i j) && decide (i < j)

/-- One step of the suppression, for box `i`. -/
def kstep (b : Fin 512 → Fin 4 → EReal) (i : Fin 512) (kp : Fin 512 → Bool) (j : Fin 512) : Bool :=
  kp j && !(kp i && sup b i j)

/-- The boxes still kept after the first `k` steps. -/
def kept (b : Fin 512 → Fin 4 → EReal) : ℕ → Fin 512 → Bool
  | 0 => fun _ => true
  | k + 1 => if h : k < 512 then kstep b ⟨k, h⟩ (kept b k) else kept b k

/-- The score of place `r` of class `c` after suppression, minus one where it is dropped. -/
def out (c : Fin 80) (r : Fin 512) : EReal :=
  if kept (bb L D B c) 512 r ∧ cb 0x3D4CCCCD#32 < ts L c r then ts L c r else cb 0xBF800000#32

/-- Class of a flat place. -/
def fc (u : Fin 40960) : Fin 80 := ⟨u.val / 512, by omega⟩
/-- Place within the class of a flat place. -/
def fr (u : Fin 40960) : Fin 512 := ⟨u.val % 512, by omega⟩

/-- The scores of all classes, in one line. -/
def flat (u : Fin 40960) : EReal := out L D B (fc u) (fr u)

/-- The flat place of detection `i`. -/
def fin (i : Fin 100) : Fin 40960 := rank (flat L D B) (i.castLE (by decide))

/-- The score of detection `i`. -/
def detScore (i : Fin 100) : EReal := flat L D B (fin L D B i)
/-- Coordinate `k` of detection `i`. -/
def detBox (i : Fin 100) (k : Fin 4) : EReal := bb L D B (fc (fin L D B i)) (fr (fin L D B i)) k
/-- The label of detection `i`. -/
def detLabel (i : Fin 100) : BitVec 32 := BitVec.ofNat 32 ((fin L D B i).val / 512 + 1)

end Cert.Spec
-- ==== Proof.TopKRead.lean ====
/- The host's top-k along the last axis, read at an index: the operand at the ranked position, and that position as a word. -/
module

public import proofs.«01_k».proof.Proof.TopK
public import Idealize.ShloMosaic.Lib.Pointwise

@[expose] public section

set_option maxRecDepth 16384

noncomputable section

namespace Cert.TopK

open Idealize.ShloMosaic

/-- The axis of a row. -/
theorem lt01 : 0 < 1 := by decide
/-- The last of two axes. -/
theorem lt12 : 1 < 2 := by decide
/-- The last of three axes. -/
theorem lt23 : 2 < 3 := by decide

/-- The comparator of the printed top-k is the keys' order. -/
theorem gt_eq {n : Nat} (key : Fin n → EReal) :
    (fun k k' : Fin n => FloatOps.cmpfTotal (F := Ideal) (φ := .f32) .gt (key k) (key k') == 1#1) = byKey key := by
  funext k k'
  show (BitVec.ofBool (decide (key k' < key k)) == 1#1) = decide (key k' < key k)
  cases decide (key k' < key k) <;> rfl

/-- A row's element, its column replaced. -/
theorem along_ix2 {m n : Nat} (c : Fin m) (q k : Fin n) :
    (ix2 c q : (⟨2, ![m, n]⟩ : Shape).Idx).along ⟨1, lt12⟩ k = ix2 c k := by
  funext a
  refine Fin.cases ?_ (fun a => Fin.cases ?_ (fun a => a.elim0) a) a
  · rfl
  · rfl

/-- The same in rank three. -/
theorem along_ix3 {l m n : Nat} (b : Fin l) (c : Fin m) (q k : Fin n) :
    (ix3 b c q : (⟨3, ![l, m, n]⟩ : Shape).Idx).along ⟨2, lt23⟩ k = ix3 b c k := by
  funext a
  refine Fin.cases ?_ (fun a => Fin.cases ?_ (fun a => Fin.cases ?_ (fun a => a.elim0) a) a) a
  · rfl
  · rfl
  · rfl

/-- The same in rank one. -/
theorem along_ix1 {n : Nat} (q k : Fin n) :
    (ix1 q : (⟨1, ![n]⟩ : Shape).Idx).along ⟨0, lt01⟩ k = ix1 k := by
  funext a
  refine Fin.cases ?_ (fun a => a.elim0) a
  rfl

section Rank2
variable {m n k : Nat} (x : FVec Ideal (⟨2, ![m, n]⟩ : Shape) .f32)
  (h : (⟨2, ![m, n]⟩ : Shape).Slices (fun _ => 0) ⟨2, ![m, k]⟩) (hk : k ≤ n) (c : Fin m) (r : Fin k)

/-- A sliced index at offset zero. -/
theorem slice_ix2 {α : Type} (y : (⟨2, ![m, n]⟩ : Shape).Idx → α) :
    extractStridedSlice (⟨2, ![m, k]⟩ : Shape) (fun _ => 0) y h (ix2 c r) = y (ix2 c (r.castLE hk)) := by
  unfold extractStridedSlice
  congr 1
  funext a
  refine Fin.cases ?_ (fun a => Fin.cases ?_ (fun a => a.elim0) a) a
  · exact Fin.ext (Nat.zero_add _)
  · exact Fin.ext (Nat.zero_add _)

/-- A top-k's values along the last of two axes. -/
theorem topK2_values :
    (Host.topK (⟨2, ![m, k]⟩ : Shape) 1 (FloatOps.cmpfTotal (F := Ideal) (φ := .f32) .gt) x h).1 (ix2 c r)
      = x (ix2 c (rank (fun q => x (ix2 c q)) (r.castLE hk))) := by
  unfold Host.topK
  simp only []
  rw [slice_ix2 h hk c r]
  unfold Host.sort2
  rw [dif_pos (by decide : 1 < 2)]
  have hal : (fun k : Fin n => Shape.Idx.along (s := (⟨2, ![m, n]⟩ : Shape)) (ix2 c (r.castLE hk)) ⟨1, lt12⟩ k)
      = fun k => ix2 c k := funext fun k => along_ix2 c (r.castLE hk) k
  have e := congrArg (fun al : Fin n → (⟨2, ![m, n]⟩ : Shape).Idx =>
      x (al (sortedFrom (fun k k' => FloatOps.cmpfTotal (F := Ideal) (φ := .f32) .gt (x (al k)) (x (al k')) == 1#1)
        (r.castLE hk)))) hal
  refine Eq.trans e ?_
  rw [gt_eq (fun q => x (ix2 c q))]
  rfl

/-- A top-k's positions along the last of two axes. -/
theorem topK2_indices :
    (Host.topK (⟨2, ![m, k]⟩ : Shape) 1 (FloatOps.cmpfTotal (F := Ideal) (φ := .f32) .gt) x h).2 (ix2 c r)
      = BitVec.ofNat 32 (rank (fun q => x (ix2 c q)) (r.castLE hk)).val := by
  unfold Host.topK
  simp only []
  rw [slice_ix2 h hk c r]
  unfold Host.sort2
  rw [dif_pos (by decide : 1 < 2)]
  have hal : (fun k : Fin n => Shape.Idx.along (s := (⟨2, ![m, n]⟩ : Shape)) (ix2 c (r.castLE hk)) ⟨1, lt12⟩ k)
      = fun k => ix2 c k := funext fun k => along_ix2 c (r.castLE hk) k
  have e := congrArg (fun al : Fin n → (⟨2, ![m, n]⟩ : Shape).Idx =>
      iotaInDim (⟨2, ![m, n]⟩ : Shape) 32 ⟨1, lt12⟩ (al (sortedFrom (fun k k' => FloatOps.cmpfTotal (F := Ideal) (φ := .f32) .gt (x (al k)) (x (al k')) == 1#1)
        (r.castLE hk)))) hal
  refine Eq.trans e ?_
  simp only []
  rw [gt_eq (fun q => x (ix2 c q))]
  rfl

end Rank2

section Rank3
variable {l m n k : Nat} (x : FVec Ideal (⟨3, ![l, m, n]⟩ : Shape) .f32)
  (h : (⟨3, ![l, m, n]⟩ : Shape).Slices (fun _ => 0) ⟨3, ![l, m, k]⟩) (hk : k ≤ n) (b : Fin l) (c : Fin m) (r : Fin k)

/-- A sliced index at offset zero. -/
theorem slice_ix3 {α : Type} (y : (⟨3, ![l, m, n]⟩ : Shape).Idx → α) :
    extractStridedSlice (⟨3, ![l, m, k]⟩ : Shape) (fun _ => 0) y h (ix3 b c r) = y (ix3 b c (r.castLE hk)) := by
  unfold extractStridedSlice
  congr 1
  funext a
  refine Fin.cases ?_ (fun a => Fin.cases ?_ (fun a => Fin.cases ?_ (fun a => a.elim0) a) a) a
  · exact Fin.ext (Nat.zero_add _)
  · exact Fin.ext (Nat.zero_add _)
  · exact Fin.ext (Nat.zero_add _)

/-- A top-k's values along the last of three axes. -/
theorem topK3_values :
    (Host.topK (⟨3, ![l, m, k]⟩ : Shape) 2 (FloatOps.cmpfTotal (F := Ideal) (φ := .f32) .gt) x h).1 (ix3 b c r)
      = x (ix3 b c (rank (fun q => x (ix3 b c q)) (r.castLE hk))) := by
  unfold Host.topK
  simp only []
  rw [slice_ix3 h hk b c r]
  unfold Host.sort2
  rw [dif_pos (by decide : 2 < 3)]
  have hal : (fun k : Fin n => Shape.Idx.along (s := (⟨3, ![l, m, n]⟩ : Shape)) (ix3 b c (r.castLE hk)) ⟨2, lt23⟩ k)
      = fun k => ix3 b c k := funext fun k => along_ix3 b c (r.castLE hk) k
  have e := congrArg (fun al : Fin n → (⟨3, ![l, m, n]⟩ : Shape).Idx =>
      x (al (sortedFrom (fun k k' => FloatOps.cmpfTotal (F := Ideal) (φ := .f32) .gt (x (al k)) (x (al k')) == 1#1)
        (r.castLE hk)))) hal
  refine Eq.trans e ?_
  rw [gt_eq (fun q => x (ix3 b c q))]
  rfl

/-- A top-k's positions along the last of three axes. -/
theorem topK3_indices :
    (Host.topK (⟨3, ![l, m, k]⟩ : Shape) 2 (FloatOps.cmpfTotal (F := Ideal) (φ := .f32) .gt) x h).2 (ix3 b c r)
      = BitVec.ofNat 32 (rank (fun q => x (ix3 b c q)) (r.castLE hk)).val := by
  unfold Host.topK
  simp only []
  rw [slice_ix3 h hk b c r]
  unfold Host.sort2
  rw [dif_pos (by decide : 2 < 3)]
  have hal : (fun k : Fin n => Shape.Idx.along (s := (⟨3, ![l, m, n]⟩ : Shape)) (ix3 b c (r.castLE hk)) ⟨2, lt23⟩ k)
      = fun k => ix3 b c k := funext fun k => along_ix3 b c (r.castLE hk) k
  have e := congrArg (fun al : Fin n → (⟨3, ![l, m, n]⟩ : Shape).Idx =>
      iotaInDim (⟨3, ![l, m, n]⟩ : Shape) 32 ⟨2, lt23⟩ (al (sortedFrom (fun k k' => FloatOps.cmpfTotal (F := Ideal) (φ := .f32) .gt (x (al k)) (x (al k')) == 1#1)
        (r.castLE hk)))) hal
  refine Eq.trans e ?_
  simp only []
  rw [gt_eq (fun q => x (ix3 b c q))]
  rfl

end Rank3

section Rank1
variable {n k : Nat} (x : FVec Ideal (⟨1, ![n]⟩ : Shape) .f32)
  (h : (⟨1, ![n]⟩ : Shape).Slices (fun _ => 0) ⟨1, ![k]⟩) (hk : k ≤ n) (r : Fin k)

/-- A sliced index at offset zero. -/
theorem slice_ix1 {α : Type} (y : (⟨1, ![n]⟩ : Shape).Idx → α) :
    extractStridedSlice (⟨1, ![k]⟩ : Shape) (fun _ => 0) y h (ix1 r) = y (ix1 (r.castLE hk)) := by
  unfold extractStridedSlice
  congr 1
  funext a
  refine Fin.cases ?_ (fun a => a.elim0) a
  exact Fin.ext (Nat.zero_add _)

/-- A top-k's positions in a row. -/
theorem topK1_indices :
    (Host.topK (⟨1, ![k]⟩ : Shape) 0 (FloatOps.cmpfTotal (F := Ideal) (φ := .f32) .gt) x h).2 (ix1 r)
      = BitVec.ofNat 32 (rank (fun q => x (ix1 q)) (r.castLE hk)).val := by
  unfold Host.topK
  simp only []
  rw [slice_ix1 h hk r]
  unfold Host.sort2
  rw [dif_pos (by decide : 0 < 1)]
  have hal : (fun k : Fin n => Shape.Idx.along (s := (⟨1, ![n]⟩ : Shape)) (ix1 (r.castLE hk)) ⟨0, lt01⟩ k)
      = fun k => ix1 k := funext fun k => along_ix1 (r.castLE hk) k
  have e := congrArg (fun al : Fin n → (⟨1, ![n]⟩ : Shape).Idx =>
      iotaInDim (⟨1, ![n]⟩ : Shape) 32 ⟨0, lt01⟩ (al (sortedFrom (fun k k' => FloatOps.cmpfTotal (F := Ideal) (φ := .f32) .gt (x (al k)) (x (al k')) == 1#1)
        (r.castLE hk)))) hal
  refine Eq.trans e ?_
  simp only []
  rw [gt_eq (fun q => x (ix1 q))]
  rfl

/-- The values of the printed top-k of a line, at a place. -/
theorem topK1_values :
    (Host.topK (⟨1, ![k]⟩ : Shape) 0 (FloatOps.cmpfTotal (F := Ideal) (φ := .f32) .gt) x h).1 (ix1 r)
      = x (ix1 (rank (fun q => x (ix1 q)) (r.castLE hk))) := by
  unfold Host.topK
  simp only []
  rw [slice_ix1 h hk r]
  unfold Host.sort2
  rw [dif_pos (by decide : 0 < 1)]
  have hal : (fun k : Fin n => Shape.Idx.along (s := (⟨1, ![n]⟩ : Shape)) (ix1 (r.castLE hk)) ⟨0, lt01⟩ k)
      = fun k => ix1 k := funext fun k => along_ix1 (r.castLE hk) k
  have e := congrArg (fun al : Fin n → (⟨1, ![n]⟩ : Shape).Idx =>
      x (al (sortedFrom (fun k k' => FloatOps.cmpfTotal (F := Ideal) (φ := .f32) .gt (x (al k)) (x (al k')) == 1#1)
        (r.castLE hk)))) hal
  refine Eq.trans e ?_
  rw [gt_eq (fun q => x (ix1 q))]
  rfl

end Rank1

end Cert.TopK
-- ==== Proof.Gather.lean ====
/- Gathers read at an index, where the start index is a position that fits, and the index arithmetic round them. -/
module

public import Idealize.ShloMosaic.Lib.ValueIdxCore
public import Idealize.ShloMosaic.Lib.Pointwise
public import Idealize.ShloMosaic.PureOps.Ideal
public import Idealize.ShloMosaic.Lib.Routing.Words

@[expose] public section

noncomputable section

namespace Cert.Gather

open Idealize.ShloMosaic

/-- A small number, read back from its word as a signed integer, is itself. -/
theorem word_toNat (p : ℕ) (hp : p < 2147483648) : (BitVec.ofNat 32 p).toInt.toNat = p := by
  have h : (BitVec.ofNat 32 p).toNat = p := by rw [BitVec.toNat_ofNat]; omega
  rw [BitVec.toInt_eq_toNat_of_lt (by omega), h]; rfl

/-- A small number's word is not negative. -/
theorem not_neg (p : ℕ) (hp : p < 2147483648) : IntOp.cmpi .slt (BitVec.ofNat 32 p) 0#32 = 0#1 := by
  have h : (BitVec.ofNat 32 p).toNat = p := by rw [BitVec.toNat_ofNat]; omega
  have : (BitVec.ofNat 32 p).slt 0#32 = false := by
    rw [BitVec.slt, BitVec.toInt_eq_toNat_of_lt (by omega), h]; simp
  show BitVec.ofBool ((BitVec.ofNat 32 p).slt 0#32) = 0#1
  rw [this]; rfl

/-- A small number's word is at least zero. -/
theorem ge_zero (p : ℕ) (hp : p < 2147483648) : IntOp.cmpi .sge (BitVec.ofNat 32 p) 0#32 = 1#1 := by
  have h : (BitVec.ofNat 32 p).toNat = p := by rw [BitVec.toNat_ofNat]; omega
  have : (0#32).sle (BitVec.ofNat 32 p) = true := by
    rw [BitVec.sle, BitVec.toInt_eq_toNat_of_lt (x := BitVec.ofNat 32 p) (by omega), h]; simp
  show BitVec.ofBool ((0#32).sle (BitVec.ofNat 32 p)) = 1#1
  rw [this]; rfl

/-- The words of small numbers compare as the numbers do. -/
theorem le_of (p q : ℕ) (hq : q < 2147483648) (hp : p ≤ q) : IntOp.cmpi .sle (BitVec.ofNat 32 p) (BitVec.ofNat 32 q) = 1#1 := by
  have h : (BitVec.ofNat 32 p).toNat = p := by rw [BitVec.toNat_ofNat]; omega
  have h' : (BitVec.ofNat 32 q).toNat = q := by rw [BitVec.toNat_ofNat]; omega
  have : (BitVec.ofNat 32 p).sle (BitVec.ofNat 32 q) = true := by
    rw [BitVec.sle, BitVec.toInt_eq_toNat_of_lt (x := BitVec.ofNat 32 p) (by omega), BitVec.toInt_eq_toNat_of_lt (x := BitVec.ofNat 32 q) (by omega)]
    simp [h, h', hp]
  show BitVec.ofBool ((BitVec.ofNat 32 p).sle (BitVec.ofNat 32 q)) = 1#1
  rw [this]; rfl

/-- The words of small numbers compare, strictly, as the numbers do. -/
theorem gt_iff (p q : ℕ) (hp : p < 2147483648) (hq : q < 2147483648) :
    IntOp.cmpi .sgt (BitVec.ofNat 32 p) (BitVec.ofNat 32 q) = BitVec.ofBool (decide (q < p)) := by
  have h : (BitVec.ofNat 32 p).toNat = p := by rw [BitVec.toNat_ofNat]; omega
  have h' : (BitVec.ofNat 32 q).toNat = q := by rw [BitVec.toNat_ofNat]; omega
  have : (BitVec.ofNat 32 q).slt (BitVec.ofNat 32 p) = decide (q < p) := by
    rw [BitVec.slt, BitVec.toInt_eq_toNat_of_lt (x := BitVec.ofNat 32 p) (by omega), BitVec.toInt_eq_toNat_of_lt (x := BitVec.ofNat 32 q) (by omega)]
    simp [h, h']
  show BitVec.ofBool ((BitVec.ofNat 32 q).slt (BitVec.ofNat 32 p)) = _
  rw [this]

/-- The words of small numbers are equal where the numbers are. -/
theorem eq_iff (p q : ℕ) (hp : p < 2147483648) (hq : q < 2147483648) :
    IntOp.cmpi .eq (BitVec.ofNat 32 p) (BitVec.ofNat 32 q) = BitVec.ofBool (decide (p = q)) := by
  have h : (BitVec.ofNat 32 p).toNat = p := by rw [BitVec.toNat_ofNat]; omega
  have h' : (BitVec.ofNat 32 q).toNat = q := by rw [BitVec.toNat_ofNat]; omega
  show BitVec.ofBool (BitVec.ofNat 32 p == BitVec.ofNat 32 q) = _
  congr 1
  rw [Bool.eq_iff_iff, beq_iff_eq, decide_eq_true_iff]
  exact ⟨fun e => by rw [← h, e, h'], fun e => by rw [e]⟩

/-- A sum over lanes that keeps lane `i` alone. -/
theorem pick {n : ℕ} (hn : n ≤ 2147483648) (f : Fin n → EReal) (i : Fin n) :
    ∑ x : Fin n, Scalar.select (IntOp.cmpi .eq (BitVec.ofNat 32 x.val) (BitVec.ofNat 32 i.val)) (f x) 0 = f i := by
  rw [Finset.sum_eq_single i]
  · rw [eq_iff _ _ (by omega) (by omega), decide_eq_true rfl]; rfl
  · intro x _ hx
    rw [eq_iff _ _ (by omega) (by omega), decide_eq_false (fun e => hx (Fin.ext e))]; rfl
  · intro h; exact absurd (Finset.mem_univ i) h

/-- The floor of a small number's quotient by 512, as the program takes it: the truncated quotient, less one where
    the signs differ and the division is not exact. -/
theorem floorDiv (p : ℕ) (hp : p < 2147483648) :
    Scalar.select (IntOp.andi
        (IntOp.cmpi .ne (if BitVec.ofNat 32 p = 0 then 0 else if (BitVec.ofNat 32 p).msb = true then -1 else 1)
          (if (512#32 : BitVec 32) = 0 then 0 else if BitVec.msb 512#32 = true then -1 else (1 : BitVec 32)))
        (IntOp.cmpi .ne (IntOp.remsi .host (BitVec.ofNat 32 p) 512#32) 0#32))
      (IntOp.subi (IntOp.divsi .host (BitVec.ofNat 32 p) 512#32) 1#32) (IntOp.divsi .host (BitVec.ofNat 32 p) 512#32) = BitVec.ofNat 32 (p / 512) := by
  have h : (BitVec.ofNat 32 p).toNat = p := by rw [BitVec.toNat_ofNat]; omega
  have hd : IntOp.divsi .host (BitVec.ofNat 32 p) 512#32 = BitVec.ofNat 32 (p / 512) := Routing.divsi_word .host (by omega) (by omega) (by omega)
  have hr : IntOp.remsi .host (BitVec.ofNat 32 p) 512#32 = BitVec.ofNat 32 (p % 512) := Routing.remsi_word .host (by omega) (by omega) (by omega)
  have hm : (BitVec.ofNat 32 p).msb = false := by rw [BitVec.msb_eq_decide, h]; exact decide_eq_false (by omega)
  rw [hd, hr, hm]
  by_cases h0 : p = 0
  · subst h0; rfl
  · have hn : BitVec.ofNat 32 p ≠ 0 := fun e => h0 (by rw [← h, e]; rfl)
    rw [if_neg hn]
    generalize IntOp.cmpi CmpIPredicate.ne (BitVec.ofNat 32 (p % 512)) 0#32 = z
    have e : IntOp.cmpi CmpIPredicate.ne (if false = true then -1 else (1 : BitVec 32))
        (if (512#32 : BitVec 32) = 0 then 0 else if (512#32 : BitVec 32).msb = true then -1 else 1) = 0#1 := by decide
    rw [e]
    show Scalar.select (0#1 &&& z) _ _ = _
    rw [BitVec.zero_and]
    rfl

/-- The normalisation of a start index leaves a small number alone. -/
theorem norm (p : ℕ) (hp : p < 2147483648) (w : BitVec 32) :
    Scalar.select (IntOp.cmpi .slt (BitVec.ofNat 32 p) 0#32) w (BitVec.ofNat 32 p) = BitVec.ofNat 32 p := by
  rw [not_neg p hp]; rfl

/-- The test that a start index lies within the operand, of one that does. -/
theorem inb (p q : ℕ) (hq : q < 2147483648) (hp : p ≤ q) (f : Fin 1 → BitVec 32) (hf : ∀ k, f k = BitVec.ofNat 32 p) :
    Finset.fold IntOp.andi (1#1) (fun k => IntOp.andi (IntOp.cmpi .sge (f k) 0#32) (IntOp.cmpi .sle (f k) (BitVec.ofNat 32 q))) Finset.univ = 1#1 := by
  have e : (Finset.univ : Finset (Fin 1)) = {0} := by decide
  rw [e, Finset.fold_singleton, hf, ge_zero p (by omega), le_of p q hq hp]
  rfl

/-- The batched gather of single elements along the last axis. -/
theorem along {B N K : ℕ} {α : Type} (hN : N ≤ 2147483648)
    (d : GatherDims ⟨2, ![B, N]⟩ ⟨3, ![B, K, 1]⟩ ⟨2, ![B, K]⟩)
    (wf : GatherDims.WF ⟨2, ![B, N]⟩ ⟨3, ![B, K, 1]⟩ ⟨2, ![B, K]⟩ [] [1] [0] [1] [0] 2 ![1, 1])
    (hd : d = { offsetDims := [], collapsedSliceDims := [1], operandBatchingDims := [0], startIndicesBatchingDims := [0], startIndexMap := [1], indexVectorDim := 2, sliceSizes := ![1, 1], wf := wf })
    (x : (⟨2, ![B, N]⟩ : Shape).Idx → α) (idx : IVec ⟨3, ![B, K, 1]⟩ 32) (b : Fin B) (k : Fin K) (p : Fin N)
    (hp : idx (ix3 b k 0) = BitVec.ofNat 32 p.val) :
    Host.gather d x idx (ix2 b k) = x (ix2 b p) := by
  subst hd
  unfold Host.gather
  congr 1
  funext a
  refine Fin.ext ?_
  have h01 : a = 0 ∨ a = 1 := by
    match a with
    | ⟨0, _⟩ => exact Or.inl rfl
    | ⟨1, _⟩ => exact Or.inr rfl
  unfold GatherDims.operandIdx
  dsimp only
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ h : _ < 1, GatherDims.siIdx ({ offsetDims := [], collapsedSliceDims := [1], operandBatchingDims := [0], startIndicesBatchingDims := [0], startIndexMap := [1], indexVectorDim := 2, sliceSizes := ![1, 1], wf := wf } : GatherDims ⟨2, ![B, N]⟩ ⟨3, ![B, K, 1]⟩ ⟨2, ![B, K]⟩) (ix2 b k) ⟨List.idxOf (1 : Fin 2) [1], h⟩ = ix3 b k 0 := by
      intro h
      funext b; refine Fin.ext ?_
      match b with
      | ⟨0, _⟩ => rfl
      | ⟨1, _⟩ => rfl
      | ⟨2, _⟩ => rfl
    rw [hsi, hp, word_toNat _ (by omega)]
    show min p.val (N - 1) = p.val
    omega

/-- The batched gather of rows. -/
theorem rows {B N K P : ℕ} {α : Type} (hN : N ≤ 2147483648)
    (d : GatherDims ⟨3, ![B, N, P]⟩ ⟨3, ![B, K, 1]⟩ ⟨3, ![B, K, P]⟩)
    (wf : GatherDims.WF ⟨3, ![B, N, P]⟩ ⟨3, ![B, K, 1]⟩ ⟨3, ![B, K, P]⟩ [2] [1] [0] [1] [0] 2 ![1, 1, P])
    (hd : d = { offsetDims := [2], collapsedSliceDims := [1], operandBatchingDims := [0], startIndicesBatchingDims := [0], startIndexMap := [1], indexVectorDim := 2, sliceSizes := ![1, 1, P], wf := wf })
    (x : (⟨3, ![B, N, P]⟩ : Shape).Idx → α) (idx : IVec ⟨3, ![B, K, 1]⟩ 32) (b : Fin B) (k : Fin K) (q : Fin P) (p : Fin N)
    (hp : idx (ix3 b k 0) = BitVec.ofNat 32 p.val) :
    Host.gather d x idx (ix3 b k q) = x (ix3 b p q) := by
  subst hd
  unfold Host.gather
  congr 1
  funext a
  refine Fin.ext ?_
  have h01 : a = 0 ∨ a = 1 ∨ a = 2 := by
    match a with
    | ⟨0, _⟩ => exact Or.inl rfl
    | ⟨1, _⟩ => exact Or.inr (Or.inl rfl)
    | ⟨2, _⟩ => exact Or.inr (Or.inr rfl)
  unfold GatherDims.operandIdx
  dsimp only
  rcases h01 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ h : _ < 1, GatherDims.siIdx ({ offsetDims := [2], collapsedSliceDims := [1], operandBatchingDims := [0], startIndicesBatchingDims := [0], startIndexMap := [1], indexVectorDim := 2, sliceSizes := ![1, 1, P], wf := wf } : GatherDims ⟨3, ![B, N, P]⟩ ⟨3, ![B, K, 1]⟩ ⟨3, ![B, K, P]⟩) (ix3 b k q) ⟨List.idxOf (1 : Fin 3) [1], h⟩ = ix3 b k 0 := by
      intro h
      funext b; refine Fin.ext ?_
      match b with
      | ⟨0, _⟩ => rfl
      | ⟨1, _⟩ => rfl
      | ⟨2, _⟩ => rfl
    rw [hsi, hp, word_toNat _ (by omega)]
    show min p.val (N - 1) = p.val
    omega
  · rw [GatherDims.batchCoord_eq_zero _ _ _ (fun h => by simp at h)]
    unfold GatherDims.start
    rw [dif_neg (fun h => by simp at h)]
    simp only [Nat.zero_add, Nat.add_zero]
    unfold GatherDims.offCoord
    rw [dif_pos ((GatherDims.mem_sKept _ _).mpr ⟨fun h => by simp at h, fun h => by simp at h⟩)]
    rfl

/-- The gather of rows. -/
theorem flatRows {N K P : ℕ} {α : Type} (hN : N ≤ 2147483648)
    (d : GatherDims ⟨2, ![N, P]⟩ ⟨2, ![K, 1]⟩ ⟨2, ![K, P]⟩)
    (wf : GatherDims.WF ⟨2, ![N, P]⟩ ⟨2, ![K, 1]⟩ ⟨2, ![K, P]⟩ [1] [0] [] [0] [] 1 ![1, P])
    (hd : d = { offsetDims := [1], collapsedSliceDims := [0], operandBatchingDims := [], startIndicesBatchingDims := [], startIndexMap := [0], indexVectorDim := 1, sliceSizes := ![1, P], wf := wf })
    (x : (⟨2, ![N, P]⟩ : Shape).Idx → α) (idx : IVec ⟨2, ![K, 1]⟩ 32) (k : Fin K) (q : Fin P) (p : Fin N)
    (hp : idx (ix2 k 0) = BitVec.ofNat 32 p.val) :
    Host.gather d x idx (ix2 k q) = x (ix2 p q) := by
  subst hd
  unfold Host.gather
  congr 1
  funext a
  refine Fin.ext ?_
  have h01 : a = 0 ∨ a = 1 := by
    match a with
    | ⟨0, _⟩ => exact Or.inl rfl
    | ⟨1, _⟩ => exact Or.inr rfl
  unfold GatherDims.operandIdx
  dsimp only
  rcases h01 with rfl | rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ h : _ < 1, GatherDims.siIdx ({ offsetDims := [1], collapsedSliceDims := [0], operandBatchingDims := [], startIndicesBatchingDims := [], startIndexMap := [0], indexVectorDim := 1, sliceSizes := ![1, P], wf := wf } : GatherDims ⟨2, ![N, P]⟩ ⟨2, ![K, 1]⟩ ⟨2, ![K, P]⟩) (ix2 k q) ⟨List.idxOf (0 : Fin 2) [0], h⟩ = ix2 k 0 := by
      intro h
      funext b; refine Fin.ext ?_
      match b with
      | ⟨0, _⟩ => rfl
      | ⟨1, _⟩ => rfl
    rw [hsi, hp, word_toNat _ (by omega)]
    show min p.val (N - 1) = p.val
    omega
  · rw [GatherDims.batchCoord_eq_zero _ _ _ (fun h => by simp at h)]
    unfold GatherDims.start
    rw [dif_neg (fun h => by simp at h)]
    simp only [Nat.zero_add, Nat.add_zero]
    unfold GatherDims.offCoord
    rw [dif_pos ((GatherDims.mem_sKept _ _).mpr ⟨fun h => by simp at h, fun h => by simp at h⟩)]
    rfl

/-- The gather of single elements of a line. -/
theorem flat {N K : ℕ} {α : Type} (hN : N ≤ 2147483648)
    (d : GatherDims ⟨1, ![N]⟩ ⟨2, ![K, 1]⟩ ⟨1, ![K]⟩)
    (wf : GatherDims.WF ⟨1, ![N]⟩ ⟨2, ![K, 1]⟩ ⟨1, ![K]⟩ [] [0] [] [0] [] 1 ![1])
    (hd : d = { offsetDims := [], collapsedSliceDims := [0], operandBatchingDims := [], startIndicesBatchingDims := [], startIndexMap := [0], indexVectorDim := 1, sliceSizes := ![1], wf := wf })
    (x : (⟨1, ![N]⟩ : Shape).Idx → α) (idx : IVec ⟨2, ![K, 1]⟩ 32) (k : Fin K) (p : Fin N)
    (hp : idx (ix2 k 0) = BitVec.ofNat 32 p.val) :
    Host.gather d x idx (ix1 k) = x (ix1 p) := by
  subst hd
  unfold Host.gather
  congr 1
  funext a
  obtain rfl : a = 0 := Subsingleton.elim _ _
  refine Fin.ext ?_
  unfold GatherDims.operandIdx
  dsimp only
  rw [GatherDims.batchCoord_eq_zero _ _ _ (fun h => by simp at h),
      GatherDims.offCoord_eq_zero _ _ _ (fun h => ((GatherDims.mem_sKept _ _).mp h).1 (List.mem_singleton.mpr rfl))]
  simp only [Nat.add_zero]
  unfold GatherDims.start
  rw [dif_pos (List.mem_singleton.mpr rfl)]
  have hsi : ∀ h : _ < 1, GatherDims.siIdx ({ offsetDims := [], collapsedSliceDims := [0], operandBatchingDims := [], startIndicesBatchingDims := [], startIndexMap := [0], indexVectorDim := 1, sliceSizes := ![1], wf := wf } : GatherDims ⟨1, ![N]⟩ ⟨2, ![K, 1]⟩ ⟨1, ![K]⟩) (ix1 k) ⟨List.idxOf (0 : Fin 1) [0], h⟩ = ix2 k 0 := by
      intro h
      funext b; refine Fin.ext ?_
      match b with
      | ⟨0, _⟩ => rfl
      | ⟨1, _⟩ => rfl
  rw [hsi, hp, word_toNat _ (by omega)]
  show min p.val (N - 1) = p.val
  omega

end Cert.Gather
-- ==== Proof.KerPay0.lean ====
module
public import proofs.«01_k».proof.Proof.KernelIdealBody
public import proofs.«01_k».proof.Proof.KernelIdealRun
public import proofs.«01_k».proof.Proof.Spec
public import proofs.«01_k».proof.Proof.TopKRead
public import proofs.«01_k».proof.Proof.Gather
public import Idealize.ShloMosaic.Lib.Pointwise
public import Idealize.ShloMosaic.Lib.StableHlo.ReadAt
@[expose] public section
set_option maxRecDepth 16384
noncomputable section
namespace Cert.KernelIdeal.KV
open Cert.KernelIdeal.Gen Cert.KernelIdeal.Whole Cert.Spec
open Idealize.ShloMosaic Idealize.ShloMosaic.TcCoe Idealize.ShloMosaic.StableHlo
open Idealize.SL.Sem
/-- The row maximum, spread over the row. -/
def smM (x : FVec Ideal S1000x81 .f32) : FVec Ideal S1000x81 .f32 :=
  broadcastTo S1000x81 (shapeCast S1000x1 (multiReduction (F := Ideal) .maximumf [1] S1000 x 0xFF800000#32 reduces_S1000x81_S1000 (.inl rfl) rfl)
    shapeCasts_S1000_S1000x1) broadcasts_S1000x1_S1000x81
/-- The row sum, spread over the row. -/
def smS (x : FVec Ideal S1000x81 .f32) : FVec Ideal S1000x81 .f32 :=
  broadcastTo S1000x81 (shapeCast S1000x1 (multiReduction (F := Ideal) .add [1] S1000 x 0x00000000#32 reduces_S1000x81_S1000 (.inl rfl) rfl)
    shapeCasts_S1000_S1000x1) broadcasts_S1000x1_S1000x81
/-- The largest entry of a row of a block. -/
def bmax (x : FVec Ideal S1000x81 .f32) (r : Fin 1000) : EReal :=
  Finset.fold max (cb 0xFF800000#32) (fun k => x (ix2 r k)) Finset.univ
/-- The row maximum, spread over the row. -/
theorem smM_at (x : FVec Ideal S1000x81 .f32) (r : Fin 1000) (q : Fin 81) : smM x (ix2 r q) = bmax x r := by
  unfold smM bmax; pointwise
/-- The row sum, spread over the row. -/
theorem smS_at (x : FVec Ideal S1000x81 .f32) (r : Fin 1000) (q : Fin 81) : smS x (ix2 r q) = ∑ k, x (ix2 r k) := by
  unfold smS; pointwise
/-- The exponential of a difference, entry by entry. -/
theorem smE_at (x y : FVec Ideal S1000x81 .f32) (r : Fin 1000) (q : Fin 81) :
    exp (subf x y) (ix2 r q) = Ideal.exp (x (ix2 r q) - y (ix2 r q)) := by pointwise
/-- A quotient, entry by entry. -/
theorem smD_at (x y : FVec Ideal S1000x81 .f32) (r : Fin 1000) (q : Fin 81) :
    divf x y (ix2 r q) = Ideal.div (x (ix2 r q)) (y (ix2 r q)) := by pointwise
/-- The softmax of a row of a block. -/
theorem dpay3_at (x : FVec Ideal S1000x81 .f32) (r : Fin 1000) (q : Fin 81) :
    k0_pay3 (F := Ideal) x (ix2 r q) = Ideal.div (Ideal.exp (x (ix2 r q) - bmax x r)) (∑ k, Ideal.exp (x (ix2 r k) - bmax x r)) := by
  have e : ∀ k, exp (subf x (smM x)) (ix2 r k) = Ideal.exp (x (ix2 r k) - bmax x r) := fun k =>
    (smE_at x (smM x) r k).trans (by rw [smM_at])
  refine (smD_at (exp (subf x (smM x))) (smS (exp (subf x (smM x)))) r q).trans ?_
  rw [smS_at]
  simp only [e]
/-- A proposal's width. -/
theorem dpay4_at (x : FVec Ideal S1000x4 .f32) (r : Fin 1000) : k0_pay4 (F := Ideal) x (ix2 r (0 : Fin 1)) = x (ix2 r (2 : Fin 4)) - x (ix2 r (0 : Fin 4)) := by
  unfold k0_pay4; pointwise
/-- A proposal's height. -/
theorem dpay5_at (x : FVec Ideal S1000x4 .f32) (r : Fin 1000) : k0_pay5 (F := Ideal) x (ix2 r (0 : Fin 1)) = x (ix2 r (3 : Fin 4)) - x (ix2 r (1 : Fin 4)) := by
  unfold k0_pay5; pointwise
/-- A proposal's centre, horizontally. -/
theorem dpay6_at0 (x : FVec Ideal S1000x4 .f32) (r : Fin 1000) : k0_pay6 (F := Ideal) x (ix2 r (0 : Fin 1))
    = x (ix2 r (0 : Fin 4)) + cb 0x3F000000#32 * (x (ix2 r (2 : Fin 4)) - x (ix2 r (0 : Fin 4))) := by
  unfold k0_pay6 k0_pay4; pointwise
/-- A proposal's centre, vertically. -/
theorem dpay7_at0 (x : FVec Ideal S1000x4 .f32) (r : Fin 1000) : k0_pay7 (F := Ideal) x (ix2 r (0 : Fin 1))
    = x (ix2 r (1 : Fin 4)) + cb 0x3F000000#32 * (x (ix2 r (3 : Fin 4)) - x (ix2 r (1 : Fin 4))) := by
  unfold k0_pay7 k0_pay5; pointwise
/-- The horizontal shift over its weight. -/
theorem dpay8_at (x : FVec Ideal S1000x81 .f32) (r : Fin 1000) (q : Fin 81) : k0_pay8 (F := Ideal) x (ix2 r q) = Ideal.div (x (ix2 r q)) (cb 0x41200000#32) := by
  unfold k0_pay8; pointwise
/-- The vertical shift over its weight. -/
theorem dpay9_at (x : FVec Ideal S1000x81 .f32) (r : Fin 1000) (q : Fin 81) : k0_pay9 (F := Ideal) x (ix2 r q) = Ideal.div (x (ix2 r q)) (cb 0x41200000#32) := by
  unfold k0_pay9; pointwise
/-- The width delta over its weight. -/
theorem dpay10_at (x : FVec Ideal S1000x81 .f32) (r : Fin 1000) (q : Fin 81) : k0_pay10 (F := Ideal) x (ix2 r q) = Ideal.div (x (ix2 r q)) (cb 0x40A00000#32) := by
  unfold k0_pay10; pointwise
/-- The box's centre, horizontally. -/
theorem dpay11_at (v14 v21 : FVec Ideal S1000x1 .f32) (v29 : FVec Ideal S1000x81 .f32) (r : Fin 1000) (q : Fin 81) :
    k0_pay11 (F := Ideal) v14 v21 v29 (ix2 r q) = v29 (ix2 r q) * v14 (ix2 r (0 : Fin 1)) + v21 (ix2 r (0 : Fin 1)) := by
  unfold k0_pay11; pointwise
/-- The box's centre, vertically. -/
theorem dpay12_at (v14 v21 : FVec Ideal S1000x1 .f32) (v29 : FVec Ideal S1000x81 .f32) (r : Fin 1000) (q : Fin 81) :
    k0_pay12 (F := Ideal) v14 v21 v29 (ix2 r q) = v29 (ix2 r q) * v14 (ix2 r (0 : Fin 1)) + v21 (ix2 r (0 : Fin 1)) := by
  unfold k0_pay12; pointwise
/-- The box's width, its delta capped. -/
theorem dpay13_at0 (v14 : FVec Ideal S1000x1 .f32) (v37 : FVec Ideal S1000x81 .f32) (z : Ideal .f32) (r : Fin 1000) (q : Fin 81) :
    k0_pay13 (F := Ideal) v14 v37 z (ix2 r q) = Ideal.exp (min (v37 (ix2 r q)) z) * v14 (ix2 r (0 : Fin 1)) := by
  unfold k0_pay13; pointwise
/-- The box's height, its delta capped. -/
theorem dpay14_at0 (v17 : FVec Ideal S1000x1 .f32) (x : FVec Ideal S1000x81 .f32) (r : Fin 1000) (q : Fin 81) :
    k0_pay14 (F := Ideal) v17 x (ix2 r q) = Ideal.exp (min (Ideal.div (x (ix2 r q)) (cb 0x40A00000#32)) (cb 0x40845349#32)) * v17 (ix2 r (0 : Fin 1)) := by
  unfold k0_pay14; pointwise
/-- A coordinate clipped between zero and the image's bound. -/
theorem clip0_at (a : BitVec 32) (x : FVec Ideal S1000x81 .f32) (r : Fin 1000) (q : Fin 81) :
    minimumf (broadcast S1000x81 (Scalar.ofBits (F := Ideal) .f32 a)) (maximumf (broadcast S1000x81 (Scalar.ofBits (F := Ideal) .f32 0x00000000#32)) x) (ix2 r q) = clipTo a (x (ix2 r q)) := by
  unfold clipTo
  simp only [cb, Ideal.ofBits_zero_f32]
  pointwise
/-- A centre less half a side. -/
theorem half_sub_at (x y : FVec Ideal S1000x81 .f32) (r : Fin 1000) (q : Fin 81) :
    subf x (mulf (broadcast S1000x81 (Scalar.ofBits (F := Ideal) .f32 0x3F000000#32)) y) (ix2 r q) = x (ix2 r q) - cb 0x3F000000#32 * y (ix2 r q) := by pointwise
/-- A centre plus half a side. -/
theorem half_add_at (x y : FVec Ideal S1000x81 .f32) (r : Fin 1000) (q : Fin 81) :
    addf x (mulf (broadcast S1000x81 (Scalar.ofBits (F := Ideal) .f32 0x3F000000#32)) y) (ix2 r q) = x (ix2 r q) + cb 0x3F000000#32 * y (ix2 r q) := by pointwise
section
variable (x1 x2 x3 x4 : FVec Ideal S1000x81 .f32) (x5 : FVec Ideal S1000x4 .f32)
  (D : Fin 20000 → Fin 324 → EReal) (B : Fin 20000 → Fin 4 → EReal) (n : Fin 20000) (r : Fin 1000) (q : Fin 81)
/-- Low edge, first axis. -/
theorem lowX_at (h1 : x1 (ix2 r q) = D n (col q 0)) (h3 : x3 (ix2 r q) = D n (col q 2)) (h5 : ∀ k, x5 (ix2 r k) = B n k) :
    k0_pay15 (F := Ideal) (k0_pay4 x5) (k0_pay6 x5) (k0_pay8 x1) (k0_pay10 x3) (Scalar.ofBits .f32 0x40845349#32) (ix2 r q) = box D B n q 0 := by
  refine (clip0_at 0x44A6A000#32 _ r q).trans (congrArg (clipTo 0x44A6A000#32) ?_)
  refine (half_sub_at (k0_pay11 (k0_pay4 x5) (k0_pay6 x5) (k0_pay8 x1)) (k0_pay13 (k0_pay4 x5) (k0_pay10 x3) (Scalar.ofBits .f32 0x40845349#32)) r q).trans ?_
  rw [dpay11_at, dpay13_at0, dpay4_at, dpay6_at0, dpay8_at, dpay10_at, h1, h3]
  simp only [h5]
  rfl
/-- High edge, first axis. -/
theorem highX_at (h1 : x1 (ix2 r q) = D n (col q 0)) (h3 : x3 (ix2 r q) = D n (col q 2)) (h5 : ∀ k, x5 (ix2 r k) = B n k) :
    k0_pay1 (F := Ideal) (k0_pay17 (k0_pay4 x5) (k0_pay6 x5) (k0_pay8 x1) (k0_pay10 x3) (Scalar.ofBits .f32 0x40845349#32))
      (Scalar.ofBits .f32 0x00000000#32) (Scalar.ofBits .f32 0x44A6A000#32) (ix2 r q) = box D B n q 2 := by
  refine (clip0_at 0x44A6A000#32 _ r q).trans (congrArg (clipTo 0x44A6A000#32) ?_)
  refine (half_add_at (k0_pay11 (k0_pay4 x5) (k0_pay6 x5) (k0_pay8 x1)) (k0_pay13 (k0_pay4 x5) (k0_pay10 x3) (Scalar.ofBits .f32 0x40845349#32)) r q).trans ?_
  rw [dpay11_at, dpay13_at0, dpay4_at, dpay6_at0, dpay8_at, dpay10_at, h1, h3]
  simp only [h5]
  rfl
/-- Low edge, second axis. -/
theorem lowY_at (h2 : x2 (ix2 r q) = D n (col q 1)) (h4 : x4 (ix2 r q) = D n (col q 3)) (h5 : ∀ k, x5 (ix2 r k) = B n k) :
    k0_pay16 (F := Ideal) (k0_pay5 x5) (k0_pay7 x5) (k0_pay9 x2) x4 (ix2 r q) = box D B n q 1 := by
  refine (clip0_at 0x44480000#32 _ r q).trans (congrArg (clipTo 0x44480000#32) ?_)
  refine (half_sub_at (k0_pay12 (k0_pay5 x5) (k0_pay7 x5) (k0_pay9 x2)) (k0_pay14 (k0_pay5 x5) x4) r q).trans ?_
  rw [dpay12_at, dpay14_at0, dpay5_at, dpay7_at0, dpay9_at, h2, h4]
  simp only [h5]
  rfl
/-- High edge, second axis. -/
theorem highY_at (h2 : x2 (ix2 r q) = D n (col q 1)) (h4 : x4 (ix2 r q) = D n (col q 3)) (h5 : ∀ k, x5 (ix2 r k) = B n k) :
    k0_pay2 (F := Ideal) (k0_pay12 (k0_pay5 x5) (k0_pay7 x5) (k0_pay9 x2)) (k0_pay14 (k0_pay5 x5) x4) (ix2 r q) = box D B n q 3 := by
  refine (clip0_at 0x44480000#32 _ r q).trans (congrArg (clipTo 0x44480000#32) ?_)
  refine (half_add_at (k0_pay12 (k0_pay5 x5) (k0_pay7 x5) (k0_pay9 x2)) (k0_pay14 (k0_pay5 x5) x4) r q).trans ?_
  rw [dpay12_at, dpay14_at0, dpay5_at, dpay7_at0, dpay9_at, h2, h4]
  simp only [h5]
  rfl
end
-- ==== Proof.KerDecode.lean ====
module
public import proofs.«01_k».proof.Proof.KernelIdealBody
public import proofs.«01_k».proof.Proof.KernelIdealRun
public import proofs.«01_k».proof.Proof.Spec
public import proofs.«01_k».proof.Proof.TopKRead
public import proofs.«01_k».proof.Proof.Gather
public import proofs.«01_k».proof.Proof.KerPay0
public import Idealize.ShloMosaic.Lib.Pointwise
public import Idealize.ShloMosaic.Lib.StableHlo.ReadAt
public import Idealize.ShloMosaic.Lib.Pipeline.ValueKit
@[expose] public section
set_option maxRecDepth 16384
noncomputable section
namespace Cert.KernelIdeal.KV
open Cert.KernelIdeal.Gen Cert.KernelIdeal.Whole Cert.Spec
open Idealize.ShloMosaic Idealize.ShloMosaic.TcCoe Idealize.ShloMosaic.StableHlo
open Idealize.SL.Sem
variable (V : (c : Dev nD) → (b : Ref sig .tc) → Buf (Elt Ideal) ((c : Thread nD τ).loc b))
/-- The first region has 20 rounds. -/
theorem t_lt (t : Fin cfg0.N) : t.val < 20 := lt_of_lt_of_eq t.isLt (by decide +kernel)
/-- Round `t` works on the `t`-th block of window 0 (logits). -/
theorem idx0_0 : ∀ t : Fin cfg0.N, win0_0.index t = ![t.val, 0] := (by decide +kernel : ∀ t : Fin grid0.N, _)
/-- Round `t` works on the `t`-th block of window 1 (horizontal shifts). -/
theorem idx0_1 : ∀ t : Fin cfg0.N, win0_1.index t = ![t.val, 0] := (by decide +kernel : ∀ t : Fin grid0.N, _)
/-- Round `t` works on the `t`-th block of window 2 (vertical shifts). -/
theorem idx0_2 : ∀ t : Fin cfg0.N, win0_2.index t = ![t.val, 0] := (by decide +kernel : ∀ t : Fin grid0.N, _)
/-- Round `t` works on the `t`-th block of window 3 (width deltas). -/
theorem idx0_3 : ∀ t : Fin cfg0.N, win0_3.index t = ![t.val, 0] := (by decide +kernel : ∀ t : Fin grid0.N, _)
/-- Round `t` works on the `t`-th block of window 4 (height deltas). -/
theorem idx0_4 : ∀ t : Fin cfg0.N, win0_4.index t = ![t.val, 0] := (by decide +kernel : ∀ t : Fin grid0.N, _)
/-- Round `t` works on the `t`-th block of window 5 (proposals). -/
theorem idx0_5 : ∀ t : Fin cfg0.N, win0_5.index t = ![t.val, 0] := (by decide +kernel : ∀ t : Fin grid0.N, _)
/-- Round `t` works on the `t`-th block of window 6 (probabilities). -/
theorem idx0_6 : ∀ t : Fin cfg0.N, win0_6.index t = ![t.val, 0] := (by decide +kernel : ∀ t : Fin grid0.N, _)
/-- Round `t` works on the `t`-th block of window 7 (low x). -/
theorem idx0_7 : ∀ t : Fin cfg0.N, win0_7.index t = ![t.val, 0] := (by decide +kernel : ∀ t : Fin grid0.N, _)
/-- Round `t` works on the `t`-th block of window 8 (low y). -/
theorem idx0_8 : ∀ t : Fin cfg0.N, win0_8.index t = ![t.val, 0] := (by decide +kernel : ∀ t : Fin grid0.N, _)
/-- Round `t` works on the `t`-th block of window 9 (high x). -/
theorem idx0_9 : ∀ t : Fin cfg0.N, win0_9.index t = ![t.val, 0] := (by decide +kernel : ∀ t : Fin grid0.N, _)
/-- Round `t` works on the `t`-th block of window 10 (high y). -/
theorem idx0_10 : ∀ t : Fin cfg0.N, win0_10.index t = ![t.val, 0] := (by decide +kernel : ∀ t : Fin grid0.N, _)
/-- A block of input window 0 at an index. -/
theorem blk0_0 (c : Dev nD) (t : Fin cfg0.N) (r : Fin 1000) (k : Fin 81) (n : Fin 20000) (hn : n.val = 1000 * t.val + r.val) :
    iblk0 V c 0 t (ix2 r k) = V c main_arg0 (ix2 n k) := by
  blk_simp [iblk0]
  refine congrArg (V c main_arg0) ?_
  blk_ext [idx0_0]
/-- A block of input window 1 at an index. -/
theorem blk0_1 (c : Dev nD) (t : Fin cfg0.N) (r : Fin 1000) (k : Fin 81) (n : Fin 20000) (hn : n.val = 1000 * t.val + r.val) :
    iblk0 V c 1 t (ix2 r k) = V c main_v2 (ix2 n k) := by
  blk_simp [iblk0]
  refine congrArg (V c main_v2) ?_
  blk_ext [idx0_1]
/-- A block of input window 2 at an index. -/
theorem blk0_2 (c : Dev nD) (t : Fin cfg0.N) (r : Fin 1000) (k : Fin 81) (n : Fin 20000) (hn : n.val = 1000 * t.val + r.val) :
    iblk0 V c 2 t (ix2 r k) = V c main_v4 (ix2 n k) := by
  blk_simp [iblk0]
  refine congrArg (V c main_v4) ?_
  blk_ext [idx0_2]
/-- A block of input window 3 at an index. -/
theorem blk0_3 (c : Dev nD) (t : Fin cfg0.N) (r : Fin 1000) (k : Fin 81) (n : Fin 20000) (hn : n.val = 1000 * t.val + r.val) :
    iblk0 V c 3 t (ix2 r k) = V c main_v6 (ix2 n k) := by
  blk_simp [iblk0]
  refine congrArg (V c main_v6) ?_
  blk_ext [idx0_3]
/-- A block of input window 4 at an index. -/
theorem blk0_4 (c : Dev nD) (t : Fin cfg0.N) (r : Fin 1000) (k : Fin 81) (n : Fin 20000) (hn : n.val = 1000 * t.val + r.val) :
    iblk0 V c 4 t (ix2 r k) = V c main_v8 (ix2 n k) := by
  blk_simp [iblk0]
  refine congrArg (V c main_v8) ?_
  blk_ext [idx0_4]
/-- A block of input window 5 at an index. -/
theorem blk0_5 (c : Dev nD) (t : Fin cfg0.N) (r : Fin 1000) (k : Fin 4) (n : Fin 20000) (hn : n.val = 1000 * t.val + r.val) :
    iblk0 V c 5 t (ix2 r k) = V c main_arg2 (ix2 n k) := by
  blk_simp [iblk0]
  refine congrArg (V c main_arg2) ?_
  blk_ext [idx0_5]
/-- The whole of output 6, from the contents of the inputs. -/
theorem fin6 (c : Dev nD) (L : Fin 20000 → Fin 81 → EReal) (hL : ∀ n k, V c main_arg0 (ix2 n k) = L n k) :
    (dat0 V c).arrAt 6 cfg0.N = (fun i => prob L (i 0) (i 1) : FVec Ideal S20000x81 .f32) := by
  refine (dat0 V c).arrAt_eq_of_covers 6 _ (by decide +kernel) fun t hf y => ?_
  blk_simp
  rw [after0_6]
  frame_out
  idx_vars y
  have ht := t_lt t
  obtain ⟨n, hn⟩ : ∃ n : Fin 20000, n.val = 1000 * t.val + y0.val := ⟨⟨1000 * t.val + y0.val, by omega⟩, rfl⟩
  have he : ((cfg0.win 6).blk t).view.emb (ix2 y0 y1) = ix2 n y1 := by blk_ext [idx0_6]
  refine Eq.trans ?_ (congrArg (fun i : S20000x81.Idx => prob L (i 0) (i 1)) he).symm
  have e : ∀ k, iblk0 V c 0 t (ix2 y0 k) = L n k := fun k => (blk0_0 V c t y0 k n hn).trans (hL n k)
  refine (dpay3_at (iblk0 V c 0 t) y0 y1).trans ?_
  unfold bmax
  simp only [e]
  rfl
/-- The whole of output 7, from the contents of the inputs. -/
theorem fin7 (c : Dev nD) (D : Fin 20000 → Fin 324 → EReal) (B : Fin 20000 → Fin 4 → EReal) (h2 : ∀ n k, V c main_v2 (ix2 n k) = D n (col k 0)) (h4 : ∀ n k, V c main_v4 (ix2 n k) = D n (col k 1))
    (h6 : ∀ n k, V c main_v6 (ix2 n k) = D n (col k 2)) (h8 : ∀ n k, V c main_v8 (ix2 n k) = D n (col k 3)) (hB : ∀ n k, V c main_arg2 (ix2 n k) = B n k) :
    (dat0 V c).arrAt 7 cfg0.N = (fun i => box D B (i 0) (i 1) 0 : FVec Ideal S20000x81 .f32) := by
  refine (dat0 V c).arrAt_eq_of_covers 7 _ (by decide +kernel) fun t hf y => ?_
  blk_simp
  rw [after0_7]
  unfold out0_7 k0_pay18 k0_pay20 k0_pay22 k0_pay24
  frame_out
  idx_vars y
  have ht := t_lt t
  obtain ⟨n, hn⟩ : ∃ n : Fin 20000, n.val = 1000 * t.val + y0.val := ⟨⟨1000 * t.val + y0.val, by omega⟩, rfl⟩
  have he : ((cfg0.win 7).blk t).view.emb (ix2 y0 y1) = ix2 n y1 := by blk_ext [idx0_7]
  refine Eq.trans ?_ (congrArg (fun i : S20000x81.Idx => box D B (i 0) (i 1) 0) he).symm
  exact lowX_at (iblk0 V c 1 t) (iblk0 V c 3 t) (iblk0 V c 5 t) D B n y0 y1 ((blk0_1 V c t y0 y1 n hn).trans (h2 n y1))
    ((blk0_3 V c t y0 y1 n hn).trans (h6 n y1)) (fun k => (blk0_5 V c t y0 k n hn).trans (hB n k))
/-- The whole of output 8, from the contents of the inputs. -/
theorem fin8 (c : Dev nD) (D : Fin 20000 → Fin 324 → EReal) (B : Fin 20000 → Fin 4 → EReal) (h2 : ∀ n k, V c main_v2 (ix2 n k) = D n (col k 0)) (h4 : ∀ n k, V c main_v4 (ix2 n k) = D n (col k 1))
    (h6 : ∀ n k, V c main_v6 (ix2 n k) = D n (col k 2)) (h8 : ∀ n k, V c main_v8 (ix2 n k) = D n (col k 3)) (hB : ∀ n k, V c main_arg2 (ix2 n k) = B n k) :
    (dat0 V c).arrAt 8 cfg0.N = (fun i => box D B (i 0) (i 1) 1 : FVec Ideal S20000x81 .f32) := by
  refine (dat0 V c).arrAt_eq_of_covers 8 _ (by decide +kernel) fun t hf y => ?_
  blk_simp
  rw [after0_8]
  unfold out0_8 k0_pay19 k0_pay21 k0_pay23
  frame_out
  idx_vars y
  have ht := t_lt t
  obtain ⟨n, hn⟩ : ∃ n : Fin 20000, n.val = 1000 * t.val + y0.val := ⟨⟨1000 * t.val + y0.val, by omega⟩, rfl⟩
  have he : ((cfg0.win 8).blk t).view.emb (ix2 y0 y1) = ix2 n y1 := by blk_ext [idx0_8]
  refine Eq.trans ?_ (congrArg (fun i : S20000x81.Idx => box D B (i 0) (i 1) 1) he).symm
  exact lowY_at (iblk0 V c 2 t) (iblk0 V c 4 t) (iblk0 V c 5 t) D B n y0 y1 ((blk0_2 V c t y0 y1 n hn).trans (h4 n y1))
    ((blk0_4 V c t y0 y1 n hn).trans (h8 n y1)) (fun k => (blk0_5 V c t y0 k n hn).trans (hB n k))
/-- The whole of output 9, from the contents of the inputs. -/
theorem fin9 (c : Dev nD) (D : Fin 20000 → Fin 324 → EReal) (B : Fin 20000 → Fin 4 → EReal) (h2 : ∀ n k, V c main_v2 (ix2 n k) = D n (col k 0)) (h4 : ∀ n k, V c main_v4 (ix2 n k) = D n (col k 1))
    (h6 : ∀ n k, V c main_v6 (ix2 n k) = D n (col k 2)) (h8 : ∀ n k, V c main_v8 (ix2 n k) = D n (col k 3)) (hB : ∀ n k, V c main_arg2 (ix2 n k) = B n k) :
    (dat0 V c).arrAt 9 cfg0.N = (fun i => box D B (i 0) (i 1) 2 : FVec Ideal S20000x81 .f32) := by
  refine (dat0 V c).arrAt_eq_of_covers 9 _ (by decide +kernel) fun t hf y => ?_
  blk_simp
  rw [after0_9]
  unfold out0_9 k0_pay18 k0_pay20 k0_pay22 k0_pay24
  frame_out
  idx_vars y
  have ht := t_lt t
  obtain ⟨n, hn⟩ : ∃ n : Fin 20000, n.val = 1000 * t.val + y0.val := ⟨⟨1000 * t.val + y0.val, by omega⟩, rfl⟩
  have he : ((cfg0.win 9).blk t).view.emb (ix2 y0 y1) = ix2 n y1 := by blk_ext [idx0_9]
  refine Eq.trans ?_ (congrArg (fun i : S20000x81.Idx => box D B (i 0) (i 1) 2) he).symm
  exact highX_at (iblk0 V c 1 t) (iblk0 V c 3 t) (iblk0 V c 5 t) D B n y0 y1 ((blk0_1 V c t y0 y1 n hn).trans (h2 n y1))
    ((blk0_3 V c t y0 y1 n hn).trans (h6 n y1)) (fun k => (blk0_5 V c t y0 k n hn).trans (hB n k))
/-- The whole of output 10, from the contents of the inputs. -/
theorem fin10 (c : Dev nD) (D : Fin 20000 → Fin 324 → EReal) (B : Fin 20000 → Fin 4 → EReal) (h2 : ∀ n k, V c main_v2 (ix2 n k) = D n (col k 0)) (h4 : ∀ n k, V c main_v4 (ix2 n k) = D n (col k 1))
    (h6 : ∀ n k, V c main_v6 (ix2 n k) = D n (col k 2)) (h8 : ∀ n k, V c main_v8 (ix2 n k) = D n (col k 3)) (hB : ∀ n k, V c main_arg2 (ix2 n k) = B n k) :
    (dat0 V c).arrAt 10 cfg0.N = (fun i => box D B (i 0) (i 1) 3 : FVec Ideal S20000x81 .f32) := by
  refine (dat0 V c).arrAt_eq_of_covers 10 _ (by decide +kernel) fun t hf y => ?_
  blk_simp
  rw [after0_10]
  unfold out0_10 k0_pay19 k0_pay21 k0_pay23
  frame_out
  idx_vars y
  have ht := t_lt t
  obtain ⟨n, hn⟩ : ∃ n : Fin 20000, n.val = 1000 * t.val + y0.val := ⟨⟨1000 * t.val + y0.val, by omega⟩, rfl⟩
  have he : ((cfg0.win 10).blk t).view.emb (ix2 y0 y1) = ix2 n y1 := by blk_ext [idx0_10]
  refine Eq.trans ?_ (congrArg (fun i : S20000x81.Idx => box D B (i 0) (i 1) 3) he).symm
  exact highY_at (iblk0 V c 2 t) (iblk0 V c 4 t) (iblk0 V c 5 t) D B n y0 y1 ((blk0_2 V c t y0 y1 n hn).trans (h4 n y1))
    ((blk0_4 V c t y0 y1 n hn).trans (h8 n y1)) (fun k => (blk0_5 V c t y0 k n hn).trans (hB n k))
-- ==== Proof.KerHost0.lean ====
module
public import proofs.«01_k».proof.Proof.KernelIdealBody
public import proofs.«01_k».proof.Proof.KernelIdealRun
public import proofs.«01_k».proof.Proof.Spec
public import proofs.«01_k».proof.Proof.TopKRead
public import proofs.«01_k».proof.Proof.Gather
public import Idealize.ShloMosaic.Lib.Pointwise
public import Idealize.ShloMosaic.Lib.StableHlo.ReadAt
@[expose] public section
set_option maxRecDepth 16384
noncomputable section
namespace Cert.KernelIdeal.KV
open Cert.KernelIdeal.Gen Cert.KernelIdeal.Whole Cert.Spec
open Idealize.ShloMosaic Idealize.ShloMosaic.TcCoe Idealize.ShloMosaic.StableHlo
open Idealize.SL.Sem
section
variable (V : Valuation τ sig (Elt Ideal))
/-- Delta 0 of every class, cut out of the regression array. -/
theorem h0_0 (n : Fin 20000) (q : Fin 81) : after hostOps0 V (Proc.devRef .tc main_v2) (ix2 n q) = V (Proc.devRef .tc main_arg1) (ix2 n (col q 0)) := by
  after_reads_simp
  pointwise
  rfl
/-- Delta 1 of every class, cut out of the regression array. -/
theorem h0_1 (n : Fin 20000) (q : Fin 81) : after hostOps0 V (Proc.devRef .tc main_v4) (ix2 n q) = V (Proc.devRef .tc main_arg1) (ix2 n (col q 1)) := by
  after_reads_simp
  pointwise
  rfl
/-- Delta 2 of every class, cut out of the regression array. -/
theorem h0_2 (n : Fin 20000) (q : Fin 81) : after hostOps0 V (Proc.devRef .tc main_v6) (ix2 n q) = V (Proc.devRef .tc main_arg1) (ix2 n (col q 2)) := by
  after_reads_simp
  pointwise
  rfl
/-- Delta 3 of every class, cut out of the regression array. -/
theorem h0_3 (n : Fin 20000) (q : Fin 81) : after hostOps0 V (Proc.devRef .tc main_v8) (ix2 n q) = V (Proc.devRef .tc main_arg1) (ix2 n (col q 3)) := by
  after_reads_simp
  pointwise
  rfl
end
-- ==== Proof.KerNms.lean ====
module
public import proofs.«01_k».proof.Proof.KernelIdealBody
public import proofs.«01_k».proof.Proof.KernelIdealRun
public import proofs.«01_k».proof.Proof.Spec
public import proofs.«01_k».proof.Proof.TopKRead
public import proofs.«01_k».proof.Proof.Gather
public import Idealize.ShloMosaic.Lib.Pointwise
public import Idealize.ShloMosaic.Lib.StableHlo.ReadAt
@[expose] public section
set_option maxRecDepth 16384
noncomputable section
namespace Cert.KernelIdeal.KV
open Cert.KernelIdeal.Gen Cert.KernelIdeal.Whole Cert.Spec
open Idealize.ShloMosaic Idealize.ShloMosaic.TcCoe Idealize.ShloMosaic.StableHlo
open Idealize.SL.Sem
/-- The word of trip `k`. -/
theorem iv_eq (k : Fin k1_t1_loop.trips) : Scf.iv 0#32 1#32 k = BitVec.ofNat 32 k.val := by
  simp [Scf.iv]
/-- Low horizontal edge of box `k`. -/
theorem pick8 (v1 : FVec Ideal S80x512 .f32) (k : Fin k1_t1_loop.trips) (i : Fin 512) (hi : i.val = k.val) (c : Fin 80) :
    k1_pay8 v1 lanes 0#32 1#32 k (ix2 c 0) = v1 (ix2 c i) := by
  unfold k1_pay8
  rw [iv_eq, ← hi]
  unfold lanes
  pointwise
  exact Gather.pick (by decide) (fun x => v1 (ix2 c x)) i
/-- Low vertical edge of box `k`. -/
theorem pick9 (v1 : FVec Ideal S80x512 .f32) (k : Fin k1_t1_loop.trips) (i : Fin 512) (hi : i.val = k.val) (c : Fin 80) :
    k1_pay9 v1 lanes 0#32 1#32 k (ix2 c 0) = v1 (ix2 c i) := by
  unfold k1_pay9
  rw [iv_eq, ← hi]
  unfold lanes
  pointwise
  exact Gather.pick (by decide) (fun x => v1 (ix2 c x)) i
/-- High horizontal edge of box `k`. -/
theorem pick10 (v1 : FVec Ideal S80x512 .f32) (k : Fin k1_t1_loop.trips) (i : Fin 512) (hi : i.val = k.val) (c : Fin 80) :
    k1_pay10 v1 lanes 0#32 1#32 k (ix2 c 0) = v1 (ix2 c i) := by
  unfold k1_pay10
  rw [iv_eq, ← hi]
  unfold lanes
  pointwise
  exact Gather.pick (by decide) (fun x => v1 (ix2 c x)) i
/-- High vertical edge of box `k`. -/
theorem pick11 (v1 : FVec Ideal S80x512 .f32) (k : Fin k1_t1_loop.trips) (i : Fin 512) (hi : i.val = k.val) (c : Fin 80) :
    k1_pay11 v1 lanes 0#32 1#32 k (ix2 c 0) = v1 (ix2 c i) := by
  unfold k1_pay11
  rw [iv_eq, ← hi]
  unfold lanes
  pointwise
  exact Gather.pick (by decide) (fun x => v1 (ix2 c x)) i
/-- Keep flag of box `k`. -/
theorem pick12 (v1 : FVec Ideal S80x512 .f32) (k : Fin k1_t1_loop.trips) (i : Fin 512) (hi : i.val = k.val) (c : Fin 80) :
    k1_pay12 lanes 0#32 1#32 k v1 (ix2 c 0) = v1 (ix2 c i) := by
  unfold k1_pay12
  rw [iv_eq, ← hi]
  unfold lanes
  pointwise
  exact Gather.pick (by decide) (fun x => v1 (ix2 c x)) i
/-- An input block is used as it was read. -/
theorem pay1_at (v : Vec Ideal S80x512 .f32) : k1_pay1 v = v := by
  funext y; unfold k1_pay1; idx_vars y; pointwise
/-- An input block is used as it was read. -/
theorem pay2_at (v : Vec Ideal S80x512 .f32) : k1_pay2 v = v := by
  funext y; unfold k1_pay2; idx_vars y; pointwise
/-- An input block is used as it was read. -/
theorem pay3_at (v : Vec Ideal S80x512 .f32) : k1_pay3 v = v := by
  funext y; unfold k1_pay3; idx_vars y; pointwise
/-- An input block is used as it was read. -/
theorem pay4_at (v : Vec Ideal S80x512 .f32) : k1_pay4 v = v := by
  funext y; unfold k1_pay4; idx_vars y; pointwise
/-- Area of box `k`. -/
theorem pay13_at (v1 v3 v5 v7 : FVec Ideal S80x512 .f32) (k : Fin k1_t1_loop.trips) (i : Fin 512) (hi : i.val = k.val) (c : Fin 80) :
    k1_pay13 v1 v3 v5 v7 lanes 0#32 1#32 k (ix2 c 0) = ((v5 (ix2 c i) - v1 (ix2 c i)) * (v7 (ix2 c i) - v3 (ix2 c i)) : EReal) := by
  unfold k1_pay13
  rw [← pick8 v1 k i hi c, ← pick9 v3 k i hi c, ← pick10 v5 k i hi c, ← pick11 v7 k i hi c]
  rfl
/-- Horizontal extent of the intersection with box `k`. -/
theorem pay14_at (v1 v5 : FVec Ideal S80x512 .f32) (k : Fin k1_t1_loop.trips) (i : Fin 512) (hi : i.val = k.val) (c : Fin 80) (j : Fin 512) :
    k1_pay14 v1 v5 lanes 0#32 1#32 k (ix2 c j) = (min (v5 (ix2 c i) : EReal) (v5 (ix2 c j)) - max (v1 (ix2 c i) : EReal) (v1 (ix2 c j)) : EReal) := by
  unfold k1_pay14
  rw [← pick8 v1 k i hi c, ← pick10 v5 k i hi c]
  generalize k1_pay8 v1 lanes 0#32 1#32 k = a
  generalize k1_pay10 v5 lanes 0#32 1#32 k = a'
  pointwise
/-- One trip of suppression, at one candidate, in the numbers 0 and 1. -/
theorem pay6_at (v0 v2 v4 v6 acc v72 : FVec Ideal S80x512 .f32) (v40 v56 v64 v67 : FVec Ideal S80x1 .f32) (b : Fin 512 → Fin 4 → EReal) (i j : Fin 512) (c : Fin 80)
   (h0 : v0 (ix2 c j) = b j 0) (h2 : v2 (ix2 c j) = b j 1) (h4 : v4 (ix2 c j) = b j 2) (h6 : v6 (ix2 c j) = b j 3)
   (h40 : v40 (ix2 c 0) = b i 1) (h56 : v56 (ix2 c 0) = b i 3) (h67 : v67 (ix2 c 0) = area b i) (h72 : v72 (ix2 c j) = min (b i 2) (b j 2) - max (b i 0) (b j 0)) :
   k1_pay6 v0 v2 v4 v6 acc (BitVec.ofNat 32 i.val) v40 v56 v64 v67 v72 (Scalar.ofBits .f32 0x00000000#32) (ix2 c j)
    = (acc (ix2 c j) * (1 - v64 (ix2 c 0) * Scalar.select (IntOp.andi (Ideal.cmp .ogt (iou b i j) (cb 0x3F000000#32)) (IntOp.cmpi .sgt (BitVec.ofNat 32 j.val) (BitVec.ofNat 32 i.val))) (1 : EReal) 0) : EReal) := by
  unfold k1_pay6
  rw [pay1_at, pay2_at, pay3_at, pay4_at]
  pointwise
  rw [h0, h2, h4, h6, h40, h56, h67, h72]
  unfold iou inter area
  simp only [cb, Ideal.ofBits_zero_f32]

/-- A property that a fold's steps carry on holds at its end. -/
theorem foldl_inv {σ : Type} : ∀ (n : ℕ) (P : ℕ → σ → Prop) (g : Fin n → σ → σ) (init : σ), P 0 init →
    (∀ (k : Fin n) acc, P k.val acc → P (k.val + 1) (g k acc)) → P n ((List.finRange n).foldl (fun acc k => g k acc) init)
  | 0, P, g, init, h, _ => h
  | n + 1, P, g, init, h, hs => by
    rw [List.finRange_succ, List.foldl_cons, List.foldl_map]
    exact foldl_inv n (fun k => P (k + 1)) (fun k => g k.succ) (g 0 init) (hs 0 init h) (fun k acc hk => hs k.succ acc hk)

/-- The arithmetic of one step on flags that are one or zero. -/
theorem flag_step (p q : Bool) (s : Bool) :
    ((if p then (1 : EReal) else 0) * (1 - (if q then (1 : EReal) else 0) * (if s then (1 : EReal) else 0)) : EReal) = if (p && !(q && s)) then 1 else 0 := by
  have e1 : (1 : EReal) - 1 = 0 := by
    have := EReal.coe_sub (1 : ℝ) (1 : ℝ)
    simpa using this.symm
  cases p <;> cases q <;> cases s <;> simp [e1]

/-- One trip of the loop on flags that are one or zero. -/
theorem nmsStep_at (v0 v2 v4 v6 acc : FVec Ideal S80x512 .f32) (k : Fin k1_t1_loop.trips) (hk : k.val < 512) (c : Fin 80) (b : Fin 512 → Fin 4 → EReal)
   (h0 : ∀ j, v0 (ix2 c j) = b j 0) (h2 : ∀ j, v2 (ix2 c j) = b j 1) (h4 : ∀ j, v4 (ix2 c j) = b j 2) (h6 : ∀ j, v6 (ix2 c j) = b j 3)
   (kp : Fin 512 → Bool) (ha : ∀ j, acc (ix2 c j) = if kp j then (1 : EReal) else 0) (j : Fin 512) :
   nmsStep v0 v2 v4 v6 k acc (ix2 c j) = if kstep b ⟨k.val, hk⟩ kp j then (1 : EReal) else 0 := by
  unfold nmsStep
  rw [pay1_at, pay2_at, pay3_at, pay4_at, iv_eq]
  have e := pay6_at v0 v2 v4 v6 acc (k1_pay14 v0 v4 lanes 0#32 1#32 k) (k1_pay9 v2 lanes 0#32 1#32 k) (k1_pay11 v6 lanes 0#32 1#32 k)
    (k1_pay12 lanes 0#32 1#32 k acc) (k1_pay13 v0 v2 v4 v6 lanes 0#32 1#32 k) b ⟨k.val, hk⟩ j c (h0 j) (h2 j) (h4 j) (h6 j)
    ((pick9 v2 k ⟨k.val, hk⟩ rfl c).trans (h2 _)) ((pick11 v6 k ⟨k.val, hk⟩ rfl c).trans (h6 _))
    (by rw [pay13_at v0 v2 v4 v6 k ⟨k.val, hk⟩ rfl c, h0, h2, h4, h6]; rfl)
    (by rw [pay14_at v0 v4 k ⟨k.val, hk⟩ rfl c j, h0, h4, h0, h4])
  refine e.trans ?_
  rw [pick12 acc k ⟨k.val, hk⟩ rfl c, ha, ha, Gather.gt_iff _ _ (by omega) (by show k.val < _; omega)]
  refine Eq.trans ?_ (flag_step (kp j) (kp ⟨k.val, hk⟩) (sup b ⟨k.val, hk⟩ j))
  congr 3
  unfold sup
  show Scalar.select (BitVec.ofBool (decide (cb 0x3F000000#32 < iou b ⟨k.val, hk⟩ j)) &&& BitVec.ofBool (decide (k.val < j.val))) (1 : EReal) 0 = _
  have e' : decide ((⟨k.val, hk⟩ : Fin 512) < j) = decide (k.val < j.val) := rfl
  rw [e']
  cases decide (cb 0x3F000000#32 < iou b ⟨k.val, hk⟩ j) <;> cases decide (k.val < j.val) <;> rfl

/-- The flags after the whole loop. -/
theorem nmsLoop_at (v0 v2 v4 v6 : FVec Ideal S80x512 .f32) (c : Fin 80) (b : Fin 512 → Fin 4 → EReal)
   (h0 : ∀ j, v0 (ix2 c j) = b j 0) (h2 : ∀ j, v2 (ix2 c j) = b j 1) (h4 : ∀ j, v4 (ix2 c j) = b j 2) (h6 : ∀ j, v6 (ix2 c j) = b j 3) (j : Fin 512) :
   nmsLoop (F := Ideal) v0 v2 v4 v6 (ix2 c j) = if kept b 512 j then (1 : EReal) else 0 := by
  have ht : k1_t1_loop.trips = 512 := by decide
  have key := foldl_inv k1_t1_loop.trips (fun k (acc : FVec Ideal S80x512 .f32) => ∀ j, acc (ix2 c j) = if kept b k j then (1 : EReal) else 0)
    (nmsStep v0 v2 v4 v6) (k1_pay5 (F := Ideal)) (fun j => by
      show Ideal.ofBits .f32 0x3F800000#32 = _
      rw [Ideal.ofBits_one_f32]; rfl)
    (fun k acc hacc j => by
      have hk : k.val < 512 := ht ▸ k.isLt
      rw [nmsStep_at v0 v2 v4 v6 acc k hk c b h0 h2 h4 h6 (kept b k.val) hacc j, kept, dif_pos hk])
  unfold nmsLoop
  rw [Scf.fold_eq]
  exact (key j).trans (by simp only [ht])

/-- What the kernel stores: the score where its box is kept, minus one where not. -/
theorem pay7_at (s flags : FVec Ideal S80x512 .f32) (c : Fin 80) (j : Fin 512) (q : Bool) (hq : flags (ix2 c j) = if q then (1 : EReal) else 0) :
    k1_pay7 s flags (ix2 c j) = if q ∧ cb 0x3D4CCCCD#32 < s (ix2 c j) then (s (ix2 c j) : EReal) else cb 0xBF800000#32 := by
  unfold k1_pay7
  pointwise
  rw [hq]
  have hh : Ideal.ofBits .f32 0x3F000000#32 = ((1 / 2 : ℝ) : EReal) := by
    simp [Ideal.ofBits, Ideal.ieee, -EReal.coe_mul]; norm_num
  have h1 : Ideal.ofBits .f32 0x3F000000#32 < 1 := by
    rw [hh]; exact_mod_cast (by norm_num : (1 / 2 : ℝ) < 1)
  have h0 : ¬ Ideal.ofBits .f32 0x3F000000#32 < 0 := by
    rw [hh]; exact not_lt.mpr (by exact_mod_cast (by norm_num : (0 : ℝ) ≤ 1 / 2))
  by_cases hs : cb 0x3D4CCCCD#32 < s (ix2 c j)
  · cases q
    · simp only [Bool.false_eq_true, if_false, false_and, decide_eq_false h0]
      rw [decide_eq_true hs]; rfl
    · simp only [if_true, true_and, decide_eq_true h1]
      rw [decide_eq_true hs, if_pos hs]; rfl
  · cases q
    · simp only [Bool.false_eq_true, if_false, false_and, decide_eq_false h0]
      rw [decide_eq_false hs]; rfl
    · simp only [if_true, true_and, decide_eq_true h1]
      rw [decide_eq_false hs, if_neg hs]; rfl
-- ==== Proof.KerRegion1.lean ====
module
public import proofs.«01_k».proof.Proof.KernelIdealBody
public import proofs.«01_k».proof.Proof.KernelIdealRun
public import proofs.«01_k».proof.Proof.Spec
public import proofs.«01_k».proof.Proof.TopKRead
public import proofs.«01_k».proof.Proof.Gather
public import Idealize.ShloMosaic.Lib.Pointwise
public import Idealize.ShloMosaic.Lib.StableHlo.ReadAt
public import Idealize.ShloMosaic.Lib.Pipeline.ValueKit
public import proofs.«01_k».proof.Proof.KerNms
@[expose] public section
set_option maxRecDepth 16384
noncomputable section
namespace Cert.KernelIdeal.KV
open Cert.KernelIdeal.Gen Cert.KernelIdeal.Whole Cert.Spec
open Idealize.ShloMosaic Idealize.ShloMosaic.TcCoe Idealize.ShloMosaic.StableHlo
open Idealize.SL.Sem
variable (V : (c : Dev nD) → (b : Ref sig .tc) → Buf (Elt Ideal) ((c : Thread nD τ).loc b))
/-- The one round of the second region works on the whole of window 0. -/
theorem idx1_0 : ∀ t : Fin cfg1.N, win1_0.index t = ![0, 0] := (by decide +kernel : ∀ t : Fin grid1.N, _)
/-- The one round of the second region works on the whole of window 1. -/
theorem idx1_1 : ∀ t : Fin cfg1.N, win1_1.index t = ![0, 0] := (by decide +kernel : ∀ t : Fin grid1.N, _)
/-- The one round of the second region works on the whole of window 2. -/
theorem idx1_2 : ∀ t : Fin cfg1.N, win1_2.index t = ![0, 0] := (by decide +kernel : ∀ t : Fin grid1.N, _)
/-- The one round of the second region works on the whole of window 3. -/
theorem idx1_3 : ∀ t : Fin cfg1.N, win1_3.index t = ![0, 0] := (by decide +kernel : ∀ t : Fin grid1.N, _)
/-- The one round of the second region works on the whole of window 4. -/
theorem idx1_4 : ∀ t : Fin cfg1.N, win1_4.index t = ![0, 0] := (by decide +kernel : ∀ t : Fin grid1.N, _)
/-- The one round of the second region works on the whole of window 5. -/
theorem idx1_5 : ∀ t : Fin cfg1.N, win1_5.index t = ![0, 0] := (by decide +kernel : ∀ t : Fin grid1.N, _)
/-- The block of input window 0 at an index. -/
theorem blk1_0 (c : Dev nD) (t : Fin cfg1.N) (r : Fin 80) (k : Fin 512) :
    iblk1 V c 0 t (ix2 r k) = V c main_v27 (ix2 r k) := by
  blk_simp [iblk1]
  refine congrArg (V c main_v27) ?_
  blk_ext [idx1_0]
/-- The block of input window 1 at an index. -/
theorem blk1_1 (c : Dev nD) (t : Fin cfg1.N) (r : Fin 80) (k : Fin 512) :
    iblk1 V c 1 t (ix2 r k) = V c main_v30 (ix2 r k) := by
  blk_simp [iblk1]
  refine congrArg (V c main_v30) ?_
  blk_ext [idx1_1]
/-- The block of input window 2 at an index. -/
theorem blk1_2 (c : Dev nD) (t : Fin cfg1.N) (r : Fin 80) (k : Fin 512) :
    iblk1 V c 2 t (ix2 r k) = V c main_v33 (ix2 r k) := by
  blk_simp [iblk1]
  refine congrArg (V c main_v33) ?_
  blk_ext [idx1_2]
/-- The block of input window 3 at an index. -/
theorem blk1_3 (c : Dev nD) (t : Fin cfg1.N) (r : Fin 80) (k : Fin 512) :
    iblk1 V c 3 t (ix2 r k) = V c main_v36 (ix2 r k) := by
  blk_simp [iblk1]
  refine congrArg (V c main_v36) ?_
  blk_ext [idx1_3]
/-- The block of input window 4 at an index. -/
theorem blk1_4 (c : Dev nD) (t : Fin cfg1.N) (r : Fin 80) (k : Fin 512) :
    iblk1 V c 4 t (ix2 r k) = V c main_values_1 (ix2 r k) := by
  blk_simp [iblk1]
  refine congrArg (V c main_values_1) ?_
  blk_ext [idx1_4]
/-- What the second region leaves. -/
theorem fin1_5 (c : Dev nD) (b : Fin 80 → Fin 512 → Fin 4 → EReal) (s : Fin 80 → Fin 512 → EReal)
    (h0 : ∀ r k, V c main_v27 (ix2 r k) = b r k 0) (h1 : ∀ r k, V c main_v30 (ix2 r k) = b r k 1)
    (h2 : ∀ r k, V c main_v33 (ix2 r k) = b r k 2) (h3 : ∀ r k, V c main_v36 (ix2 r k) = b r k 3)
    (h4 : ∀ r k, V c main_values_1 (ix2 r k) = s r k) :
    (dat1 V c).arrAt 5 cfg1.N = (fun i => if kept (b (i 0)) 512 (i 1) ∧ cb 0x3D4CCCCD#32 < s (i 0) (i 1) then s (i 0) (i 1) else cb 0xBF800000#32 : FVec Ideal S80x512 .f32) := by
  refine (dat1 V c).arrAt_eq_of_covers 5 _ (by decide +kernel) fun t hf y => ?_
  blk_simp
  rw [after1_5]
  frame_out
  idx_vars y
  have he : ((cfg1.win 5).blk t).view.emb (ix2 y0 y1) = ix2 y0 y1 := by blk_ext [idx1_5]
  refine Eq.trans ?_ (congrArg (fun i : S80x512.Idx => if kept (b (i 0)) 512 (i 1) ∧ cb 0x3D4CCCCD#32 < s (i 0) (i 1) then s (i 0) (i 1) else cb 0xBF800000#32) he).symm
  refine (pay7_at (iblk1 V c 4 t) _ y0 y1 (kept (b y0) 512 y1) (nmsLoop_at (iblk1 V c 0 t) (iblk1 V c 1 t) (iblk1 V c 2 t) (iblk1 V c 3 t) y0 (b y0)
    (fun j => (blk1_0 V c t y0 j).trans (h0 y0 j)) (fun j => (blk1_1 V c t y0 j).trans (h1 y0 j))
    (fun j => (blk1_2 V c t y0 j).trans (h2 y0 j)) (fun j => (blk1_3 V c t y0 j).trans (h3 y0 j)) y1)).trans ?_
  have e4 : iblk1 V c 4 t (ix2 y0 y1) = s y0 y1 := (blk1_4 V c t y0 y1).trans (h4 y0 y1)
  rw [e4]
  rfl
-- ==== Proof.KerScores.lean ====
module
public import proofs.«01_k».proof.Proof.KernelIdealBody
public import proofs.«01_k».proof.Proof.KernelIdealRun
public import proofs.«01_k».proof.Proof.Spec
public import proofs.«01_k».proof.Proof.TopKRead
public import proofs.«01_k».proof.Proof.Gather
public import Idealize.ShloMosaic.Lib.Pointwise
public import Idealize.ShloMosaic.Lib.StableHlo.ReadAt
@[expose] public section
set_option maxRecDepth 16384
noncomputable section
namespace Cert.KernelIdeal.KV
open Cert.KernelIdeal.Gen Cert.KernelIdeal.Whole Cert.Spec
open Idealize.ShloMosaic Idealize.ShloMosaic.TcCoe Idealize.ShloMosaic.StableHlo
open Idealize.SL.Sem
variable (V : Valuation τ sig (Elt Ideal))
/-- The class scores, before the threshold. -/
theorem v11_at (c : Fin 80) (n : Fin 20000) :
    after hostOps1 V (Proc.devRef .tc main_v11) (ix2 c n) = V (Proc.devRef .tc main_v9_0) (ix2 n (up c)) := by
  after_reads_simp
  pointwise
  rfl
/-- Whether a probability is above the score threshold. -/
theorem v13_at (c : Fin 80) (n : Fin 20000) (x : EReal) (h : V (Proc.devRef .tc main_v9_0) (ix2 n (up c)) = x) :
    after hostOps1 V (Proc.devRef .tc main_v13) (ix2 c n) = BitVec.ofBool (decide (cb 0x3D4CCCCD#32 < x)) := by
  subst h
  after_reads_simp
  pointwise
  rfl
/-- The score given to what is dropped. -/
theorem cst0 : after hostOps1 V (Proc.devRef .tc main_cst_0) = constant (F := Ideal) S_ .f32 0xBF800000#32 := by
  after_reads_simp
/-- A score, or minus one where it is not above the threshold. -/
theorem v14_at (h : V (Proc.devRef .tc main_cst_0) = constant (F := Ideal) S_ .f32 0xBF800000#32) (c : Fin 80) (n : Fin 20000) (x : EReal)
    (h1 : V (Proc.devRef .tc main_v11) (ix2 c n) = x) (h2 : V (Proc.devRef .tc main_v13) (ix2 c n) = BitVec.ofBool (decide (cb 0x3D4CCCCD#32 < x))) :
    after hostOps1_1 V (Proc.devRef .tc main_v14) (ix2 c n) = thr x := by
  after_reads_at
  rw [h, h1, h2]
  unfold thr
  by_cases hx : cb 0x3D4CCCCD#32 < x
  · rw [if_pos hx, decide_eq_true hx]; rfl
  · rw [if_neg hx, decide_eq_false hx]; rfl
-- ==== Proof.KerTop.lean ====
module
public import proofs.«01_k».proof.Proof.KernelIdealBody
public import proofs.«01_k».proof.Proof.KernelIdealRun
public import proofs.«01_k».proof.Proof.Spec
public import proofs.«01_k».proof.Proof.TopKRead
public import proofs.«01_k».proof.Proof.Gather
public import Idealize.ShloMosaic.Lib.Pointwise
public import Idealize.ShloMosaic.Lib.StableHlo.ReadAt
@[expose] public section
set_option maxRecDepth 16384
noncomputable section
namespace Cert.KernelIdeal.KV
open Cert.KernelIdeal.Gen Cert.KernelIdeal.Whole Cert.Spec
open Idealize.ShloMosaic Idealize.ShloMosaic.TcCoe Idealize.ShloMosaic.StableHlo
open Idealize.SL.Sem
variable (V : Valuation τ sig (Elt Ideal))
open Cert.TopK
/-- The values of the chunks' top lists, in one line. -/
theorem v22_at (x : FVec Ideal S80x20000 .f32) (h : V (Proc.devRef .tc main_v14) = x) (c : Fin 80) (u : Fin 2560) :
    after hostOps1_2 V (Proc.devRef .tc main_v22) (ix2 c u) = x (ix2 c (cand (fun n => x (ix2 c n)) u)) := by
  after_reads_simp
  rw [h]
  pointwise
  rw [topK3_values _ _ (by decide)]
  have ek : ∀ q : Fin 4000, ∀ pf, (⟨u.val / 512 * 4000 + q.val, pf⟩ : Fin 20000) = loc (chunk u) q := fun q pf => Fin.ext (by
    show u.val / 512 * 4000 + q.val = 4000 * (u.val / 512) + q.val
    omega)
  have e : ∀ F G : Fin 4000 → EReal, F = G →
      u.val / 512 * 4000 + (rank F ((slot u).castLE (by decide))).val = 4000 * (u.val / 512) + (rank G ((slot u).castLE (by decide))).val := by
    intro F G hF; subst hF; omega
  refine congrArg x (congrArg (ix2 c) (Fin.ext ?_))
  exact e _ (fun q => x (ix2 c (loc (chunk u) q))) (funext fun q => congrArg x (congrArg (ix2 c) (ek q _)))
/-- The candidates' positions, in one line. -/
theorem v23_at (x : FVec Ideal S80x20000 .f32) (h : V (Proc.devRef .tc main_v14) = x) (c : Fin 80) (u : Fin 2560) :
    after hostOps1_2 V (Proc.devRef .tc main_v23) (ix2 c u) = BitVec.ofNat 32 (cand (fun n => x (ix2 c n)) u).val := by
  after_reads_simp
  rw [h]
  pointwise
  rw [topK3_indices _ _ (by decide)]
  have ek : ∀ q : Fin 4000, ∀ pf, (⟨u.val / 512 * 4000 + q.val, pf⟩ : Fin 20000) = loc (chunk u) q := fun q pf => Fin.ext (by
    show u.val / 512 * 4000 + q.val = 4000 * (u.val / 512) + q.val
    omega)
  have e : ∀ F G : Fin 4000 → EReal, F = G →
      IntOp.addi (BitVec.ofNat 32 (rank F ((slot u).castLE (by decide))).val) (IntOp.muli (BitVec.ofNat 32 (u.val / 512)) 4000#32)
        = BitVec.ofNat 32 (4000 * (u.val / 512) + (rank G ((slot u).castLE (by decide))).val) := by
    intro F G hF
    subst hF
    show BitVec.ofNat 32 (rank F ((slot u).castLE (by decide))).val + BitVec.ofNat 32 (u.val / 512) * BitVec.ofNat 32 4000 = _
    rw [← BitVec.ofNat_mul, ← BitVec.ofNat_add]
    exact congrArg (BitVec.ofNat 32) (by omega)
  have ec : (cand (fun n => x (ix2 c n)) u).val
      = 4000 * (u.val / 512) + (rank (fun q => x (ix2 c (loc (chunk u) q))) ((slot u).castLE (by decide))).val := rfl
  rw [ec]
  refine e _ _ (funext fun q => congrArg x (congrArg (ix2 c) (ek q _)))
/-- The kept scores are the candidates' values in order. -/
theorem values1_of : after hostOps1_2 V (Proc.devRef .tc main_values_1)
    = (Host.topK S80x512 1 (FloatOps.cmpfTotal (F := Ideal) (φ := .f32) .gt) (after hostOps1_2 V (Proc.devRef .tc main_v22)) sliceFits_S80x2560_S80x512).1 := by
  after_reads_simp
/-- And their positions among the candidates. -/
theorem indices2_of : after hostOps1_2 V (Proc.devRef .tc main_indices_2)
    = (Host.topK S80x512 1 (FloatOps.cmpfTotal (F := Ideal) (φ := .f32) .gt) (after hostOps1_2 V (Proc.devRef .tc main_v22)) sliceFits_S80x2560_S80x512).2 := by
  after_reads_simp
/-- The rank, among the candidates, of the scores' order. -/
def candRank (x : FVec Ideal S80x20000 .f32) (c : Fin 80) (r : Fin 512) : Fin 2560 :=
  rank (fun u => x (ix2 c (cand (fun n => x (ix2 c n)) u))) (r.castLE (by decide))
/-- The rank among the chunks' survivors leads to the rank among all proposals. -/
theorem candRank_eq (x : FVec Ideal S80x20000 .f32) (c : Fin 80) (r : Fin 512) :
    cand (fun n => x (ix2 c n)) (candRank x c r) = rank (fun n => x (ix2 c n)) (r.castLE (by decide)) :=
  (rank_chunked (fun n => x (ix2 c n)) r).symm
/-- The two-level top scores are the top scores of all proposals. -/
theorem values1_at (x : FVec Ideal S80x20000 .f32) (h : V (Proc.devRef .tc main_v14) = x) (c : Fin 80) (r : Fin 512) :
    after hostOps1_2 V (Proc.devRef .tc main_values_1) (ix2 c r) = x (ix2 c (rank (fun n => x (ix2 c n)) (r.castLE (by decide)))) := by
  rw [values1_of, topK2_values _ _ (by decide), v22_at V x h, ← candRank_eq]
  unfold candRank
  simp only [v22_at V x h]
/-- The position among the survivors. -/
theorem indices2_at (x : FVec Ideal S80x20000 .f32) (h : V (Proc.devRef .tc main_v14) = x) (c : Fin 80) (r : Fin 512) :
    after hostOps1_2 V (Proc.devRef .tc main_indices_2) (ix2 c r) = BitVec.ofNat 32 (candRank x c r).val := by
  rw [indices2_of, topK2_indices _ _ (by decide)]
  unfold candRank
  simp only [v22_at V x h]
-- ==== Proof.KerTake.lean ====
module
public import proofs.«01_k».proof.Proof.KernelIdealBody
public import proofs.«01_k».proof.Proof.KernelIdealRun
public import proofs.«01_k».proof.Proof.Spec
public import proofs.«01_k».proof.Proof.TopKRead
public import proofs.«01_k».proof.Proof.Gather
public import Idealize.ShloMosaic.Lib.Pointwise
public import Idealize.ShloMosaic.Lib.StableHlo.ReadAt
@[expose] public section
set_option maxRecDepth 16384
noncomputable section
namespace Cert.KernelIdeal.KV
open Cert.KernelIdeal.Gen Cert.KernelIdeal.Whole Cert.Spec
open Idealize.ShloMosaic Idealize.ShloMosaic.TcCoe Idealize.ShloMosaic.StableHlo
open Idealize.SL.Sem
variable (V : Valuation τ sig (Elt Ideal))
/-- The positions taken at the candidates' ranks. -/
theorem v24_at (c : Fin 80) (r : Fin 512) (p : Fin 2560) (h : V (Proc.devRef .tc main_indices_2) (ix2 c r) = BitVec.ofNat 32 p.val) :
    after hostOps1_3 V (Proc.devRef .tc main_v24) (ix2 c r) = V (Proc.devRef .tc main_v23) (ix2 c p) := by
  have hp : p.val ≤ 2559 := by omega
  after_reads_at
  rw [h]
  simp only [Gather.norm p.val (by omega)]
  rw [Gather.inb p.val 2559 (by decide) hp (fun _ => BitVec.ofNat 32 p.val) (fun _ => rfl)]
  refine (Gather.along (by decide) gather_S80x2560_S80x512x1_S80x512_n_1_0_0_1_2_11 gather_S80x2560_S80x512x1_S80x512_n_1_0_0_1_2_11_wf rfl _ _ c r p ?_)
  show Scalar.select (IntOp.cmpi CmpIPredicate.slt (V (Proc.devRef .tc main_indices_2) (ix2 c r)) 0#32) _ (V (Proc.devRef .tc main_indices_2) (ix2 c r)) = _
  rw [h]
  exact Gather.norm p.val (by omega) _

/-- A coordinate, class by class. -/
theorem v26_at (c : Fin 80) (n : Fin 20000) :
    after hostOps1_4 V (Proc.devRef .tc main_v26) (ix2 c n) = V (Proc.devRef .tc main_v9_1) (ix2 n (up c)) := by
  after_reads_simp
  pointwise
  rfl
/-- A coordinate of the boxes taken. -/
theorem v27_at (c : Fin 80) (r : Fin 512) (p : Fin 20000) (h : V (Proc.devRef .tc main_v24) (ix2 c r) = BitVec.ofNat 32 p.val) :
    after hostOps1_5 V (Proc.devRef .tc main_v27) (ix2 c r) = V (Proc.devRef .tc main_v26) (ix2 c p) := by
  have hp : p.val ≤ 19999 := by omega
  after_reads_at
  rw [h]
  simp only [Gather.norm p.val (by omega)]
  rw [Gather.inb p.val 19999 (by decide) hp (fun _ => BitVec.ofNat 32 p.val) (fun _ => rfl)]
  refine (Gather.along (by decide) gather_S80x20000_S80x512x1_S80x512_n_1_0_0_1_2_11 gather_S80x20000_S80x512x1_S80x512_n_1_0_0_1_2_11_wf rfl _ _ c r p ?_)
  show Scalar.select (IntOp.cmpi CmpIPredicate.slt (V (Proc.devRef .tc main_v24) (ix2 c r)) 0#32) _ (V (Proc.devRef .tc main_v24) (ix2 c r)) = _
  rw [h]
  exact Gather.norm p.val (by omega) _

/-- A coordinate, class by class. -/
theorem v29_at (c : Fin 80) (n : Fin 20000) :
    after hostOps1_6 V (Proc.devRef .tc main_v29) (ix2 c n) = V (Proc.devRef .tc main_v9_2) (ix2 n (up c)) := by
  after_reads_simp
  pointwise
  rfl
/-- A coordinate of the boxes taken. -/
theorem v30_at (c : Fin 80) (r : Fin 512) (p : Fin 20000) (h : V (Proc.devRef .tc main_v24) (ix2 c r) = BitVec.ofNat 32 p.val) :
    after hostOps1_7 V (Proc.devRef .tc main_v30) (ix2 c r) = V (Proc.devRef .tc main_v29) (ix2 c p) := by
  have hp : p.val ≤ 19999 := by omega
  after_reads_at
  rw [h]
  simp only [Gather.norm p.val (by omega)]
  rw [Gather.inb p.val 19999 (by decide) hp (fun _ => BitVec.ofNat 32 p.val) (fun _ => rfl)]
  refine (Gather.along (by decide) gather_S80x20000_S80x512x1_S80x512_n_1_0_0_1_2_11 gather_S80x20000_S80x512x1_S80x512_n_1_0_0_1_2_11_wf rfl _ _ c r p ?_)
  show Scalar.select (IntOp.cmpi CmpIPredicate.slt (V (Proc.devRef .tc main_v24) (ix2 c r)) 0#32) _ (V (Proc.devRef .tc main_v24) (ix2 c r)) = _
  rw [h]
  exact Gather.norm p.val (by omega) _

/-- A coordinate, class by class. -/
theorem v32_at (c : Fin 80) (n : Fin 20000) :
    after hostOps1_8 V (Proc.devRef .tc main_v32) (ix2 c n) = V (Proc.devRef .tc main_v9_3) (ix2 n (up c)) := by
  after_reads_simp
  pointwise
  rfl
/-- A coordinate of the boxes taken. -/
theorem v33_at (c : Fin 80) (r : Fin 512) (p : Fin 20000) (h : V (Proc.devRef .tc main_v24) (ix2 c r) = BitVec.ofNat 32 p.val) :
    after hostOps1_9 V (Proc.devRef .tc main_v33) (ix2 c r) = V (Proc.devRef .tc main_v32) (ix2 c p) := by
  have hp : p.val ≤ 19999 := by omega
  after_reads_at
  rw [h]
  simp only [Gather.norm p.val (by omega)]
  rw [Gather.inb p.val 19999 (by decide) hp (fun _ => BitVec.ofNat 32 p.val) (fun _ => rfl)]
  refine (Gather.along (by decide) gather_S80x20000_S80x512x1_S80x512_n_1_0_0_1_2_11 gather_S80x20000_S80x512x1_S80x512_n_1_0_0_1_2_11_wf rfl _ _ c r p ?_)
  show Scalar.select (IntOp.cmpi CmpIPredicate.slt (V (Proc.devRef .tc main_v24) (ix2 c r)) 0#32) _ (V (Proc.devRef .tc main_v24) (ix2 c r)) = _
  rw [h]
  exact Gather.norm p.val (by omega) _

/-- A coordinate, class by class. -/
theorem v35_at (c : Fin 80) (n : Fin 20000) :
    after hostOps1_10 V (Proc.devRef .tc main_v35) (ix2 c n) = V (Proc.devRef .tc main_v9_4) (ix2 n (up c)) := by
  after_reads_simp
  pointwise
  rfl
/-- A coordinate of the boxes taken. -/
theorem v36_at (c : Fin 80) (r : Fin 512) (p : Fin 20000) (h : V (Proc.devRef .tc main_v24) (ix2 c r) = BitVec.ofNat 32 p.val) :
    after hostOps1_11 V (Proc.devRef .tc main_v36) (ix2 c r) = V (Proc.devRef .tc main_v35) (ix2 c p) := by
  have hp : p.val ≤ 19999 := by omega
  after_reads_at
  rw [h]
  simp only [Gather.norm p.val (by omega)]
  rw [Gather.inb p.val 19999 (by decide) hp (fun _ => BitVec.ofNat 32 p.val) (fun _ => rfl)]
  refine (Gather.along (by decide) gather_S80x20000_S80x512x1_S80x512_n_1_0_0_1_2_11 gather_S80x20000_S80x512x1_S80x512_n_1_0_0_1_2_11_wf rfl _ _ c r p ?_)
  show Scalar.select (IntOp.cmpi CmpIPredicate.slt (V (Proc.devRef .tc main_v24) (ix2 c r)) 0#32) _ (V (Proc.devRef .tc main_v24) (ix2 c r)) = _
  rw [h]
  exact Gather.norm p.val (by omega) _
-- ==== Proof.KerTail.lean ====
module
public import proofs.«01_k».proof.Proof.KernelIdealBody
public import proofs.«01_k».proof.Proof.KernelIdealRun
public import proofs.«01_k».proof.Proof.Spec
public import proofs.«01_k».proof.Proof.TopKRead
public import proofs.«01_k».proof.Proof.Gather
public import Idealize.ShloMosaic.Lib.Pointwise
public import Idealize.ShloMosaic.Lib.StableHlo.ReadAt
@[expose] public section
set_option maxRecDepth 16384
noncomputable section
namespace Cert.KernelIdeal.KV
open Cert.KernelIdeal.Gen Cert.KernelIdeal.Whole Cert.Spec
open Idealize.ShloMosaic Idealize.ShloMosaic.TcCoe Idealize.ShloMosaic.StableHlo
open Idealize.SL.Sem
variable (V : Valuation τ sig (Elt Ideal))
/-- The suppressed scores as one flat row. -/
theorem v38_at (u : Fin 40960) : after hostOps2 V (Proc.devRef .tc main_v38) (ix1 u) = V (Proc.devRef .tc main_v37) (ix2 (fc u) (fr u)) := by
  after_reads_simp
  pointwise
  rfl
/-- The final scores are a top-k of the flat row. -/
theorem values3_of : after hostOps2 V (Proc.devRef .tc main_values_3)
    = (Host.topK S100 0 (FloatOps.cmpfTotal (F := Ideal) (φ := .f32) .gt) (after hostOps2 V (Proc.devRef .tc main_v38)) sliceFits_S40960_S100).1 := by
  after_reads_simp
/-- The final positions are those of the same top-k. -/
theorem indices4_of : after hostOps2 V (Proc.devRef .tc main_indices_4)
    = (Host.topK S100 0 (FloatOps.cmpfTotal (F := Ideal) (φ := .f32) .gt) (after hostOps2 V (Proc.devRef .tc main_v38)) sliceFits_S40960_S100).2 := by
  after_reads_simp
/-- A final score by its rank. -/
theorem values3_at (key : Fin 40960 → EReal) (h : ∀ u, V (Proc.devRef .tc main_v37) (ix2 (fc u) (fr u)) = key u) (i : Fin 100) :
    after hostOps2 V (Proc.devRef .tc main_values_3) (ix1 i) = key (TopK.rank key (i.castLE (by decide))) := by
  have e : (fun q : Fin 40960 => after hostOps2 V (Proc.devRef .tc main_v38) (ix1 q)) = key := funext fun q => (v38_at V q).trans (h q)
  rw [values3_of, TopK.topK1_values _ _ (by decide), e]
  exact (v38_at V _).trans (h _)
/-- A final position by its rank. -/
theorem indices4_at (key : Fin 40960 → EReal) (h : ∀ u, V (Proc.devRef .tc main_v37) (ix2 (fc u) (fr u)) = key u) (i : Fin 100) :
    after hostOps2 V (Proc.devRef .tc main_indices_4) (ix1 i) = BitVec.ofNat 32 (TopK.rank key (i.castLE (by decide))).val := by
  have e : (fun q : Fin 40960 => after hostOps2 V (Proc.devRef .tc main_v38) (ix1 q)) = key := funext fun q => (v38_at V q).trans (h q)
  rw [indices4_of, TopK.topK1_indices _ _ (by decide), e]
/-- The number of kept candidates per class. -/
theorem c5 : after hostOps2 V (Proc.devRef .tc main_c_5) = constantI S_ 32 512#32 := by
  after_reads_simp
/-- The class number of a final position, from zero. -/
theorem v39_at (h5 : V (Proc.devRef .tc main_c_5) = constantI S_ 32 512#32) (i : Fin 100) (p : Fin 40960) (h : V (Proc.devRef .tc main_indices_4) (ix1 i) = BitVec.ofNat 32 p.val) :
    after hostOps2_1 V (Proc.devRef .tc main_v39) (ix1 i) = BitVec.ofNat 32 (p.val / 512) := by
  after_reads_at
  rw [h5, h]
  exact Gather.floorDiv p.val (by omega)
/-- A label is the class number plus one. -/
theorem v41_at (i : Fin 100) (p : ℕ) (h : V (Proc.devRef .tc main_v39) (ix1 i) = BitVec.ofNat 32 p) :
    after hostOps2_2 V (Proc.devRef .tc main_v41) (ix1 i) = BitVec.ofNat 32 (p + 1) := by
  after_reads_simp
  pointwise
  rw [h]
  exact (BitVec.ofNat_add p 1).symm
/-- Coordinate 0 of the detections. -/
theorem v49_at (i : Fin 100) (p : Fin 40960) (h : V (Proc.devRef .tc main_indices_4) (ix1 i) = BitVec.ofNat 32 p.val) :
    after hostOps2_2 V (Proc.devRef .tc main_v49) (ix1 i) = V (Proc.devRef .tc main_v27) (ix2 (fc p) (fr p)) := by
  after_reads_simp
  refine (Gather.flat (by decide) gather_S40960_S100x1_S100_n_0_n_n_0_1_1 gather_S40960_S100x1_S100_n_0_n_n_0_1_1_wf rfl _ _ i p ?_).trans ?_
  · pointwise
    rw [h]
    exact Gather.norm p.val (by omega) _
  · pointwise
    rfl
/-- And in the stacked result. -/
theorem v78_at0 (i : Fin 100) : after hostOps2_2 V (Proc.devRef .tc main_v78) (ix2 i 0) = after hostOps2_2 V (Proc.devRef .tc main_v49) (ix1 i) := by
  after_reads_simp
  pointwise
  after_reads_simp
  pointwise
/-- Coordinate 1 of the detections. -/
theorem v57_at (i : Fin 100) (p : Fin 40960) (h : V (Proc.devRef .tc main_indices_4) (ix1 i) = BitVec.ofNat 32 p.val) :
    after hostOps2_2 V (Proc.devRef .tc main_v57) (ix1 i) = V (Proc.devRef .tc main_v30) (ix2 (fc p) (fr p)) := by
  after_reads_simp
  refine (Gather.flat (by decide) gather_S40960_S100x1_S100_n_0_n_n_0_1_1 gather_S40960_S100x1_S100_n_0_n_n_0_1_1_wf rfl _ _ i p ?_).trans ?_
  · pointwise
    rw [h]
    exact Gather.norm p.val (by omega) _
  · pointwise
    rfl
/-- And in the stacked result. -/
theorem v78_at1 (i : Fin 100) : after hostOps2_2 V (Proc.devRef .tc main_v78) (ix2 i 1) = after hostOps2_2 V (Proc.devRef .tc main_v57) (ix1 i) := by
  after_reads_simp
  pointwise
  after_reads_simp
  pointwise
/-- Coordinate 2 of the detections. -/
theorem v65_at (i : Fin 100) (p : Fin 40960) (h : V (Proc.devRef .tc main_indices_4) (ix1 i) = BitVec.ofNat 32 p.val) :
    after hostOps2_2 V (Proc.devRef .tc main_v65) (ix1 i) = V (Proc.devRef .tc main_v33) (ix2 (fc p) (fr p)) := by
  after_reads_simp
  refine (Gather.flat (by decide) gather_S40960_S100x1_S100_n_0_n_n_0_1_1 gather_S40960_S100x1_S100_n_0_n_n_0_1_1_wf rfl _ _ i p ?_).trans ?_
  · pointwise
    rw [h]
    exact Gather.norm p.val (by omega) _
  · pointwise
    rfl
/-- And in the stacked result. -/
theorem v78_at2 (i : Fin 100) : after hostOps2_2 V (Proc.devRef .tc main_v78) (ix2 i 2) = after hostOps2_2 V (Proc.devRef .tc main_v65) (ix1 i) := by
  after_reads_simp
  pointwise
  after_reads_simp
  pointwise
/-- Coordinate 3 of the detections. -/
theorem v73_at (i : Fin 100) (p : Fin 40960) (h : V (Proc.devRef .tc main_indices_4) (ix1 i) = BitVec.ofNat 32 p.val) :
    after hostOps2_2 V (Proc.devRef .tc main_v73) (ix1 i) = V (Proc.devRef .tc main_v36) (ix2 (fc p) (fr p)) := by
  after_reads_simp
  refine (Gather.flat (by decide) gather_S40960_S100x1_S100_n_0_n_n_0_1_1 gather_S40960_S100x1_S100_n_0_n_n_0_1_1_wf rfl _ _ i p ?_).trans ?_
  · pointwise
    rw [h]
    exact Gather.norm p.val (by omega) _
  · pointwise
    rfl
/-- And in the stacked result. -/
theorem v78_at3 (i : Fin 100) : after hostOps2_2 V (Proc.devRef .tc main_v78) (ix2 i 3) = after hostOps2_2 V (Proc.devRef .tc main_v73) (ix1 i) := by
  after_reads_simp
  pointwise
  after_reads_simp
  pointwise
-- ==== Proof.KerMain.lean ====
module
public import proofs.«01_k».proof.Proof.KernelIdealBody
public import proofs.«01_k».proof.Proof.KernelIdealRun
public import proofs.«01_k».proof.Proof.Spec
public import proofs.«01_k».proof.Proof.TopKRead
public import proofs.«01_k».proof.Proof.Gather
public import proofs.«01_k».proof.Proof.KerDecode
public import proofs.«01_k».proof.Proof.KerHost0
public import proofs.«01_k».proof.Proof.KerRegion1
public import proofs.«01_k».proof.Proof.KerScores
public import proofs.«01_k».proof.Proof.KerTop
public import proofs.«01_k».proof.Proof.KerTake
public import proofs.«01_k».proof.Proof.KerTail
public import Idealize.ShloMosaic.Lib.Pointwise
public import Idealize.ShloMosaic.Lib.StableHlo.ReadAt
@[expose] public section
set_option maxRecDepth 16384
noncomputable section
namespace Cert.KernelIdeal.KV
open Cert.KernelIdeal.Gen Cert.KernelIdeal.Whole Cert.Spec
open Idealize.ShloMosaic Idealize.ShloMosaic.TcCoe Idealize.ShloMosaic.StableHlo
open Idealize.SL.Sem
variable (m : (ℓ : Loc nD τ sig) → Buf (Elt Ideal) ℓ) (ρ : Dev nD → PrngReg)
/-- The logits. -/
def aL (c : Dev nD) : Fin 20000 → Fin 81 → EReal := fun n k => (m ((c : Thread nD τ).loc main_arg0) : FVec Ideal S20000x81 .f32) (ix2 n k)
/-- The regression deltas. -/
def aD (c : Dev nD) : Fin 20000 → Fin 324 → EReal := fun n k => (m ((c : Thread nD τ).loc main_arg1) : FVec Ideal S20000x324 .f32) (ix2 n k)
/-- The proposals. -/
def aB (c : Dev nD) : Fin 20000 → Fin 4 → EReal := fun n k => (m ((c : Thread nD τ).loc main_arg2) : FVec Ideal S20000x4 .f32) (ix2 n k)
/-- The first region reads the logits as given. -/
theorem V1_0 (c : Dev nD) (n : Fin 20000) (k : Fin 81) : V1 m ρ c main_arg0 (ix2 n k) = aL m c n k :=
  congrFun (W1_args m ρ c main_arg0 (by decide)) (ix2 n k)
/-- The first region reads the proposals as given. -/
theorem V1_2 (c : Dev nD) (n : Fin 20000) (k : Fin 4) : V1 m ρ c main_arg2 (ix2 n k) = aB m c n k :=
  congrFun (W1_args m ρ c main_arg2 (by decide)) (ix2 n k)
/-- The first region reads the horizontal shift deltas. -/
theorem V1_d0 (c : Dev nD) (n : Fin 20000) (q : Fin 81) : V1 m ρ c main_v2 (ix2 n q) = aD m c n (col q 0) :=
  h0_0 (W0 m ρ c) n q
/-- The first region reads the vertical shift deltas. -/
theorem V1_d1 (c : Dev nD) (n : Fin 20000) (q : Fin 81) : V1 m ρ c main_v4 (ix2 n q) = aD m c n (col q 1) :=
  h0_1 (W0 m ρ c) n q
/-- The first region reads the width deltas. -/
theorem V1_d2 (c : Dev nD) (n : Fin 20000) (q : Fin 81) : V1 m ρ c main_v6 (ix2 n q) = aD m c n (col q 2) :=
  h0_2 (W0 m ρ c) n q
/-- The first region reads the height deltas. -/
theorem V1_d3 (c : Dev nD) (n : Fin 20000) (q : Fin 81) : V1 m ρ c main_v8 (ix2 n q) = aD m c n (col q 3) :=
  h0_3 (W0 m ρ c) n q
/-- The class probabilities, after the first region. -/
theorem W2_p (c : Dev nD) (n : Fin 20000) (q : Fin 81) : W2 m ρ c (Proc.devRef .tc main_v9_0) (ix2 n q) = prob (aL m c) n q :=
  congrFun ((W2_arr m ρ c 6).trans (fin6 (V1 m ρ) c (aL m c) (V1_0 m ρ c))) (ix2 n q)
/-- Coordinate 0 of every decoded box, after the first region. -/
theorem W2_b0 (c : Dev nD) (n : Fin 20000) (q : Fin 81) : W2 m ρ c (Proc.devRef .tc main_v9_1) (ix2 n q) = box (aD m c) (aB m c) n q 0 :=
  congrFun ((W2_arr m ρ c 7).trans (fin7 (V1 m ρ) c (aD m c) (aB m c) (V1_d0 m ρ c) (V1_d1 m ρ c) (V1_d2 m ρ c) (V1_d3 m ρ c) (V1_2 m ρ c))) (ix2 n q)
/-- Coordinate 1 of every decoded box, after the first region. -/
theorem W2_b1 (c : Dev nD) (n : Fin 20000) (q : Fin 81) : W2 m ρ c (Proc.devRef .tc main_v9_2) (ix2 n q) = box (aD m c) (aB m c) n q 1 :=
  congrFun ((W2_arr m ρ c 8).trans (fin8 (V1 m ρ) c (aD m c) (aB m c) (V1_d0 m ρ c) (V1_d1 m ρ c) (V1_d2 m ρ c) (V1_d3 m ρ c) (V1_2 m ρ c))) (ix2 n q)
/-- Coordinate 2 of every decoded box, after the first region. -/
theorem W2_b2 (c : Dev nD) (n : Fin 20000) (q : Fin 81) : W2 m ρ c (Proc.devRef .tc main_v9_3) (ix2 n q) = box (aD m c) (aB m c) n q 2 :=
  congrFun ((W2_arr m ρ c 9).trans (fin9 (V1 m ρ) c (aD m c) (aB m c) (V1_d0 m ρ c) (V1_d1 m ρ c) (V1_d2 m ρ c) (V1_d3 m ρ c) (V1_2 m ρ c))) (ix2 n q)
/-- Coordinate 3 of every decoded box, after the first region. -/
theorem W2_b3 (c : Dev nD) (n : Fin 20000) (q : Fin 81) : W2 m ρ c (Proc.devRef .tc main_v9_4) (ix2 n q) = box (aD m c) (aB m c) n q 3 :=
  congrFun ((W2_arr m ρ c 10).trans (fin10 (V1 m ρ) c (aD m c) (aB m c) (V1_d0 m ρ c) (V1_d1 m ρ c) (V1_d2 m ρ c) (V1_d3 m ρ c) (V1_2 m ρ c))) (ix2 n q)
/-- The thresholded scores. -/
theorem W4_s (c : Dev nD) (j : Fin 80) (n : Fin 20000) : W4 m ρ c (Proc.devRef .tc main_v14) (ix2 j n) = sc (aL m c) j n :=
  v14_at (W3 m ρ c) (cst0 (W2 m ρ c)) j n (prob (aL m c) n (up j)) ((v11_at (W2 m ρ c) j n).trans (W2_p m ρ c n (up j)))
    (v13_at (W2 m ρ c) j n _ (W2_p m ρ c n (up j)))
/-- The thresholded scores, as one array. -/
def sArr (c : Dev nD) : FVec Ideal S80x20000 .f32 := W4 m ρ c (Proc.devRef .tc main_v14)
/-- A class's row of scores. -/
theorem sArr_row (c : Dev nD) (j : Fin 80) : (fun n => sArr m ρ c (ix2 j n)) = sc (aL m c) j := funext fun n => W4_s m ρ c j n
/-- The kept scores. -/
theorem W5_s (c : Dev nD) (j : Fin 80) (r : Fin 512) : W5 m ρ c (Proc.devRef .tc main_values_1) (ix2 j r) = ts (aL m c) j r := by
  refine (values1_at (W4 m ρ c) (sArr m ρ c) rfl j r).trans ?_
  rw [sArr_row]
  exact W4_s m ρ c j _
/-- The proposals the kept scores come from. -/
theorem W6_i (c : Dev nD) (j : Fin 80) (r : Fin 512) : W6 m ρ c (Proc.devRef .tc main_v24) (ix2 j r) = BitVec.ofNat 32 (pos (aL m c) j r).val := by
  refine (v24_at (W5 m ρ c) j r (candRank (sArr m ρ c) j r) (indices2_at (W4 m ρ c) (sArr m ρ c) rfl j r)).trans ?_
  refine (v23_at (W4 m ρ c) (sArr m ρ c) rfl j _).trans ?_
  rw [candRank_eq, sArr_row]
  rfl
/-- Coordinate 0 of the kept boxes. -/
theorem W8_b (c : Dev nD) (j : Fin 80) (r : Fin 512) : W8 m ρ c (Proc.devRef .tc main_v27) (ix2 j r) = bb (aL m c) (aD m c) (aB m c) j r 0 := by
  refine (v27_at (W7 m ρ c) j r (pos (aL m c) j r) ((congrFun (W7_of m ρ c main_v24 (by decide)) (ix2 j r)).trans (W6_i m ρ c j r))).trans ?_
  refine (v26_at (W6 m ρ c) j _).trans ?_
  exact (congrFun ((W6_of m ρ c main_v9_1 (by decide)).trans ((W5_of m ρ c main_v9_1 (by decide)).trans ((W4_of m ρ c main_v9_1 (by decide)).trans (W3_of m ρ c main_v9_1 (by decide))))) (ix2 (pos (aL m c) j r) (up j))).trans (W2_b0 m ρ c _ _)
/-- Coordinate 1 of the kept boxes. -/
theorem W10_b (c : Dev nD) (j : Fin 80) (r : Fin 512) : W10 m ρ c (Proc.devRef .tc main_v30) (ix2 j r) = bb (aL m c) (aD m c) (aB m c) j r 1 := by
  refine (v30_at (W9 m ρ c) j r (pos (aL m c) j r) ((congrFun ((W9_of m ρ c main_v24 (by decide)).trans ((W8_of m ρ c main_v24 (by decide)).trans (W7_of m ρ c main_v24 (by decide)))) (ix2 j r)).trans (W6_i m ρ c j r))).trans ?_
  refine (v29_at (W8 m ρ c) j _).trans ?_
  exact (congrFun ((W8_of m ρ c main_v9_2 (by decide)).trans ((W7_of m ρ c main_v9_2 (by decide)).trans ((W6_of m ρ c main_v9_2 (by decide)).trans ((W5_of m ρ c main_v9_2 (by decide)).trans ((W4_of m ρ c main_v9_2 (by decide)).trans (W3_of m ρ c main_v9_2 (by decide))))))) (ix2 (pos (aL m c) j r) (up j))).trans (W2_b1 m ρ c _ _)
/-- Coordinate 2 of the kept boxes. -/
theorem W12_b (c : Dev nD) (j : Fin 80) (r : Fin 512) : W12 m ρ c (Proc.devRef .tc main_v33) (ix2 j r) = bb (aL m c) (aD m c) (aB m c) j r 2 := by
  refine (v33_at (W11 m ρ c) j r (pos (aL m c) j r) ((congrFun ((W11_of m ρ c main_v24 (by decide)).trans ((W10_of m ρ c main_v24 (by decide)).trans ((W9_of m ρ c main_v24 (by decide)).trans ((W8_of m ρ c main_v24 (by decide)).trans (W7_of m ρ c main_v24 (by decide)))))) (ix2 j r)).trans (W6_i m ρ c j r))).trans ?_
  refine (v32_at (W10 m ρ c) j _).trans ?_
  exact (congrFun ((W10_of m ρ c main_v9_3 (by decide)).trans ((W9_of m ρ c main_v9_3 (by decide)).trans ((W8_of m ρ c main_v9_3 (by decide)).trans ((W7_of m ρ c main_v9_3 (by decide)).trans ((W6_of m ρ c main_v9_3 (by decide)).trans ((W5_of m ρ c main_v9_3 (by decide)).trans ((W4_of m ρ c main_v9_3 (by decide)).trans (W3_of m ρ c main_v9_3 (by decide))))))))) (ix2 (pos (aL m c) j r) (up j))).trans (W2_b2 m ρ c _ _)
/-- Coordinate 3 of the kept boxes. -/
theorem W14_b (c : Dev nD) (j : Fin 80) (r : Fin 512) : W14 m ρ c (Proc.devRef .tc main_v36) (ix2 j r) = bb (aL m c) (aD m c) (aB m c) j r 3 := by
  refine (v36_at (W13 m ρ c) j r (pos (aL m c) j r) ((congrFun ((W13_of m ρ c main_v24 (by decide)).trans ((W12_of m ρ c main_v24 (by decide)).trans ((W11_of m ρ c main_v24 (by decide)).trans ((W10_of m ρ c main_v24 (by decide)).trans ((W9_of m ρ c main_v24 (by decide)).trans ((W8_of m ρ c main_v24 (by decide)).trans (W7_of m ρ c main_v24 (by decide)))))))) (ix2 j r)).trans (W6_i m ρ c j r))).trans ?_
  refine (v35_at (W12 m ρ c) j _).trans ?_
  exact (congrFun ((W12_of m ρ c main_v9_4 (by decide)).trans ((W11_of m ρ c main_v9_4 (by decide)).trans ((W10_of m ρ c main_v9_4 (by decide)).trans ((W9_of m ρ c main_v9_4 (by decide)).trans ((W8_of m ρ c main_v9_4 (by decide)).trans ((W7_of m ρ c main_v9_4 (by decide)).trans ((W6_of m ρ c main_v9_4 (by decide)).trans ((W5_of m ρ c main_v9_4 (by decide)).trans ((W4_of m ρ c main_v9_4 (by decide)).trans (W3_of m ρ c main_v9_4 (by decide))))))))))) (ix2 (pos (aL m c) j r) (up j))).trans (W2_b3 m ρ c _ _)
/-- The second region reads the low x coordinate of the kept boxes. -/
theorem W14_b0 (c : Dev nD) (j : Fin 80) (r : Fin 512) : W14 m ρ c (Proc.devRef .tc main_v27) (ix2 j r) = bb (aL m c) (aD m c) (aB m c) j r 0 :=
  (congrFun ((W14_of m ρ c main_v27 (by decide)).trans ((W13_of m ρ c main_v27 (by decide)).trans ((W12_of m ρ c main_v27 (by decide)).trans ((W11_of m ρ c main_v27 (by decide)).trans ((W10_of m ρ c main_v27 (by decide)).trans (W9_of m ρ c main_v27 (by decide))))))) (ix2 j r)).trans (W8_b m ρ c j r)
/-- The second region reads the low y coordinate of the kept boxes. -/
theorem W14_b1 (c : Dev nD) (j : Fin 80) (r : Fin 512) : W14 m ρ c (Proc.devRef .tc main_v30) (ix2 j r) = bb (aL m c) (aD m c) (aB m c) j r 1 :=
  (congrFun ((W14_of m ρ c main_v30 (by decide)).trans ((W13_of m ρ c main_v30 (by decide)).trans ((W12_of m ρ c main_v30 (by decide)).trans (W11_of m ρ c main_v30 (by decide))))) (ix2 j r)).trans (W10_b m ρ c j r)
/-- The second region reads the high x coordinate of the kept boxes. -/
theorem W14_b2 (c : Dev nD) (j : Fin 80) (r : Fin 512) : W14 m ρ c (Proc.devRef .tc main_v33) (ix2 j r) = bb (aL m c) (aD m c) (aB m c) j r 2 :=
  (congrFun ((W14_of m ρ c main_v33 (by decide)).trans (W13_of m ρ c main_v33 (by decide))) (ix2 j r)).trans (W12_b m ρ c j r)
/-- The second region reads the high y coordinate of the kept boxes. -/
theorem W14_b3 (c : Dev nD) (j : Fin 80) (r : Fin 512) : W14 m ρ c (Proc.devRef .tc main_v36) (ix2 j r) = bb (aL m c) (aD m c) (aB m c) j r 3 :=
  (congrFun rfl (ix2 j r)).trans (W14_b m ρ c j r)
/-- The second region reads the kept scores. -/
theorem W14_s (c : Dev nD) (j : Fin 80) (r : Fin 512) : W14 m ρ c (Proc.devRef .tc main_values_1) (ix2 j r) = ts (aL m c) j r :=
  (congrFun ((W14_of m ρ c main_values_1 (by decide)).trans ((W13_of m ρ c main_values_1 (by decide)).trans ((W12_of m ρ c main_values_1 (by decide)).trans ((W11_of m ρ c main_values_1 (by decide)).trans ((W10_of m ρ c main_values_1 (by decide)).trans ((W9_of m ρ c main_values_1 (by decide)).trans ((W8_of m ρ c main_values_1 (by decide)).trans ((W7_of m ρ c main_values_1 (by decide)).trans (W6_of m ρ c main_values_1 (by decide)))))))))) (ix2 j r)).trans (W5_s m ρ c j r)
/-- The scores left after suppression. -/
theorem W15_o (c : Dev nD) (j : Fin 80) (r : Fin 512) : W15 m ρ c (Proc.devRef .tc main_v37) (ix2 j r) = out (aL m c) (aD m c) (aB m c) j r :=
  congrFun ((W15_arr m ρ c 5).trans (fin1_5 (V14 m ρ) c (bb (aL m c) (aD m c) (aB m c)) (ts (aL m c)) (W14_b0 m ρ c) (W14_b1 m ρ c) (W14_b2 m ρ c) (W14_b3 m ρ c) (W14_s m ρ c))) (ix2 j r)
/-- The scores after suppression, at a position of the flat array. -/
theorem W15_flat (c : Dev nD) (u : Fin 40960) : W15 m ρ c (Proc.devRef .tc main_v37) (ix2 (fc u) (fr u)) = flat (aL m c) (aD m c) (aB m c) u := W15_o m ρ c _ _
/-- The positions of the 100 best. -/
theorem W16_i (c : Dev nD) (i : Fin 100) : W16 m ρ c (Proc.devRef .tc main_indices_4) (ix1 i) = BitVec.ofNat 32 (fin (aL m c) (aD m c) (aB m c) i).val :=
  indices4_at (W15 m ρ c) (flat (aL m c) (aD m c) (aB m c)) (W15_flat m ρ c) i
/-- The detections' scores. -/
theorem W18_score (c : Dev nD) (i : Fin 100) : W18 m ρ c (Proc.devRef .tc main_values_3) (ix1 i) = detScore (aL m c) (aD m c) (aB m c) i :=
  (congrFun ((W18_of m ρ c main_values_3 (by decide)).trans (W17_of m ρ c main_values_3 (by decide))) (ix1 i)).trans (values3_at (W15 m ρ c) (flat (aL m c) (aD m c) (aB m c)) (W15_flat m ρ c) i)
/-- The detections' labels. -/
theorem W18_label (c : Dev nD) (i : Fin 100) : W18 m ρ c (Proc.devRef .tc main_v41) (ix1 i) = detLabel (aL m c) (aD m c) (aB m c) i :=
  v41_at (W17 m ρ c) i _ (v39_at (W16 m ρ c) (c5 (W15 m ρ c)) i (fin (aL m c) (aD m c) (aB m c) i) (W16_i m ρ c i))
/-- The label code leaves the positions of the 100 best alone. -/
theorem W17_i (c : Dev nD) (i : Fin 100) : W17 m ρ c (Proc.devRef .tc main_indices_4) (ix1 i) = BitVec.ofNat 32 (fin (aL m c) (aD m c) (aB m c) i).val :=
  (congrFun (W17_of m ρ c main_indices_4 (by decide)) (ix1 i)).trans (W16_i m ρ c i)
/-- Coordinate 0 of the detections. -/
theorem W18_box0 (c : Dev nD) (i : Fin 100) : W18 m ρ c (Proc.devRef .tc main_v78) (ix2 i 0) = detBox (aL m c) (aD m c) (aB m c) i 0 := by
  refine (v78_at0 (W17 m ρ c) i).trans ?_
  refine (v49_at (W17 m ρ c) i (fin (aL m c) (aD m c) (aB m c) i) (W17_i m ρ c i)).trans ?_
  exact (congrFun ((W17_of m ρ c main_v27 (by decide)).trans ((W16_of m ρ c main_v27 (by decide)).trans (W15_of m ρ c main_v27 (by decide)))) (ix2 (fc (fin (aL m c) (aD m c) (aB m c) i)) (fr (fin (aL m c) (aD m c) (aB m c) i)))).trans (W14_b0 m ρ c _ _)
/-- Coordinate 1 of the detections. -/
theorem W18_box1 (c : Dev nD) (i : Fin 100) : W18 m ρ c (Proc.devRef .tc main_v78) (ix2 i 1) = detBox (aL m c) (aD m c) (aB m c) i 1 := by
  refine (v78_at1 (W17 m ρ c) i).trans ?_
  refine (v57_at (W17 m ρ c) i (fin (aL m c) (aD m c) (aB m c) i) (W17_i m ρ c i)).trans ?_
  exact (congrFun ((W17_of m ρ c main_v30 (by decide)).trans ((W16_of m ρ c main_v30 (by decide)).trans (W15_of m ρ c main_v30 (by decide)))) (ix2 (fc (fin (aL m c) (aD m c) (aB m c) i)) (fr (fin (aL m c) (aD m c) (aB m c) i)))).trans (W14_b1 m ρ c _ _)
/-- Coordinate 2 of the detections. -/
theorem W18_box2 (c : Dev nD) (i : Fin 100) : W18 m ρ c (Proc.devRef .tc main_v78) (ix2 i 2) = detBox (aL m c) (aD m c) (aB m c) i 2 := by
  refine (v78_at2 (W17 m ρ c) i).trans ?_
  refine (v65_at (W17 m ρ c) i (fin (aL m c) (aD m c) (aB m c) i) (W17_i m ρ c i)).trans ?_
  exact (congrFun ((W17_of m ρ c main_v33 (by decide)).trans ((W16_of m ρ c main_v33 (by decide)).trans (W15_of m ρ c main_v33 (by decide)))) (ix2 (fc (fin (aL m c) (aD m c) (aB m c) i)) (fr (fin (aL m c) (aD m c) (aB m c) i)))).trans (W14_b2 m ρ c _ _)
/-- Coordinate 3 of the detections. -/
theorem W18_box3 (c : Dev nD) (i : Fin 100) : W18 m ρ c (Proc.devRef .tc main_v78) (ix2 i 3) = detBox (aL m c) (aD m c) (aB m c) i 3 := by
  refine (v78_at3 (W17 m ρ c) i).trans ?_
  refine (v73_at (W17 m ρ c) i (fin (aL m c) (aD m c) (aB m c) i) (W17_i m ρ c i)).trans ?_
  exact (congrFun ((W17_of m ρ c main_v36 (by decide)).trans ((W16_of m ρ c main_v36 (by decide)).trans (W15_of m ρ c main_v36 (by decide)))) (ix2 (fc (fin (aL m c) (aD m c) (aB m c) i)) (fr (fin (aL m c) (aD m c) (aB m c) i)))).trans (W14_b3 m ρ c _ _)
-- ==== Proof.RefProb.lean ====
module
public import proofs.«01_k».proof.Proof.Gen.ReferenceIdeal
public import proofs.«01_k».proof.Proof.Gen.ReferenceIdeal.Run
public import proofs.«01_k».proof.Proof.Spec
public import proofs.«01_k».proof.Proof.TopKRead
public import Idealize.ShloMosaic.Lib.Pointwise
public import Idealize.ShloMosaic.Lib.StableHlo.ReadAt
@[expose] public section
set_option maxRecDepth 16384
noncomputable section
namespace Cert.ReferenceIdeal.RV
open Cert.ReferenceIdeal.Gen Cert.ReferenceIdeal.Value Cert.Spec
open Idealize.ShloMosaic Idealize.ShloMosaic.TcCoe Idealize.ShloMosaic.StableHlo
open Idealize.SL.Sem
/-- The row maximum over the logits. -/
theorem rowRed_at {m n : ℕ} (x : FVec Ideal ⟨2, ![m, n]⟩ .f32) (b : BitVec 32) (h h') (i : Fin m) :
    Host.reduce (s := ⟨2, ![m, n]⟩) (t := ⟨1, ![m]⟩) (axes := [1]) (FloatOps.maximumf (F := Ideal) (φ := .f32)) x (constant S_ .f32 b) h h' (ix1 i) =
    Finset.fold max (Ideal.ofBits FTy.f32 b) (fun k => x (ix2 i k)) Finset.univ := by
  pointwise

/-- A row maximum taken once more with its own starting value is itself. -/
theorem max_fold {n : ℕ} (b : EReal) (f : Fin n → EReal) : max b (Finset.fold max b f Finset.univ) = Finset.fold max b f Finset.univ := by
  apply max_eq_right
  rw [Finset.le_fold_max]
  exact Or.inl le_rfl

/-- The row maximum, as the reference's tensor operations compute it. -/
def rowRed (x : FVec Ideal S20000x81 .f32) : FVec Ideal S20000 .f32 :=
  Host.reduce FloatOps.maximumf x (constant S_ FTy.f32 4286578688#32) reducesTo_S20000x81_S20000_d1 h_S_

/-- The reduction to a row's maximum. -/
theorem rowRed_ix (x : FVec Ideal S20000x81 .f32) (n : Fin 20000) : rowRed x (ix1 n) = rmax (fun n c => x (ix2 n c)) n :=
  rowRed_at x 4286578688#32 reducesTo_S20000x81_S20000_d1 h_S_ n

/-- The maximum with minus infinity, entry by entry. -/
theorem maxc_at (y : FVec Ideal S20000 .f32) (n : Fin 20000) :
    maximumf (broadcastInDim S20000 ![] bcast_S_S20000 (constant S_ FTy.f32 4286578688#32)) y (ix1 n) = max (cb 0xFF800000#32) (y (ix1 n)) := by
  pointwise

/-- The row maximum, as the reference's tensor operations compute it, with the lower bound. -/
def rowMax (x : FVec Ideal S20000x81 .f32) : FVec Ideal S20000 .f32 :=
  maximumf (broadcastInDim S20000 ![] bcast_S_S20000 (constant S_ FTy.f32 4286578688#32)) (rowRed x)

/-- A row's maximum. -/
theorem rowMax_ix (x : FVec Ideal S20000x81 .f32) (n : Fin 20000) : rowMax x (ix1 n) = rmax (fun n c => x (ix2 n c)) n := by
  have e := maxc_at (rowRed x) n
  rw [rowRed_ix] at e
  exact e.trans (max_fold _ _)

/-- The exponential of a logit less the row's maximum. -/
theorem exps_at (x : FVec Ideal S20000x81 .f32) (y : FVec Ideal S20000 .f32) (n : Fin 20000) (c : Fin 81) :
 (Host.exp
        (subf x
          (broadcastInDim S20000x81 ![0, 1] bcast_S20000x1_S20000x81_0_1
            (broadcastInDim S20000x1 ![0] bcast_S20000_S20000x1_0
              y)))) (ix2 n c) = Ideal.exp (x (ix2 n c) - y (ix1 n)) := by
  pointwise

/-- A quotient by a row's value. -/
theorem quot_at (z : FVec Ideal S20000x81 .f32) (w : FVec Ideal S20000 .f32) (n : Fin 20000) (c : Fin 81) :
   (Host.divf z
      (broadcastInDim S20000x81 ![0, 1] bcast_S20000x1_S20000x81_0_1
        (broadcastInDim S20000x1 ![0] bcast_S20000_S20000x1_0 w))) (ix2 n c) = Ideal.div (z (ix2 n c)) (w (ix1 n)) := by
  pointwise

/-- A row's sum. -/
theorem rowSum_at (z : FVec Ideal S20000x81 .f32) (n : Fin 20000) :
   (Host.reduceAdd z
            (constant S_ FTy.f32 0#32) reducesTo_S20000x81_S20000_d1 h_S_) (ix1 n) = ∑ k, z (ix2 n k) := by
  pointwise

/-- The exponentials of the shifted logits. -/
def exps (x : FVec Ideal S20000x81 .f32) : FVec Ideal S20000x81 .f32 :=
  Host.exp
        (subf x
          (broadcastInDim S20000x81 ![0, 1] bcast_S20000x1_S20000x81_0_1
            (broadcastInDim S20000x1 ![0] bcast_S20000_S20000x1_0 (rowMax x))))

/-- The probability of a class. -/
theorem softmax_at (x : FVec Ideal S20000x81 .f32) (n : Fin 20000) (c : Fin 81) :
   (Host.divf (exps x)
      (broadcastInDim S20000x81 ![0, 1] bcast_S20000x1_S20000x81_0_1
        (broadcastInDim S20000x1 ![0] bcast_S20000_S20000x1_0
          (Host.reduceAdd (exps x)
            (constant S_ FTy.f32 0#32) reducesTo_S20000x81_S20000_d1 h_S_)))) (ix2 n c) =
      prob (fun n c => x (ix2 n c)) n c := by
  have e : ∀ n c, exps x (ix2 n c) = Ideal.exp (x (ix2 n c) - rmax (fun n c => x (ix2 n c)) n) := fun n c =>
    (exps_at x (rowMax x) n c).trans (by rw [rowMax_ix])
  refine (quot_at _ _ n c).trans ?_
  rw [rowSum_at]
  simp only [e]
  rfl

/-- The reference's softmax, at an index. -/
theorem v10_at (V : Valuation τ sig (Elt Ideal)) (x : FVec Ideal S20000x81 .f32) (hx : V (Proc.devRef .tc main_arg0) = x) (n : Fin 20000) (c : Fin 81) :
    after hostOps0 V (Proc.devRef .tc main_v10) (ix2 n c) = prob (fun n c => x (ix2 n c)) n c := by
  subst hx
  after_reads_simp
  exact softmax_at (V (Proc.devRef .tc main_arg0)) n c
-- ==== Proof.RefBox.lean ====
module
public import proofs.«01_k».proof.Proof.Gen.ReferenceIdeal
public import proofs.«01_k».proof.Proof.Gen.ReferenceIdeal.Run
public import proofs.«01_k».proof.Proof.Spec
public import proofs.«01_k».proof.Proof.TopKRead
public import Idealize.ShloMosaic.Lib.Pointwise
public import Idealize.ShloMosaic.Lib.StableHlo.ReadAt
@[expose] public section
set_option maxRecDepth 16384
noncomputable section
namespace Cert.ReferenceIdeal.RV
open Cert.ReferenceIdeal.Gen Cert.ReferenceIdeal.Value Cert.Spec
open Idealize.ShloMosaic Idealize.ShloMosaic.TcCoe Idealize.ShloMosaic.StableHlo
open Idealize.SL.Sem
variable (V : Valuation τ sig (Elt Ideal))

/-- The low x of a decoded box. -/
theorem v74_at (x : FVec Ideal S20000x324 .f32) (b : FVec Ideal S20000x4 .f32) (hx : V (Proc.devRef .tc main_arg1) = x) (hb : V (Proc.devRef .tc main_arg2) = b) (n : Fin 20000) (c : Fin 81) :
    after hostOps0 V (Proc.devRef .tc main_v74) (ix2 n c) = lowRaw (fun n k => x (ix2 n k)) (fun n k => b (ix2 n k)) n c 0 := by
  after_reads_simp
  rw [hx, hb]
  pointwise
  rfl
/-- The low y of a decoded box. -/
theorem v77_at (x : FVec Ideal S20000x324 .f32) (b : FVec Ideal S20000x4 .f32) (hx : V (Proc.devRef .tc main_arg1) = x) (hb : V (Proc.devRef .tc main_arg2) = b) (n : Fin 20000) (c : Fin 81) :
    after hostOps0 V (Proc.devRef .tc main_v77) (ix2 n c) = lowRaw (fun n k => x (ix2 n k)) (fun n k => b (ix2 n k)) n c 1 := by
  after_reads_simp
  rw [hx, hb]
  pointwise
  rfl
/-- The high x of a decoded box. -/
theorem v80_at (x : FVec Ideal S20000x324 .f32) (b : FVec Ideal S20000x4 .f32) (hx : V (Proc.devRef .tc main_arg1) = x) (hb : V (Proc.devRef .tc main_arg2) = b) (n : Fin 20000) (c : Fin 81) :
    after hostOps0 V (Proc.devRef .tc main_v80) (ix2 n c) = highRaw (fun n k => x (ix2 n k)) (fun n k => b (ix2 n k)) n c 0 := by
  after_reads_simp
  rw [hx, hb]
  pointwise
  rfl
/-- The high y of a decoded box. -/
theorem v83_at (x : FVec Ideal S20000x324 .f32) (b : FVec Ideal S20000x4 .f32) (hx : V (Proc.devRef .tc main_arg1) = x) (hb : V (Proc.devRef .tc main_arg2) = b) (n : Fin 20000) (c : Fin 81) :
    after hostOps0 V (Proc.devRef .tc main_v83) (ix2 n c) = highRaw (fun n k => x (ix2 n k)) (fun n k => b (ix2 n k)) n c 1 := by
  after_reads_simp
  rw [hx, hb]
  pointwise
  rfl
-- ==== Proof.RefBox2.lean ====
module
public import proofs.«01_k».proof.Proof.Gen.ReferenceIdeal
public import proofs.«01_k».proof.Proof.Gen.ReferenceIdeal.Run
public import proofs.«01_k».proof.Proof.Spec
public import proofs.«01_k».proof.Proof.TopKRead
public import Idealize.ShloMosaic.Lib.Pointwise
public import Idealize.ShloMosaic.Lib.StableHlo.ReadAt
@[expose] public section
set_option maxRecDepth 16384
noncomputable section
namespace Cert.ReferenceIdeal.RV
open Cert.ReferenceIdeal.Gen Cert.ReferenceIdeal.Value Cert.Spec
open Idealize.ShloMosaic Idealize.ShloMosaic.TcCoe Idealize.ShloMosaic.StableHlo
open Idealize.SL.Sem
variable (V : Valuation τ sig (Elt Ideal))
/-- The low x among the stacked coordinates. -/
theorem v88_at0 (n : Fin 20000) (c : Fin 81)  :
    after hostOps0 V (Proc.devRef .tc main_v88) (ix3 n c 0) = after hostOps0 V (Proc.devRef .tc main_v74) (ix2 n c) := by
  after_reads_simp
  pointwise
  after_reads_simp
  pointwise
/-- The low y among the stacked coordinates. -/
theorem v88_at1 (n : Fin 20000) (c : Fin 81)  :
    after hostOps0 V (Proc.devRef .tc main_v88) (ix3 n c 1) = after hostOps0 V (Proc.devRef .tc main_v77) (ix2 n c) := by
  after_reads_simp
  pointwise
  after_reads_simp
  pointwise
/-- The high x among the stacked coordinates. -/
theorem v88_at2 (n : Fin 20000) (c : Fin 81)  :
    after hostOps0 V (Proc.devRef .tc main_v88) (ix3 n c 2) = after hostOps0 V (Proc.devRef .tc main_v80) (ix2 n c) := by
  after_reads_simp
  pointwise
  after_reads_simp
  pointwise
/-- The high y among the stacked coordinates. -/
theorem v88_at3 (n : Fin 20000) (c : Fin 81)  :
    after hostOps0 V (Proc.devRef .tc main_v88) (ix3 n c 3) = after hostOps0 V (Proc.devRef .tc main_v83) (ix2 n c) := by
  after_reads_simp
  pointwise
  after_reads_simp
  pointwise
/-- The low x cut from the stack. -/
theorem v90_at (n : Fin 20000) (c : Fin 81)  :
    after hostOps0 V (Proc.devRef .tc main_v90) (ix2 n c) = after hostOps0 V (Proc.devRef .tc main_v74) (ix2 n c) := by
  after_reads_simp
  pointwise
  after_reads_simp
  pointwise
/-- The lower clipping bound. -/
theorem cst14 : after hostOps0 V (Proc.devRef .tc main_cst_14) = constant (F := Ideal) S_ .f32 0x00000000#32 := by
  after_results
/-- The image's width. -/
theorem cst15 : after hostOps0 V (Proc.devRef .tc main_cst_15) = constant (F := Ideal) S_ .f32 0x44A6A000#32 := by
  after_results
-- ==== Proof.RefClip.lean ====
module
public import proofs.«01_k».proof.Proof.Gen.ReferenceIdeal
public import proofs.«01_k».proof.Proof.Gen.ReferenceIdeal.Run
public import proofs.«01_k».proof.Proof.Spec
public import proofs.«01_k».proof.Proof.TopKRead
public import Idealize.ShloMosaic.Lib.Pointwise
public import Idealize.ShloMosaic.Lib.StableHlo.ReadAt
@[expose] public section
set_option maxRecDepth 16384
noncomputable section
namespace Cert.ReferenceIdeal.RV
open Cert.ReferenceIdeal.Gen Cert.ReferenceIdeal.Value Cert.Spec
open Idealize.ShloMosaic Idealize.ShloMosaic.TcCoe Idealize.ShloMosaic.StableHlo
open Idealize.SL.Sem
variable (V : Valuation τ sig (Elt Ideal))
/-- The low x, clipped. -/
theorem v91_at (h0 : V (Proc.devRef .tc main_cst_14) = constant (F := Ideal) S_ .f32 0x00000000#32) (h1 : V (Proc.devRef .tc main_cst_15) = constant (F := Ideal) S_ .f32 0x44A6A000#32) (n : Fin 20000) (c : Fin 81) :
    after hostOps0_1 V (Proc.devRef .tc main_v91) (ix2 n c) = clipTo 0x44A6A000#32 (V (Proc.devRef .tc main_v90) (ix2 n c)) := by
  after_reads_simp
  rw [h0, h1]
  pointwise
  rfl
/-- The low y, clipped. -/
theorem v94_at  (n : Fin 20000) (c : Fin 81) :
    after hostOps0_3 (after hostOps0_2 V) (Proc.devRef .tc main_v94) (ix2 n c) = clipTo 0x44480000#32 (V (Proc.devRef .tc main_v88) (ix3 n c 1)) := by
  after_reads_simp
  pointwise
  rfl
/-- The high x, clipped. -/
theorem v97_at  (n : Fin 20000) (c : Fin 81) :
    after hostOps0_5 (after hostOps0_4 V) (Proc.devRef .tc main_v97) (ix2 n c) = clipTo 0x44A6A000#32 (V (Proc.devRef .tc main_v88) (ix3 n c 2)) := by
  after_reads_simp
  pointwise
  rfl
/-- The high y, clipped. -/
theorem v100_at  (n : Fin 20000) (c : Fin 81) :
    after hostOps0_7 (after hostOps0_6 V) (Proc.devRef .tc main_v100) (ix2 n c) = clipTo 0x44480000#32 (V (Proc.devRef .tc main_v88) (ix3 n c 3)) := by
  after_reads_simp
  pointwise
  rfl
/-- The clipped low x, class by class without the background. -/
theorem v109_at0 (c : Fin 80) (n : Fin 20000) :
    after hostOps0_8 V (Proc.devRef .tc main_v109) (ix3 c n 0) = V (Proc.devRef .tc main_v91) (ix2 n (up c)) := by
  after_reads_simp
  pointwise
  after_reads_simp
  pointwise
  rfl
/-- The clipped low y, class by class without the background. -/
theorem v109_at1 (c : Fin 80) (n : Fin 20000) :
    after hostOps0_8 V (Proc.devRef .tc main_v109) (ix3 c n 1) = V (Proc.devRef .tc main_v94) (ix2 n (up c)) := by
  after_reads_simp
  pointwise
  after_reads_simp
  pointwise
  rfl
/-- The clipped high x, class by class without the background. -/
theorem v109_at2 (c : Fin 80) (n : Fin 20000) :
    after hostOps0_8 V (Proc.devRef .tc main_v109) (ix3 c n 2) = V (Proc.devRef .tc main_v97) (ix2 n (up c)) := by
  after_reads_simp
  pointwise
  after_reads_simp
  pointwise
  rfl
/-- The clipped high y, class by class without the background. -/
theorem v109_at3 (c : Fin 80) (n : Fin 20000) :
    after hostOps0_8 V (Proc.devRef .tc main_v109) (ix3 c n 3) = V (Proc.devRef .tc main_v100) (ix2 n (up c)) := by
  after_reads_simp
  pointwise
  after_reads_simp
  pointwise
  rfl
/-- The probabilities, class by class without the background. -/
theorem v107_at (c : Fin 80) (n : Fin 20000) :
    after hostOps0_8 V (Proc.devRef .tc main_v107) (ix2 c n) = V (Proc.devRef .tc main_v10) (ix2 n (up c)) := by
  after_reads_simp
  pointwise
  rfl
/-- Whether a probability is above the score threshold. -/
theorem v111_at (c : Fin 80) (n : Fin 20000) :
    after hostOps0_8 V (Proc.devRef .tc main_v111) (ix2 c n) = BitVec.ofBool (decide ((cb 0x3D4CCCCD#32) < (V (Proc.devRef .tc main_v10) (ix2 n (up c)) : EReal))) := by
  after_reads_simp
  pointwise
  rfl
/-- The score given to what is dropped. -/
theorem cst23 : after hostOps0_8 V (Proc.devRef .tc main_cst_23) = constant (F := Ideal) S_ .f32 0xBF800000#32 := by
  after_results
/-- A score, or minus one where it is not above the threshold. -/
theorem v112_at (h : V (Proc.devRef .tc main_cst_23) = constant (F := Ideal) S_ .f32 0xBF800000#32) (c : Fin 80) (n : Fin 20000) (x : EReal)
   (h1 : V (Proc.devRef .tc main_v111) (ix2 c n) = BitVec.ofBool (decide (cb 0x3D4CCCCD#32 < x))) (h2 : V (Proc.devRef .tc main_v107) (ix2 c n) = x) :
    after hostOps0_9 V (Proc.devRef .tc main_v112) (ix2 c n) = thr x := by
  after_reads_at
  rw [h, h1, h2]
  by_cases hx : cb 0x3D4CCCCD#32 < x
  · simp only [thr, hx, decide_true, if_true]
    rfl
  · simp only [thr, hx, decide_false, if_false]
    rfl
-- ==== Proof.RefIou.lean ====
module
public import proofs.«01_k».proof.Proof.Gen.ReferenceIdeal
public import proofs.«01_k».proof.Proof.Gen.ReferenceIdeal.Run
public import proofs.«01_k».proof.Proof.Spec
public import proofs.«01_k».proof.Proof.TopKRead
public import Idealize.ShloMosaic.Lib.Pointwise
public import Idealize.ShloMosaic.Lib.StableHlo.ReadAt
@[expose] public section
set_option maxRecDepth 16384
noncomputable section
namespace Cert.ReferenceIdeal.RV
open Cert.ReferenceIdeal.Gen Cert.ReferenceIdeal.Value Cert.Spec
open Idealize.ShloMosaic Idealize.ShloMosaic.TcCoe Idealize.ShloMosaic.StableHlo
open Idealize.SL.Sem
variable (V : Valuation τ sig (Elt Ideal))
/-- The area of a kept box. -/
theorem v125_at (c : Fin 80) (i : Fin 512) :
    after hostOps0_12 V (Proc.devRef .tc main_v125) (ix2 c i) = area (fun r k => V (Proc.devRef .tc main_v114) (ix3 c r k)) i := by
  after_reads_simp
  pointwise
  rfl
/-- The signed overlap of two kept boxes, horizontally. -/
theorem v140_at0 (c : Fin 80) (i j : Fin 512) :
    after hostOps0_12 V (Proc.devRef .tc main_v140) (ix4 c i j 0) = (min (V (Proc.devRef .tc main_v114) (ix3 c i 2)) (V (Proc.devRef .tc main_v114) (ix3 c j 2)) : EReal) - (max (V (Proc.devRef .tc main_v114) (ix3 c i 0)) (V (Proc.devRef .tc main_v114) (ix3 c j 0)) : EReal) := by
  after_reads_simp
  pointwise
/-- The signed overlap of two kept boxes, vertically. -/
theorem v140_at1 (c : Fin 80) (i j : Fin 512) :
    after hostOps0_12 V (Proc.devRef .tc main_v140) (ix4 c i j 1) = (min (V (Proc.devRef .tc main_v114) (ix3 c i 3)) (V (Proc.devRef .tc main_v114) (ix3 c j 3)) : EReal) - (max (V (Proc.devRef .tc main_v114) (ix3 c i 1)) (V (Proc.devRef .tc main_v114) (ix3 c j 1)) : EReal) := by
  after_reads_simp
  pointwise
/-- The overlap is at least zero. -/
theorem v141_at (h : V (Proc.devRef .tc main_cst_24) = constant (F := Ideal) S_ .f32 0x00000000#32) (c : Fin 80) (i j : Fin 512) (a : Fin 2) :
    after hostOps0_13 V (Proc.devRef .tc main_v141) (ix4 c i j a) = (max (cb 0x00000000#32) (V (Proc.devRef .tc main_v140) (ix4 c i j a)) : EReal) := by
  have e : after hostOps0_13 V (Proc.devRef .tc main_v141) (ix4 c i j a) = (max (V (Proc.devRef .tc main_cst_24) ix0 : EReal) (V (Proc.devRef .tc main_v140) (ix4 c i j a)) : EReal) := by
    after_reads_at
    rfl
  rw [e, h]
  rfl
/-- Intersection over union of two kept boxes. -/
theorem v158_0_at (c : Fin 80) (i j : Fin 512) (p q w ai aj : EReal)
   (hp : V (Proc.devRef .tc main_v141) (ix4 c i j 0) = p) (hq : V (Proc.devRef .tc main_v141) (ix4 c i j 1) = q)
   (ha : V (Proc.devRef .tc main_v125) (ix2 c i) = ai) (hj : V (Proc.devRef .tc main_v125) (ix2 c j) = aj) :
    after hostOps0_14 V (Proc.devRef .tc main_v158_0) (ix3 c i j) = Ideal.div (p * q) (ai + aj - p * q + cb 0x3089705F#32) := by
  subst hp hq ha hj
  after_reads_simp
  simp only [id_eq]
  pointwise
/-- The candidates' numbers. -/
theorem v158_1_at (i : Fin 512) :
    after hostOps0_14 V (Proc.devRef .tc main_v158_1) (ix1 i) = BitVec.ofNat 32 i.val := by
  after_reads_simp
  simp only [id_eq]
  pointwise
/-- The first trip is number zero. -/
theorem v158_3_at : after hostOps0_14 V (Proc.devRef .tc main_v158_3) = constantI S_ 32 0#32 := by
  after_results
  rfl
/-- Before the first trip every candidate is kept. -/
theorem v158_4_at (c : Fin 80) (i : Fin 512) :
    after hostOps0_14 V (Proc.devRef .tc main_v158_4) (ix2 c i) = 1#1 := by
  after_reads_simp
  simp only [id_eq]
  pointwise
-- ==== Proof.RefGather.lean ====
module
public import proofs.«01_k».proof.Proof.Gen.ReferenceIdeal
public import proofs.«01_k».proof.Proof.Gen.ReferenceIdeal.Run
public import proofs.«01_k».proof.Proof.Spec
public import proofs.«01_k».proof.Proof.TopKRead
public import proofs.«01_k».proof.Proof.Gather
public import Idealize.ShloMosaic.Lib.Pointwise
public import Idealize.ShloMosaic.Lib.StableHlo.ReadAt
@[expose] public section
set_option maxRecDepth 16384
noncomputable section
namespace Cert.ReferenceIdeal.RV
open Cert.ReferenceIdeal.Gen Cert.ReferenceIdeal.Value Cert.Spec
open Idealize.ShloMosaic Idealize.ShloMosaic.TcCoe Idealize.ShloMosaic.StableHlo
open Idealize.SL.Sem
variable (V : Valuation τ sig (Elt Ideal))
/-- The positions of a class's 512 best. -/
theorem v113_at (x : FVec Ideal S80x20000 .f32) (h : V (Proc.devRef .tc main_v112) = x) (c : Fin 80) (r : Fin 512) :
    after hostOps0_10 V (Proc.devRef .tc main_v113) (ix3 c r 0) = BitVec.ofNat 32 (TopK.rank (fun q => x (ix2 c q)) (r.castLE (by decide))).val := by
  after_reads_simp
  rw [h]
  pointwise
  rw [TopK.topK2_indices]
/-- The scores of a class's 512 best. -/
theorem values_at (x : FVec Ideal S80x20000 .f32) (h : V (Proc.devRef .tc main_v112) = x) (c : Fin 80) (r : Fin 512) :
    after hostOps0_10 V (Proc.devRef .tc main_values) (ix2 c r) = x (ix2 c (TopK.rank (fun q => x (ix2 c q)) (r.castLE (by decide)))) := by
  after_reads_simp
  rw [h]
  rw [TopK.topK2_values]
/-- The boxes taken at those positions. -/
theorem v114_at (c : Fin 80) (r : Fin 512) (k : Fin 4) (p : Fin 20000) (h : V (Proc.devRef .tc main_v113) (ix3 c r 0) = BitVec.ofNat 32 p.val) :
    after hostOps0_11 V (Proc.devRef .tc main_v114) (ix3 c r k) = V (Proc.devRef .tc main_v109) (ix3 c p k) := by
  have hp : p.val ≤ 19999 := by omega
  after_reads_at
  rw [Gather.rows (by decide) gather_S80x20000x4_S80x512x1_S80x512x4_2_1_0_0_1_2_114 gather_S80x20000x4_S80x512x1_S80x512x4_2_1_0_0_1_2_114_wf rfl _ _ c r k p]
  · rw [Gather.inb p.val 19999 (by decide) hp]
    · rfl
    · intro q
      obtain rfl : q = 0 := Subsingleton.elim _ _
      rw [h]
      exact Gather.norm p.val (by omega) _
  · refine Eq.trans ?_ (Gather.norm p.val (by omega) (BitVec.ofNat 32 p.val + 20000#32))
    rw [← h]
    rfl
-- ==== Proof.RefLoop.lean ====
module
public import proofs.«01_k».proof.Proof.Gen.ReferenceIdeal
public import proofs.«01_k».proof.Proof.Gen.ReferenceIdeal.Run
public import proofs.«01_k».proof.Proof.Spec
public import proofs.«01_k».proof.Proof.TopKRead
public import proofs.«01_k».proof.Proof.Gather
public import Idealize.ShloMosaic.Lib.Pointwise
public import Idealize.ShloMosaic.Lib.StableHlo.ReadAt
@[expose] public section
set_option maxRecDepth 16384
noncomputable section
namespace Cert.ReferenceIdeal.RV
open Cert.ReferenceIdeal.Gen Cert.ReferenceIdeal.Value Cert.Spec
open Idealize.ShloMosaic Idealize.ShloMosaic.TcCoe Idealize.ShloMosaic.StableHlo
open Idealize.SL.Sem
/-- Two places of a matrix with the same coordinates are the same. -/
theorem ix2_ext {m n : ℕ} (a a' : Fin m) (b b' : Fin n) (h : a.val = a'.val) (h' : b.val = b'.val) : ix2 a b = ix2 a' b' := by
  rw [Fin.ext h, Fin.ext h']
/-- Two places of a stack of matrices with the same coordinates are the same. -/
theorem ix3_ext {l m n : ℕ} (a a' : Fin l) (b b' : Fin m) (d d' : Fin n) (h : a.val = a'.val) (h' : b.val = b'.val) (h'' : d.val = d'.val) :
    ix3 a b d = ix3 a' b' d' := by
  rw [Fin.ext h, Fin.ext h', Fin.ext h'']
/-- A small number's word, as a signed integer. -/
theorem toInt_small (p : ℕ) (hp : p < 2147483648) : (BitVec.ofNat 32 p).toInt = (p : ℤ) := by
  have h : (BitVec.ofNat 32 p).toNat = p := by rw [BitVec.toNat_ofNat]; omega
  rw [BitVec.toInt_eq_toNat_of_lt (by omega), h]

/-- The mask's slice starts at the first class. -/
theorem clamp2_0 (ht : S80x1.rank = S80x512.rank) (st : Fin S80x512.rank → ℤ) (h : st 0 = 0) : Host.clampedStart S80x512 S80x1 ht st 0 = 0 := by
  unfold Host.clampedStart; rw [h]; rfl
/-- The mask's slice starts at the trip's candidate. -/
theorem clamp2_1 (ht : S80x1.rank = S80x512.rank) (st : Fin S80x512.rank → ℤ) (k : Fin 512) (h : st 1 = (k.val : ℤ)) :
    Host.clampedStart S80x512 S80x1 ht st 1 = k.val := by
  unfold Host.clampedStart; rw [h]
  show (min (max (k.val : ℤ) 0) ((511 : ℕ) : ℤ)).toNat = k.val
  omega
/-- The row's slice starts at the first class. -/
theorem clamp3_0 (ht : S80x1x512.rank = S80x512x512.rank) (st : Fin S80x512x512.rank → ℤ) (h : st 0 = 0) : Host.clampedStart S80x512x512 S80x1x512 ht st 0 = 0 := by
  unfold Host.clampedStart; rw [h]; rfl
/-- The row's slice starts at the first column. -/
theorem clamp3_2 (ht : S80x1x512.rank = S80x512x512.rank) (st : Fin S80x512x512.rank → ℤ) (h : st 2 = 0) : Host.clampedStart S80x512x512 S80x1x512 ht st 2 = 0 := by
  unfold Host.clampedStart; rw [h]; rfl
/-- The row's slice starts at the trip's candidate. -/
theorem clamp3_1 (ht : S80x1x512.rank = S80x512x512.rank) (st : Fin S80x512x512.rank → ℤ) (k : Fin 512) (h : st 1 = (k.val : ℤ)) :
    Host.clampedStart S80x512x512 S80x1x512 ht st 1 = k.val := by
  unfold Host.clampedStart; rw [h]
  show (min (max (k.val : ℤ) 0) ((511 : ℕ) : ℤ)).toNat = k.val
  omega

variable (V0 : Valuation τ sig (Elt Ideal))
/-- One trip of suppression, at one candidate. -/
theorem step4_at (k : Fin 512) (h3 : V0 (Proc.devRef .tc main_v158_3) = constantI S_ 32 (BitVec.ofNat 32 k.val)) (c : Fin 80) (j : Fin 512) (q : EReal) (pj pk : Bool)
   (h0 : V0 (Proc.devRef .tc main_v158_0) (ix3 c k j) = q) (h1 : V0 (Proc.devRef .tc main_v158_1) (ix1 j) = BitVec.ofNat 32 j.val)
   (hj : V0 (Proc.devRef .tc main_v158_4) (ix2 c j) = BitVec.ofBool pj) (hk : V0 (Proc.devRef .tc main_v158_4) (ix2 c k) = BitVec.ofBool pk) :
   step_main_v158_4 V0 (ix2 c j) = BitVec.ofBool (pj && !(pk && (decide (cb 0x3F000000#32 < q) && decide (k < j)))) := by
  unfold step_main_v158_4
  simp only [id_eq]
  rw [h3]
  have hn : select (cmpi .slt (constantI S_ 32 (BitVec.ofNat 32 k.val)) (constantI S_ 32 0#32)) (addi (constantI S_ 32 (BitVec.ofNat 32 k.val)) (constantI S_ 32 512#32))
      (constantI S_ 32 (BitVec.ofNat 32 k.val)) = constantI S_ 32 (BitVec.ofNat 32 k.val) :=
    funext fun y => Gather.norm k.val (by omega) _
  rw [hn]
  pointwise
  have fin : ∀ (x : BitVec 1) (z : EReal), x = BitVec.ofBool pk → z = q →
      Scalar.select x (IntOp.andi (BitVec.ofBool pj) (~~~IntOp.andi (BitVec.ofBool (decide (Ideal.ofBits .f32 0x3F000000#32 < z)))
        (IntOp.cmpi .sgt (BitVec.ofNat 32 j.val) (BitVec.ofNat 32 k.val)))) (BitVec.ofBool pj)
      = BitVec.ofBool (pj && !(pk && (decide (cb 0x3F000000#32 < q) && decide (k < j)))) := by
    intro x z hx hz
    subst hx hz
    rw [Gather.gt_iff _ _ (by omega) (by omega)]
    have e' : decide (k < j) = decide (k.val < j.val) := rfl
    rw [e']
    show _ = BitVec.ofBool (pj && !(pk && (decide (Ideal.ofBits .f32 0x3F000000#32 < z) && decide (k.val < j.val))))
    cases decide (Ideal.ofBits .f32 0x3F000000#32 < z) <;> cases decide (k.val < j.val) <;> cases pj <;> cases pk <;> rfl
  rw [hj, h1]
  generalize hst : (fun a : Fin 2 => BitVec.toInt (![constantI S_ 32 0#32, constantI S_ 32 (BitVec.ofNat 32 k.val)] a (Shape.Idx.first h_S_))) = st
  generalize hst3 : (fun a : Fin 3 => BitVec.toInt (![constantI S_ 32 0#32, constantI S_ 32 (BitVec.ofNat 32 k.val), constantI S_ 32 0#32] a (Shape.Idx.first h_S_))) = st3
  have s0 : st 0 = 0 := by rw [← hst]; rfl
  have s1 : st 1 = (k.val : ℤ) := by rw [← hst]; exact toInt_small k.val (by omega)
  have s30 : st3 0 = 0 := by rw [← hst3]; rfl
  have s31 : st3 1 = (k.val : ℤ) := by rw [← hst3]; exact toInt_small k.val (by omega)
  have s32 : st3 2 = 0 := by rw [← hst3]; rfl
  clear hst hst3
  refine fin _ _ ?_ ?_
  · refine Eq.trans (congrArg (V0 (Proc.devRef .tc main_v158_4)) (ix2_ext _ c _ k ?_ ?_)) hk
    · dsimp only
      have e := clamp2_0 rfl st s0
      exact (congrArg (· + c.val) e).trans (Nat.zero_add _)
    · dsimp only
      exact clamp2_1 rfl st k s1
  · refine Eq.trans (congrArg (V0 (Proc.devRef .tc main_v158_0)) (ix3_ext _ c _ k _ j ?_ ?_ ?_)) h0
    · dsimp only
      have e := clamp3_0 rfl st3 s30
      exact (congrArg (· + c.val) e).trans (Nat.zero_add _)
    · dsimp only
      exact clamp3_1 rfl st3 k s31
    · dsimp only
      have e := clamp3_2 rfl st3 s32
      exact (congrArg (· + j.val) e).trans (Nat.zero_add _)

/-- The buffers the loop leaves alone or counts up, before trip `k`. -/
theorem loop_at (c : Fin 80) (b : Fin 512 → Fin 4 → EReal)
   (h0 : ∀ i j, V0 (Proc.devRef .tc main_v158_0) (ix3 c i j) = iou b i j) (h1 : ∀ j : Fin 512, V0 (Proc.devRef .tc main_v158_1) (ix1 j) = BitVec.ofNat 32 j.val)
   (h3 : V0 (Proc.devRef .tc main_v158_3) = constantI S_ 32 0#32)
   (h4 : ∀ j, V0 (Proc.devRef .tc main_v158_4) (ix2 c j) = 1#1) : ∀ k : ℕ, k ≤ 512 →
   (STEP^[k] V0 (Proc.devRef .tc main_v158_0) = V0 (Proc.devRef .tc main_v158_0)) ∧ (STEP^[k] V0 (Proc.devRef .tc main_v158_1) = V0 (Proc.devRef .tc main_v158_1)) ∧
   (STEP^[k] V0 (Proc.devRef .tc main_v158_3) = constantI S_ 32 (BitVec.ofNat 32 k)) ∧
   (∀ j, STEP^[k] V0 (Proc.devRef .tc main_v158_4) (ix2 c j) = BitVec.ofBool (kept b k j))
  | 0, _ => ⟨rfl, rfl, h3, h4⟩
  | k + 1, hk => by
    obtain ⟨e0, e1, e3, e4⟩ := loop_at c b h0 h1 h3 h4 k (by omega)
    have hk' : k < 512 := hk
    rw [Function.iterate_succ_apply']
    refine ⟨(STEP_main_v158_0 _).trans e0, (STEP_main_v158_1 _).trans e1, (STEP_main_v158_3 _).trans ?_, fun j => ?_⟩
    · unfold step_main_v158_3
      rw [e3]
      funext y
      show BitVec.ofNat 32 k + 1#32 = BitVec.ofNat 32 (k + 1)
      rw [BitVec.ofNat_add]
    · rw [STEP_main_v158_4]
      have s := step4_at (STEP^[k] V0) ⟨k, hk'⟩ e3 c j (iou b ⟨k, hk'⟩ j) (kept b k j) (kept b k ⟨k, hk'⟩) (by rw [e0]; exact h0 _ _) (by rw [e1]; exact h1 _) (e4 _) (e4 _)
      rw [s, kept, dif_pos hk']
      rfl
-- ==== Proof.RefTail.lean ====
module
public import proofs.«01_k».proof.Proof.Gen.ReferenceIdeal
public import proofs.«01_k».proof.Proof.Gen.ReferenceIdeal.Run
public import proofs.«01_k».proof.Proof.Spec
public import proofs.«01_k».proof.Proof.TopKRead
public import proofs.«01_k».proof.Proof.Gather
public import Idealize.ShloMosaic.Lib.Pointwise
public import Idealize.ShloMosaic.Lib.StableHlo.ReadAt
@[expose] public section
set_option maxRecDepth 16384
noncomputable section
namespace Cert.ReferenceIdeal.RV
open Cert.ReferenceIdeal.Gen Cert.ReferenceIdeal.Value Cert.Spec
open Idealize.ShloMosaic Idealize.ShloMosaic.TcCoe Idealize.ShloMosaic.StableHlo
open Idealize.SL.Sem
variable (V : Valuation τ sig (Elt Ideal))
/-- The score given to what is dropped. -/
theorem cst29 : after hostOps0_15 V (Proc.devRef .tc main_cst_29) = constant (F := Ideal) S_ .f32 0xBF800000#32 := by
  after_reads_simp
/-- Whether a candidate is kept and above the score threshold. -/
theorem v161_at (c : Fin 80) (r : Fin 512) (kp : Bool) (x : EReal) (h : V (Proc.devRef .tc main_v158_4) (ix2 c r) = BitVec.ofBool kp)
   (hx : V (Proc.devRef .tc main_values) (ix2 c r) = x) :
    after hostOps0_15 V (Proc.devRef .tc main_v161) (ix2 c r) = BitVec.ofBool (kp && decide (cb 0x3D4CCCCD#32 < x)) := by
  subst hx
  after_reads_simp
  pointwise
  rw [h]
  generalize hx : decide (cb 0x3D4CCCCD#32 < V (Proc.devRef .tc main_values) (ix2 c r)) = d
  cases kp <;> cases d <;> rfl
/-- A candidate's score, or minus one where it is dropped. -/
theorem v162_at (h : V (Proc.devRef .tc main_cst_29) = constant (F := Ideal) S_ .f32 0xBF800000#32) (c : Fin 80) (r : Fin 512) (kp : Bool) (x : EReal)
    (h1 : V (Proc.devRef .tc main_v161) (ix2 c r) = BitVec.ofBool (kp && decide (cb 0x3D4CCCCD#32 < x))) (h2 : V (Proc.devRef .tc main_values) (ix2 c r) = x) :
    after hostOps0_16 V (Proc.devRef .tc main_v162) (ix2 c r) = if kp ∧ cb 0x3D4CCCCD#32 < x then x else cb 0xBF800000#32 := by
  after_reads_at
  rw [h, h1, h2]
  by_cases hx : cb 0x3D4CCCCD#32 < x
  · rw [decide_eq_true hx]
    cases kp
    · rw [if_neg (fun h => by simp at h)]; rfl
    · rw [if_pos ⟨rfl, hx⟩]; rfl
  · rw [decide_eq_false hx, if_neg (fun h => hx h.2)]
    cases kp <;> rfl
/-- The suppressed scores as one flat row. -/
theorem v164_at (u : Fin 40960) : after hostOps0_17 V (Proc.devRef .tc main_v164) (ix1 u) = V (Proc.devRef .tc main_v162) (ix2 (fc u) (fr u)) := by
  after_reads_simp
  pointwise
  rfl
/-- The final scores are a top-k of the flat row. -/
theorem values30_of : after hostOps0_17 V (Proc.devRef .tc main_values_30)
    = (Host.topK S100 0 (FloatOps.cmpfTotal (F := Ideal) (φ := .f32) .gt) (after hostOps0_17 V (Proc.devRef .tc main_v164)) sliceFits_S40960_S100).1 := by
  after_reads_simp
/-- The final positions are those of the same top-k. -/
theorem indices31_of : after hostOps0_17 V (Proc.devRef .tc main_indices_31)
    = (Host.topK S100 0 (FloatOps.cmpfTotal (F := Ideal) (φ := .f32) .gt) (after hostOps0_17 V (Proc.devRef .tc main_v164)) sliceFits_S40960_S100).2 := by
  after_reads_simp
/-- A final score by its rank. -/
theorem values30_at (key : Fin 40960 → EReal) (h : ∀ u, V (Proc.devRef .tc main_v162) (ix2 (fc u) (fr u)) = key u) (i : Fin 100) :
    after hostOps0_17 V (Proc.devRef .tc main_values_30) (ix1 i) = key (TopK.rank key (i.castLE (by decide))) := by
  have e : (fun q : Fin 40960 => after hostOps0_17 V (Proc.devRef .tc main_v164) (ix1 q)) = key := funext fun q => (v164_at V q).trans (h q)
  rw [values30_of, TopK.topK1_values _ _ (by decide), e]
  exact (v164_at V _).trans (h _)
/-- A final position by its rank. -/
theorem indices31_at (key : Fin 40960 → EReal) (h : ∀ u, V (Proc.devRef .tc main_v162) (ix2 (fc u) (fr u)) = key u) (i : Fin 100) :
    after hostOps0_17 V (Proc.devRef .tc main_indices_31) (ix1 i) = BitVec.ofNat 32 (TopK.rank key (i.castLE (by decide))).val := by
  have e : (fun q : Fin 40960 => after hostOps0_17 V (Proc.devRef .tc main_v164) (ix1 q)) = key := funext fun q => (v164_at V q).trans (h q)
  rw [indices31_of, TopK.topK1_indices _ _ (by decide), e]
/-- A coordinate of a detection's box. -/
theorem v171_at (i : Fin 100) (k : Fin 4) (p : Fin 40960) (h : after hostOps0_17 V (Proc.devRef .tc main_indices_31) (ix1 i) = BitVec.ofNat 32 p.val) :
    after hostOps0_17 V (Proc.devRef .tc main_v171) (ix2 i k) = V (Proc.devRef .tc main_v114) (ix3 (fc p) (fr p) k) := by
  have e : after hostOps0_17 V (Proc.devRef .tc main_v171) = Host.gather gather_S40960x4_S100x1_S100x4_1_0_n_n_0_1_14 (after hostOps0_17 V (Proc.devRef .tc main_v163))
      (after hostOps0_17 V (Proc.devRef .tc main_v170)) := by
    after_reads_simp
  have e1 : after hostOps0_17 V (Proc.devRef .tc main_v163) (ix2 p k) = V (Proc.devRef .tc main_v114) (ix3 (fc p) (fr p) k) := by
    after_reads_simp
    pointwise
    rfl
  have e2 : after hostOps0_17 V (Proc.devRef .tc main_v170) (ix2 i 0)
      = Scalar.select (IntOp.cmpi .slt (after hostOps0_17 V (Proc.devRef .tc main_indices_31) (ix1 i)) 0#32)
        (IntOp.addi (after hostOps0_17 V (Proc.devRef .tc main_indices_31) (ix1 i)) 40960#32) (after hostOps0_17 V (Proc.devRef .tc main_indices_31) (ix1 i)) := by
    after_reads_simp
    pointwise
  rw [e, ← e1]
  refine (Gather.flatRows (by decide) gather_S40960x4_S100x1_S100x4_1_0_n_n_0_1_14 gather_S40960x4_S100x1_S100x4_1_0_n_n_0_1_14_wf rfl _ _ i k p ?_)
  rw [e2, h]
  exact Gather.norm p.val (by omega) _
/-- The number of kept candidates per class. -/
theorem c34 : after hostOps0_17 V (Proc.devRef .tc main_c_34) = constantI S_ 32 512#32 := by
  after_reads_simp
/-- The class number of a final position, from zero. -/
theorem v172_at (h5 : V (Proc.devRef .tc main_c_34) = constantI S_ 32 512#32) (i : Fin 100) (p : Fin 40960) (h : V (Proc.devRef .tc main_indices_31) (ix1 i) = BitVec.ofNat 32 p.val) :
    after hostOps0_18 V (Proc.devRef .tc main_v172) (ix1 i) = BitVec.ofNat 32 (p.val / 512) := by
  after_reads_at
  rw [h5, h]
  exact Gather.floorDiv p.val (by omega)
/-- A label is the class number plus one. -/
theorem v174_at (i : Fin 100) (p : ℕ) (h : V (Proc.devRef .tc main_v172) (ix1 i) = BitVec.ofNat 32 p) :
    after hostOps0_19 V (Proc.devRef .tc main_v174) (ix1 i) = BitVec.ofNat 32 (p + 1) := by
  after_reads_simp
  pointwise
  rw [h]
  exact (BitVec.ofNat_add p 1).symm
-- ==== Proof.RefMain.lean ====
module
public import proofs.«01_k».proof.Proof.Gen.ReferenceIdeal
public import proofs.«01_k».proof.Proof.Gen.ReferenceIdeal.Run
public import proofs.«01_k».proof.Proof.Spec
public import proofs.«01_k».proof.Proof.TopKRead
public import proofs.«01_k».proof.Proof.Gather
public import proofs.«01_k».proof.Proof.ReferenceFrame
public import proofs.«01_k».proof.Proof.RefProb
public import proofs.«01_k».proof.Proof.RefBox
public import proofs.«01_k».proof.Proof.RefBox2
public import proofs.«01_k».proof.Proof.RefClip
public import proofs.«01_k».proof.Proof.RefIou
public import proofs.«01_k».proof.Proof.RefGather
public import proofs.«01_k».proof.Proof.RefLoop
public import proofs.«01_k».proof.Proof.RefTail
public import Idealize.ShloMosaic.Lib.Pointwise
public import Idealize.ShloMosaic.Lib.StableHlo.ReadAt
@[expose] public section
set_option maxRecDepth 16384
noncomputable section
namespace Cert.ReferenceIdeal.RV
open Cert.ReferenceIdeal.Gen Cert.ReferenceIdeal.Value Cert.Spec
open Idealize.ShloMosaic Idealize.ShloMosaic.TcCoe Idealize.ShloMosaic.StableHlo
open Idealize.SL.Sem
open Cert.ReferenceIdeal.Frm
section
variable (V : Valuation τ sig (Elt Ideal))
/-- The lower bound of an overlap. -/
theorem cst24 : after hostOps0_12 V (Proc.devRef .tc main_cst_24) = constant (F := Ideal) S_ .f32 0x00000000#32 := by
  after_reads_simp
/-- The contents at the start. -/
abbrev X0 : Valuation τ sig (Elt Ideal) := V
/-- The contents after stretch 0. -/
abbrev X1 : Valuation τ sig (Elt Ideal) := after hostOps0 (X0 V)
/-- Stretch 0 leaves alone what it does not write. -/
theorem X1_of (r : Ref sig .tc) (h : r ∉ hostOps0_W) : X1 V (Proc.devRef .tc r) = X0 V (Proc.devRef .tc r) :=
  after_of_writes_sub hostOps0 _ hostOps0_writes h
/-- The contents after stretch 1. -/
abbrev X2 : Valuation τ sig (Elt Ideal) := after hostOps0_1 (X1 V)
/-- Stretch 1 leaves alone what it does not write. -/
theorem X2_of (r : Ref sig .tc) (h : r ∉ hostOps0_1_W) : X2 V (Proc.devRef .tc r) = X1 V (Proc.devRef .tc r) :=
  after_of_writes_sub hostOps0_1 _ hostOps0_1_writes h
/-- The contents after stretch 2. -/
abbrev X3 : Valuation τ sig (Elt Ideal) := after hostOps0_2 (X2 V)
/-- Stretch 2 leaves alone what it does not write. -/
theorem X3_of (r : Ref sig .tc) (h : r ∉ hostOps0_2_W) : X3 V (Proc.devRef .tc r) = X2 V (Proc.devRef .tc r) :=
  after_of_writes_sub hostOps0_2 _ hostOps0_2_writes h
/-- The contents after stretch 3. -/
abbrev X4 : Valuation τ sig (Elt Ideal) := after hostOps0_3 (X3 V)
/-- Stretch 3 leaves alone what it does not write. -/
theorem X4_of (r : Ref sig .tc) (h : r ∉ hostOps0_3_W) : X4 V (Proc.devRef .tc r) = X3 V (Proc.devRef .tc r) :=
  after_of_writes_sub hostOps0_3 _ hostOps0_3_writes h
/-- The contents after stretch 4. -/
abbrev X5 : Valuation τ sig (Elt Ideal) := after hostOps0_4 (X4 V)
/-- Stretch 4 leaves alone what it does not write. -/
theorem X5_of (r : Ref sig .tc) (h : r ∉ hostOps0_4_W) : X5 V (Proc.devRef .tc r) = X4 V (Proc.devRef .tc r) :=
  after_of_writes_sub hostOps0_4 _ hostOps0_4_writes h
/-- The contents after stretch 5. -/
abbrev X6 : Valuation τ sig (Elt Ideal) := after hostOps0_5 (X5 V)
/-- Stretch 5 leaves alone what it does not write. -/
theorem X6_of (r : Ref sig .tc) (h : r ∉ hostOps0_5_W) : X6 V (Proc.devRef .tc r) = X5 V (Proc.devRef .tc r) :=
  after_of_writes_sub hostOps0_5 _ hostOps0_5_writes h
/-- The contents after stretch 6. -/
abbrev X7 : Valuation τ sig (Elt Ideal) := after hostOps0_6 (X6 V)
/-- Stretch 6 leaves alone what it does not write. -/
theorem X7_of (r : Ref sig .tc) (h : r ∉ hostOps0_6_W) : X7 V (Proc.devRef .tc r) = X6 V (Proc.devRef .tc r) :=
  after_of_writes_sub hostOps0_6 _ hostOps0_6_writes h
/-- The contents after stretch 7. -/
abbrev X8 : Valuation τ sig (Elt Ideal) := after hostOps0_7 (X7 V)
/-- Stretch 7 leaves alone what it does not write. -/
theorem X8_of (r : Ref sig .tc) (h : r ∉ hostOps0_7_W) : X8 V (Proc.devRef .tc r) = X7 V (Proc.devRef .tc r) :=
  after_of_writes_sub hostOps0_7 _ hostOps0_7_writes h
/-- The contents after stretch 8. -/
abbrev X9 : Valuation τ sig (Elt Ideal) := after hostOps0_8 (X8 V)
/-- Stretch 8 leaves alone what it does not write. -/
theorem X9_of (r : Ref sig .tc) (h : r ∉ hostOps0_8_W) : X9 V (Proc.devRef .tc r) = X8 V (Proc.devRef .tc r) :=
  after_of_writes_sub hostOps0_8 _ hostOps0_8_writes h
/-- The contents after stretch 9. -/
abbrev X10 : Valuation τ sig (Elt Ideal) := after hostOps0_9 (X9 V)
/-- Stretch 9 leaves alone what it does not write. -/
theorem X10_of (r : Ref sig .tc) (h : r ∉ hostOps0_9_W) : X10 V (Proc.devRef .tc r) = X9 V (Proc.devRef .tc r) :=
  after_of_writes_sub hostOps0_9 _ hostOps0_9_writes h
/-- The contents after stretch 10. -/
abbrev X11 : Valuation τ sig (Elt Ideal) := after hostOps0_10 (X10 V)
/-- Stretch 10 leaves alone what it does not write. -/
theorem X11_of (r : Ref sig .tc) (h : r ∉ hostOps0_10_W) : X11 V (Proc.devRef .tc r) = X10 V (Proc.devRef .tc r) :=
  after_of_writes_sub hostOps0_10 _ hostOps0_10_writes h
/-- The contents after stretch 11. -/
abbrev X12 : Valuation τ sig (Elt Ideal) := after hostOps0_11 (X11 V)
/-- Stretch 11 leaves alone what it does not write. -/
theorem X12_of (r : Ref sig .tc) (h : r ∉ hostOps0_11_W) : X12 V (Proc.devRef .tc r) = X11 V (Proc.devRef .tc r) :=
  after_of_writes_sub hostOps0_11 _ hostOps0_11_writes h
/-- The contents after stretch 12. -/
abbrev X13 : Valuation τ sig (Elt Ideal) := after hostOps0_12 (X12 V)
/-- Stretch 12 leaves alone what it does not write. -/
theorem X13_of (r : Ref sig .tc) (h : r ∉ hostOps0_12_W) : X13 V (Proc.devRef .tc r) = X12 V (Proc.devRef .tc r) :=
  after_of_writes_sub hostOps0_12 _ hostOps0_12_writes h
/-- The contents after stretch 13. -/
abbrev X14 : Valuation τ sig (Elt Ideal) := after hostOps0_13 (X13 V)
/-- Stretch 13 leaves alone what it does not write. -/
theorem X14_of (r : Ref sig .tc) (h : r ∉ hostOps0_13_W) : X14 V (Proc.devRef .tc r) = X13 V (Proc.devRef .tc r) :=
  after_of_writes_sub hostOps0_13 _ hostOps0_13_writes h
/-- The contents after stretch 14. -/
abbrev X15 : Valuation τ sig (Elt Ideal) := after hostOps0_14 (X14 V)
/-- Stretch 14 leaves alone what it does not write. -/
theorem X15_of (r : Ref sig .tc) (h : r ∉ hostOps0_14_W) : X15 V (Proc.devRef .tc r) = X14 V (Proc.devRef .tc r) :=
  after_of_writes_sub hostOps0_14 _ hostOps0_14_writes h
/-- The logits. -/
def bL : Fin 20000 → Fin 81 → EReal := fun n k => (V (Proc.devRef .tc main_arg0) : FVec Ideal S20000x81 .f32) (ix2 n k)
/-- The regression deltas. -/
def bD : Fin 20000 → Fin 324 → EReal := fun n k => (V (Proc.devRef .tc main_arg1) : FVec Ideal S20000x324 .f32) (ix2 n k)
/-- The proposals. -/
def bB : Fin 20000 → Fin 4 → EReal := fun n k => (V (Proc.devRef .tc main_arg2) : FVec Ideal S20000x4 .f32) (ix2 n k)
/-- The class probabilities. -/
theorem X1_p (n : Fin 20000) (q : Fin 81) : X1 V (Proc.devRef .tc main_v10) (ix2 n q) = prob (bL V) n q := v10_at V _ rfl n q
/-- The low x before clipping. -/
theorem X1_88_0 (n : Fin 20000) (q : Fin 81) : X1 V (Proc.devRef .tc main_v90) (ix2 n q) = lowRaw (bD V) (bB V) n q 0 := (v90_at V n q).trans (v74_at V _ _ rfl rfl n q)
/-- The low y before clipping. -/
theorem X1_88_1 (n : Fin 20000) (q : Fin 81) : X1 V (Proc.devRef .tc main_v88) (ix3 n q 1) = lowRaw (bD V) (bB V) n q 1 := (v88_at1 V n q).trans (v77_at V _ _ rfl rfl n q)
/-- The high x before clipping. -/
theorem X1_88_2 (n : Fin 20000) (q : Fin 81) : X1 V (Proc.devRef .tc main_v88) (ix3 n q 2) = highRaw (bD V) (bB V) n q 0 := (v88_at2 V n q).trans (v80_at V _ _ rfl rfl n q)
/-- The high y before clipping. -/
theorem X1_88_3 (n : Fin 20000) (q : Fin 81) : X1 V (Proc.devRef .tc main_v88) (ix3 n q 3) = highRaw (bD V) (bB V) n q 1 := (v88_at3 V n q).trans (v83_at V _ _ rfl rfl n q)
/-- The low x of the boxes. -/
theorem X2_b (n : Fin 20000) (q : Fin 81) : X2 V (Proc.devRef .tc main_v91) (ix2 n q) = box (bD V) (bB V) n q 0 :=
  (v91_at (X1 V) (cst14 V) (cst15 V) n q).trans (congrArg (clipTo 0x44A6A000#32) (X1_88_0 V n q))
/-- The low y of the boxes. -/
theorem X4_b (n : Fin 20000) (q : Fin 81) : X4 V (Proc.devRef .tc main_v94) (ix2 n q) = box (bD V) (bB V) n q 1 :=
  (v94_at (X2 V) n q).trans (congrArg (clipTo 0x44480000#32) ((congrFun (X2_of V main_v88 (by decide)) (ix3 n q 1)).trans (X1_88_1 V n q)))
/-- The high x of the boxes. -/
theorem X6_b (n : Fin 20000) (q : Fin 81) : X6 V (Proc.devRef .tc main_v97) (ix2 n q) = box (bD V) (bB V) n q 2 :=
  (v97_at (X4 V) n q).trans (congrArg (clipTo 0x44A6A000#32) ((congrFun ((X4_of V main_v88 (by decide)).trans ((X3_of V main_v88 (by decide)).trans (X2_of V main_v88 (by decide)))) (ix3 n q 2)).trans (X1_88_2 V n q)))
/-- The high y of the boxes. -/
theorem X8_b (n : Fin 20000) (q : Fin 81) : X8 V (Proc.devRef .tc main_v100) (ix2 n q) = box (bD V) (bB V) n q 3 :=
  (v100_at (X6 V) n q).trans (congrArg (clipTo 0x44480000#32) ((congrFun ((X6_of V main_v88 (by decide)).trans ((X5_of V main_v88 (by decide)).trans ((X4_of V main_v88 (by decide)).trans ((X3_of V main_v88 (by decide)).trans (X2_of V main_v88 (by decide)))))) (ix3 n q 3)).trans (X1_88_3 V n q)))
/-- The boxes, class by class. -/
theorem X9_b (c : Fin 80) (n : Fin 20000) : ∀ k : Fin 4, X9 V (Proc.devRef .tc main_v109) (ix3 c n k) = box (bD V) (bB V) n (up c) k
  | 0 => (v109_at0 (X8 V) c n).trans ((congrFun ((X8_of V main_v91 (by decide)).trans ((X7_of V main_v91 (by decide)).trans ((X6_of V main_v91 (by decide)).trans ((X5_of V main_v91 (by decide)).trans ((X4_of V main_v91 (by decide)).trans (X3_of V main_v91 (by decide))))))) (ix2 n (up c))).trans (X2_b V n (up c)))
  | 1 => (v109_at1 (X8 V) c n).trans ((congrFun ((X8_of V main_v94 (by decide)).trans ((X7_of V main_v94 (by decide)).trans ((X6_of V main_v94 (by decide)).trans (X5_of V main_v94 (by decide))))) (ix2 n (up c))).trans (X4_b V n (up c)))
  | 2 => (v109_at2 (X8 V) c n).trans ((congrFun ((X8_of V main_v97 (by decide)).trans (X7_of V main_v97 (by decide))) (ix2 n (up c))).trans (X6_b V n (up c)))
  | 3 => (v109_at3 (X8 V) c n).trans (X8_b V n (up c))
/-- The class probabilities, after the clipping. -/
theorem X8_p (n : Fin 20000) (q : Fin 81) : X8 V (Proc.devRef .tc main_v10) (ix2 n q) = prob (bL V) n q :=
  (congrFun ((X8_of V main_v10 (by decide)).trans ((X7_of V main_v10 (by decide)).trans ((X6_of V main_v10 (by decide)).trans ((X5_of V main_v10 (by decide)).trans ((X4_of V main_v10 (by decide)).trans ((X3_of V main_v10 (by decide)).trans (X2_of V main_v10 (by decide)))))))) (ix2 n q)).trans (X1_p V n q)
/-- The thresholded scores. -/
theorem X10_s (c : Fin 80) (n : Fin 20000) : X10 V (Proc.devRef .tc main_v112) (ix2 c n) = sc (bL V) c n := by
  refine v112_at (X9 V) (cst23 (X8 V)) c n (prob (bL V) n (up c)) ?_ ((v107_at (X8 V) c n).trans (X8_p V n (up c)))
  rw [← X8_p V n (up c)]
  exact v111_at (X8 V) c n
/-- The thresholded scores, as one array. -/
def rArr : FVec Ideal S80x20000 .f32 := X10 V (Proc.devRef .tc main_v112)
/-- A class's row of scores. -/
theorem rArr_row (c : Fin 80) : (fun n => rArr V (ix2 c n)) = sc (bL V) c := funext fun n => X10_s V c n
/-- The kept scores. -/
theorem X11_s (c : Fin 80) (r : Fin 512) : X11 V (Proc.devRef .tc main_values) (ix2 c r) = ts (bL V) c r := by
  refine (values_at (X10 V) (rArr V) rfl c r).trans ?_
  rw [rArr_row]
  exact X10_s V c _
/-- The positions of the kept scores. -/
theorem X11_i (c : Fin 80) (r : Fin 512) : X11 V (Proc.devRef .tc main_v113) (ix3 c r 0) = BitVec.ofNat 32 (pos (bL V) c r).val := by
  refine (v113_at (X10 V) (rArr V) rfl c r).trans ?_
  rw [rArr_row]
  rfl
/-- The kept boxes. -/
theorem X12_b (c : Fin 80) (r : Fin 512) (k : Fin 4) : X12 V (Proc.devRef .tc main_v114) (ix3 c r k) = bb (bL V) (bD V) (bB V) c r k :=
  (v114_at (X11 V) c r k (pos (bL V) c r) (X11_i V c r)).trans ((congrFun ((X11_of V main_v109 (by decide)).trans (X10_of V main_v109 (by decide))) (ix3 c (pos (bL V) c r) k)).trans (X9_b V c _ k))
/-- A class's kept boxes. -/
theorem X12_row (c : Fin 80) : (fun r k => X12 V (Proc.devRef .tc main_v114) (ix3 c r k)) = bb (bL V) (bD V) (bB V) c :=
  funext fun r => funext fun k => X12_b V c r k
/-- The areas of the kept boxes. -/
theorem X14_area (c : Fin 80) (i : Fin 512) : X14 V (Proc.devRef .tc main_v125) (ix2 c i) = area (bb (bL V) (bD V) (bB V) c) i :=
  (congrFun (X14_of V main_v125 (by decide)) (ix2 c i)).trans ((v125_at (X12 V) c i).trans (congrArg (fun b => area b i) (X12_row V c)))
/-- The overlap of two kept boxes, horizontally. -/
theorem X14_0 (c : Fin 80) (i j : Fin 512) : X14 V (Proc.devRef .tc main_v141) (ix4 c i j 0)
    = max (cb 0x00000000#32) (min (bb (bL V) (bD V) (bB V) c i 2) (bb (bL V) (bD V) (bB V) c j 2) - max (bb (bL V) (bD V) (bB V) c i 0) (bb (bL V) (bD V) (bB V) c j 0)) := by
  refine (v141_at (X13 V) (cst24 (X12 V)) c i j 0).trans (congrArg (max (cb 0x00000000#32)) ?_)
  refine (v140_at0 (X12 V) c i j).trans ?_
  rw [X12_b, X12_b, X12_b, X12_b]
/-- The overlap of two kept boxes, vertically. -/
theorem X14_1 (c : Fin 80) (i j : Fin 512) : X14 V (Proc.devRef .tc main_v141) (ix4 c i j 1)
    = max (cb 0x00000000#32) (min (bb (bL V) (bD V) (bB V) c i 3) (bb (bL V) (bD V) (bB V) c j 3) - max (bb (bL V) (bD V) (bB V) c i 1) (bb (bL V) (bD V) (bB V) c j 1)) := by
  refine (v141_at (X13 V) (cst24 (X12 V)) c i j 1).trans (congrArg (max (cb 0x00000000#32)) ?_)
  refine (v140_at1 (X12 V) c i j).trans ?_
  rw [X12_b, X12_b, X12_b, X12_b]
/-- The overlaps of every pair. -/
theorem X15_iou (c : Fin 80) (i j : Fin 512) : X15 V (Proc.devRef .tc main_v158_0) (ix3 c i j) = iou (bb (bL V) (bD V) (bB V) c) i j :=
  v158_0_at (X14 V) c i j _ _ (cb 0) _ _ (X14_0 V c i j) (X14_1 V c i j) (X14_area V c i) (X14_area V c j)
/-- The kept scores at the loop's entry. -/
theorem X15_v (c : Fin 80) (r : Fin 512) : X15 V (Proc.devRef .tc main_values) (ix2 c r) = ts (bL V) c r :=
  (congrFun ((X15_of V main_values (by decide)).trans ((X14_of V main_values (by decide)).trans ((X13_of V main_values (by decide)).trans (X12_of V main_values (by decide))))) (ix2 c r)).trans (X11_s V c r)
/-- The kept boxes at the loop's entry. -/
theorem X15_b (c : Fin 80) (r : Fin 512) (k : Fin 4) : X15 V (Proc.devRef .tc main_v114) (ix3 c r k) = bb (bL V) (bD V) (bB V) c r k :=
  (congrFun ((X15_of V main_v114 (by decide)).trans ((X14_of V main_v114 (by decide)).trans (X13_of V main_v114 (by decide)))) (ix3 c r k)).trans (X12_b V c r k)
/-- What is kept after the whole suppression. -/
theorem loop512 (c : Fin 80) (j : Fin 512) : STEP^[512] (X15 V) (Proc.devRef .tc main_v158_4) (ix2 c j) = BitVec.ofBool (kept (bb (bL V) (bD V) (bB V) c) 512 j) :=
  (loop_at (X15 V) c (bb (bL V) (bD V) (bB V) c) (X15_iou V c) (fun i => v158_1_at (X14 V) i) (v158_3_at (X14 V)) (fun i => v158_4_at (X14 V) c i) 512 le_rfl).2.2.2 j
end
-- ==== Proof.RefFinal.lean ====
module
public import proofs.«01_k».proof.Proof.Gen.ReferenceIdeal
public import proofs.«01_k».proof.Proof.Gen.ReferenceIdeal.Run
public import proofs.«01_k».proof.Proof.Spec
public import proofs.«01_k».proof.Proof.TopKRead
public import proofs.«01_k».proof.Proof.Gather
public import proofs.«01_k».proof.Proof.ReferenceFrame
public import proofs.«01_k».proof.Proof.RefProb
public import proofs.«01_k».proof.Proof.RefBox
public import proofs.«01_k».proof.Proof.RefBox2
public import proofs.«01_k».proof.Proof.RefClip
public import proofs.«01_k».proof.Proof.RefIou
public import proofs.«01_k».proof.Proof.RefGather
public import proofs.«01_k».proof.Proof.RefLoop
public import proofs.«01_k».proof.Proof.RefTail
public import proofs.«01_k».proof.Proof.RefMain
public import Idealize.ShloMosaic.Lib.Pointwise
public import Idealize.ShloMosaic.Lib.StableHlo.ReadAt
@[expose] public section
set_option maxRecDepth 16384
noncomputable section
namespace Cert.ReferenceIdeal.RV
open Cert.ReferenceIdeal.Gen Cert.ReferenceIdeal.Value Cert.Spec
open Idealize.ShloMosaic Idealize.ShloMosaic.TcCoe Idealize.ShloMosaic.StableHlo
open Idealize.SL.Sem
open Cert.ReferenceIdeal.Frm
section
variable (V : Valuation τ sig (Elt Ideal))
/-- The contents when the loop ends. -/
abbrev Y0 : Valuation τ sig (Elt Ideal) := V
/-- The contents after stretch 15. -/
abbrev Y1 : Valuation τ sig (Elt Ideal) := after hostOps0_15 (Y0 V)
/-- Stretch 15 leaves alone what it does not write. -/
theorem Y1_of (r : Ref sig .tc) (h : r ∉ hostOps0_15_W) : Y1 V (Proc.devRef .tc r) = Y0 V (Proc.devRef .tc r) :=
  after_of_writes_sub hostOps0_15 _ hostOps0_15_writes h
/-- The contents after stretch 16. -/
abbrev Y2 : Valuation τ sig (Elt Ideal) := after hostOps0_16 (Y1 V)
/-- Stretch 16 leaves alone what it does not write. -/
theorem Y2_of (r : Ref sig .tc) (h : r ∉ hostOps0_16_W) : Y2 V (Proc.devRef .tc r) = Y1 V (Proc.devRef .tc r) :=
  after_of_writes_sub hostOps0_16 _ hostOps0_16_writes h
/-- The contents after stretch 17. -/
abbrev Y3 : Valuation τ sig (Elt Ideal) := after hostOps0_17 (Y2 V)
/-- Stretch 17 leaves alone what it does not write. -/
theorem Y3_of (r : Ref sig .tc) (h : r ∉ hostOps0_17_W) : Y3 V (Proc.devRef .tc r) = Y2 V (Proc.devRef .tc r) :=
  after_of_writes_sub hostOps0_17 _ hostOps0_17_writes h
/-- The contents after stretch 18. -/
abbrev Y4 : Valuation τ sig (Elt Ideal) := after hostOps0_18 (Y3 V)
/-- Stretch 18 leaves alone what it does not write. -/
theorem Y4_of (r : Ref sig .tc) (h : r ∉ hostOps0_18_W) : Y4 V (Proc.devRef .tc r) = Y3 V (Proc.devRef .tc r) :=
  after_of_writes_sub hostOps0_18 _ hostOps0_18_writes h
/-- The contents after stretch 19. -/
abbrev Y5 : Valuation τ sig (Elt Ideal) := after hostOps0_19 (Y4 V)
/-- Stretch 19 leaves alone what it does not write. -/
theorem Y5_of (r : Ref sig .tc) (h : r ∉ hostOps0_19_W) : Y5 V (Proc.devRef .tc r) = Y4 V (Proc.devRef .tc r) :=
  after_of_writes_sub hostOps0_19 _ hostOps0_19_writes h
variable (L : Fin 20000 → Fin 81 → EReal) (D : Fin 20000 → Fin 324 → EReal) (B : Fin 20000 → Fin 4 → EReal)
  (hk : ∀ c j, V (Proc.devRef .tc main_v158_4) (ix2 c j) = BitVec.ofBool (kept (bb L D B c) 512 j)) (hv : ∀ c r, V (Proc.devRef .tc main_values) (ix2 c r) = ts L c r)
  (hb : ∀ c r k, V (Proc.devRef .tc main_v114) (ix3 c r k) = bb L D B c r k)
include hk hv in
/-- The scores left after suppression. -/
theorem Y2_o (c : Fin 80) (r : Fin 512) : Y2 V (Proc.devRef .tc main_v162) (ix2 c r) = out L D B c r :=
  v162_at (Y1 V) (cst29 (Y0 V)) c r (kept (bb L D B c) 512 r) (ts L c r) (v161_at (Y0 V) c r _ _ (hk c r) (hv c r))
    ((congrFun (Y1_of V main_values (by decide)) (ix2 c r)).trans (hv c r))
include hk hv in
/-- The scores after suppression, at a position of the flat array. -/
theorem Y2_flat (u : Fin 40960) : Y2 V (Proc.devRef .tc main_v162) (ix2 (fc u) (fr u)) = flat L D B u := Y2_o V L D B hk hv _ _
include hk hv in
/-- The positions of the 100 best. -/
theorem Y3_i (i : Fin 100) : Y3 V (Proc.devRef .tc main_indices_31) (ix1 i) = BitVec.ofNat 32 (fin L D B i).val :=
  indices31_at (Y2 V) (flat L D B) (Y2_flat V L D B hk hv) i
include hk hv in
/-- The detections' scores. -/
theorem Y5_score (i : Fin 100) : Y5 V (Proc.devRef .tc main_values_30) (ix1 i) = detScore L D B i :=
  (congrFun ((Y5_of V main_values_30 (by decide)).trans (Y4_of V main_values_30 (by decide))) (ix1 i)).trans (values30_at (Y2 V) (flat L D B) (Y2_flat V L D B hk hv) i)
include hk hv in
/-- The detections' labels. -/
theorem Y5_label (i : Fin 100) : Y5 V (Proc.devRef .tc main_v174) (ix1 i) = detLabel L D B i :=
  v174_at (Y4 V) i _ (v172_at (Y3 V) (c34 (Y2 V)) i (fin L D B i) (Y3_i V L D B hk hv i))
include hk hv hb in
/-- The detections' coordinates. -/
theorem Y5_box (i : Fin 100) (k : Fin 4) : Y5 V (Proc.devRef .tc main_v171) (ix2 i k) = detBox L D B i k :=
  (congrFun ((Y5_of V main_v171 (by decide)).trans (Y4_of V main_v171 (by decide))) (ix2 i k)).trans ((v171_at (Y2 V) i k (fin L D B i) (Y3_i V L D B hk hv i)).trans
    ((congrFun ((Y2_of V main_v114 (by decide)).trans (Y1_of V main_v114 (by decide))) (ix3 (fc (fin L D B i)) (fr (fin L D B i)) k)).trans (hb _ _ k)))
end
/-- What a stretch leaves alone that the loop does not carry. -/
theorem afterL_keep (r : Ref sig .tc) : ∀ (items : List (List (HloOp τ sig (Elt Ideal)))), (∀ ops ∈ items, ∀ X : Valuation τ sig (Elt Ideal), after ops X (Proc.devRef .tc r) = X (Proc.devRef .tc r)) →
    ∀ X : Valuation τ sig (Elt Ideal), afterL items X (Proc.devRef .tc r) = X (Proc.devRef .tc r)
  | [], _, _ => rfl
  | ops :: rest, h, X => by
    rw [afterL_cons, afterL_keep r rest (fun o ho => h o (List.mem_cons_of_mem _ ho))]
    exact h ops List.mem_cons_self X
/-- The loop's body leaves alone what it does not write. -/
theorem body_keep (r : Ref sig .tc) (h0 : r ∉ while0Ops0_W) (h1 : r ∉ while0Ops0_1_W) (h2 : r ∉ while0Ops0_2_W) (X : Valuation τ sig (Elt Ideal)) :
    afterL bodyI X (Proc.devRef .tc r) = X (Proc.devRef .tc r) := by
  refine afterL_keep r _ (fun ops ho X => ?_) X
  simp only [bodyI, List.mem_cons, List.not_mem_nil, or_false] at ho
  rcases ho with rfl | rfl | rfl
  · exact after_of_writes_sub _ _ while0Ops0_writes h0
  · exact after_of_writes_sub _ _ while0Ops0_1_writes h1
  · exact after_of_writes_sub _ _ while0Ops0_2_writes h2
variable (m : (ℓ : Loc nD τ sig) → Buf (Elt Ideal) ℓ)
/-- The contents at launch. -/
abbrev base (c : Dev nD) : Valuation τ sig (Elt Ideal) := fun b => m (c, b)
/-- The contents at the loop's entry. -/
theorem entry_eq (c : Dev nD) : entryContents preI m c = X15 (base m c) := by
  simp only [entryContents, preI, afterL_cons, afterL_nil]
/-- All trips leave alone what the loop does not write. -/
theorem trip_keep (r : Ref sig .tc) (h0 : r ∉ while0Ops0_W) (h1 : r ∉ while0Ops0_1_W) (h2 : r ∉ while0Ops0_2_W) (h3 : r ∉ condOps_W) (c : Dev nD) : ∀ k : ℕ,
    atTrip condOps bodyI (entryContents preI m) k c (Proc.devRef .tc r) = X15 (base m c) (Proc.devRef .tc r)
  | 0 => congrFun (entry_eq m c) _
  | k + 1 => by
    rw [atTrip_succ, body_keep r h0 h1 h2, after_of_writes_sub condOps _ condOps_writes h3]
    exact trip_keep r h0 h1 h2 h3 c k
/-- The contents after the loop. -/
def Vloop (c : Dev nD) : Valuation τ sig (Elt Ideal) := after condOps (atTrip condOps bodyI (entryContents preI m) 512 c)
/-- The mask after 512 trips. -/
theorem Vloop_k (c : Dev nD) (j : Fin 80) (r : Fin 512) : Vloop m c (Proc.devRef .tc main_v158_4) (ix2 j r)
    = BitVec.ofBool (kept (bb (bL (base m c)) (bD (base m c)) (bB (base m c)) j) 512 r) := by
  have e1 : Vloop m c (Proc.devRef .tc main_v158_4) = atTrip condOps bodyI (entryContents preI m) 512 c (Proc.devRef .tc main_v158_4) := cond_keeps _ main_v158_4 (by decide)
  have e2 : atTrip condOps bodyI (entryContents preI m) 512 c (Proc.devRef .tc main_v158_4) = STEP^[512] (entryContents preI m c) (Proc.devRef .tc main_v158_4) := atK_agree m c 512 main_v158_4 (by decide)
  rw [e1, e2, entry_eq]
  exact loop512 (base m c) j r
/-- The kept scores after the loop. -/
theorem Vloop_v (c : Dev nD) (j : Fin 80) (r : Fin 512) : Vloop m c (Proc.devRef .tc main_values) (ix2 j r) = ts (bL (base m c)) j r :=
  (congrFun ((after_of_writes_sub condOps _ condOps_writes (by decide)).trans (trip_keep m main_values (by decide) (by decide) (by decide) (by decide) c 512)) (ix2 j r)).trans (X15_v (base m c) j r)
/-- The kept boxes after the loop. -/
theorem Vloop_b (c : Dev nD) (j : Fin 80) (r : Fin 512) (k : Fin 4) : Vloop m c (Proc.devRef .tc main_v114) (ix3 j r k) = bb (bL (base m c)) (bD (base m c)) (bB (base m c)) j r k :=
  (congrFun ((after_of_writes_sub condOps _ condOps_writes (by decide)).trans (trip_keep m main_v114 (by decide) (by decide) (by decide) (by decide) c 512)) (ix3 j r k)).trans (X15_b (base m c) j r k)
/-- The contents at the end. -/
theorem final_eq (c : Dev nD) : finalContents condOps preI bodyI postI 512 m c = Y5 (Vloop m c) := by
  simp only [finalContents, postI, afterL_cons, afterL_nil, Vloop]
/-- The detections' coordinates, of the whole run. -/
theorem final_box (c : Dev nD) (i : Fin 100) (k : Fin 4) : finalContents condOps preI bodyI postI 512 m c (Proc.devRef .tc main_v171) (ix2 i k)
    = detBox (bL (base m c)) (bD (base m c)) (bB (base m c)) i k := by
  rw [final_eq]
  exact Y5_box (Vloop m c) _ _ _ (Vloop_k m c) (Vloop_v m c) (Vloop_b m c) i k
/-- The detections' scores, of the whole run. -/
theorem final_score (c : Dev nD) (i : Fin 100) : finalContents condOps preI bodyI postI 512 m c (Proc.devRef .tc main_values_30) (ix1 i)
    = detScore (bL (base m c)) (bD (base m c)) (bB (base m c)) i := by
  rw [final_eq]
  exact Y5_score (Vloop m c) _ _ _ (Vloop_k m c) (Vloop_v m c) i
/-- The detections' labels, of the whole run. -/
theorem final_label (c : Dev nD) (i : Fin 100) : finalContents condOps preI bodyI postI 512 m c (Proc.devRef .tc main_v174) (ix1 i)
    = detLabel (bL (base m c)) (bD (base m c)) (bB (base m c)) i := by
  rw [final_eq]
  exact Y5_label (Vloop m c) _ _ _ (Vloop_k m c) (Vloop_v m c) i
-- ==== Proof.Algebraic.lean ====
module
public import proofs.«01_k».proof.Defs
public import proofs.«01_k».proof.Proof.KerMain
public import proofs.«01_k».proof.Proof.RefFinal
@[expose] public section
set_option maxRecDepth 16384
noncomputable section
namespace Cert.Agree
open Cert.Spec
open Idealize.ShloMosaic Idealize.ShloMosaic.TcCoe Idealize.ShloMosaic.StableHlo
open Idealize.SL.Sem

/-- The kernel's detections, coordinate by coordinate. -/
theorem ker_box (m : (ℓ : Loc Cert.KernelIdeal.nD Cert.KernelIdeal.τ Cert.KernelIdeal.sig) → Buf (Elt Ideal) ℓ) (ρ : Dev Cert.KernelIdeal.nD → PrngReg)
    (c : Dev Cert.KernelIdeal.nD) (i : Fin 100) : ∀ k : Fin 4, Cert.KernelIdeal.Whole.W18 m ρ c (Proc.devRef .tc Cert.KernelIdeal.main_v78) (ix2 i k)
      = detBox (Cert.KernelIdeal.KV.aL m c) (Cert.KernelIdeal.KV.aD m c) (Cert.KernelIdeal.KV.aB m c) i k
  | 0 => Cert.KernelIdeal.KV.W18_box0 m ρ c i
  | 1 => Cert.KernelIdeal.KV.W18_box1 m ρ c i
  | 2 => Cert.KernelIdeal.KV.W18_box2 m ρ c i
  | 3 => Cert.KernelIdeal.KV.W18_box3 m ρ c i

section
variable (m : (ℓ : Loc Cert.KernelIdeal.nD Cert.KernelIdeal.τ Cert.KernelIdeal.sig) → Buf (Elt Ideal) ℓ) (g : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)
  (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))

include h0 in
/-- Both programs read the same logits. -/
theorem same_L : Cert.ReferenceIdeal.RV.bL (Cert.ReferenceIdeal.RV.base m' c) = Cert.KernelIdeal.KV.aL m c :=
  funext fun n => funext fun k => congrFun h0 (ix2 n k)
include h1 in
/-- Both programs read the same deltas. -/
theorem same_D : Cert.ReferenceIdeal.RV.bD (Cert.ReferenceIdeal.RV.base m' c) = Cert.KernelIdeal.KV.aD m c :=
  funext fun n => funext fun k => congrFun h1 (ix2 n k)
include h2 in
/-- Both programs read the same proposals. -/
theorem same_B : Cert.ReferenceIdeal.RV.bB (Cert.ReferenceIdeal.RV.base m' c) = Cert.KernelIdeal.KV.aB m c :=
  funext fun n => funext fun k => congrFun h2 (ix2 n k)

include h0 h1 h2 in
/-- The two programs' boxes are equal. -/
theorem box_eq : finalContents Cert.ReferenceIdeal.Value.condOps Cert.ReferenceIdeal.Value.preI Cert.ReferenceIdeal.Value.bodyI Cert.ReferenceIdeal.Value.postI 512 m' c (Proc.devRef .tc Cert.ReferenceIdeal.main_v171)
    = Cert.KernelIdeal.Whole.W18 m g c (Proc.devRef .tc Cert.KernelIdeal.main_v78) := by
  funext i
  idx_vars i
  refine (Cert.ReferenceIdeal.RV.final_box m' c i0 i1).trans ?_
  rw [same_L m m' c h0, same_D m m' c h1, same_B m m' c h2]
  exact (ker_box m g c i0 i1).symm
include h0 h1 h2 in
/-- The two programs' scores are equal. -/
theorem score_eq : finalContents Cert.ReferenceIdeal.Value.condOps Cert.ReferenceIdeal.Value.preI Cert.ReferenceIdeal.Value.bodyI Cert.ReferenceIdeal.Value.postI 512 m' c (Proc.devRef .tc Cert.ReferenceIdeal.main_values_30)
    = Cert.KernelIdeal.Whole.W18 m g c (Proc.devRef .tc Cert.KernelIdeal.main_values_3) := by
  funext i
  idx_vars i
  refine (Cert.ReferenceIdeal.RV.final_score m' c i0).trans ?_
  rw [same_L m m' c h0, same_D m m' c h1, same_B m m' c h2]
  exact (Cert.KernelIdeal.KV.W18_score m g c i0).symm
include h0 h1 h2 in
/-- The two programs' labels are equal. -/
theorem label_eq : finalContents Cert.ReferenceIdeal.Value.condOps Cert.ReferenceIdeal.Value.preI Cert.ReferenceIdeal.Value.bodyI Cert.ReferenceIdeal.Value.postI 512 m' c (Proc.devRef .tc Cert.ReferenceIdeal.main_v174)
    = Cert.KernelIdeal.Whole.W18 m g c (Proc.devRef .tc Cert.KernelIdeal.main_v41) := by
  funext i
  idx_vars i
  refine (Cert.ReferenceIdeal.RV.final_label m' c i0).trans ?_
  rw [same_L m m' c h0, same_D m m' c h1, same_B m m' c h2]
  exact (Cert.KernelIdeal.KV.W18_label m g c i0).symm
end

/-- From memories that agree on the arguments the kernel and the reference end with equal results. -/
theorem algebraic : letI := Cert.KernelIdeal.Gen.facts; letI := Cert.ReferenceIdeal.Gen.facts; Cert.algebraic_KernelIdeal_ReferenceIdeal := by
  intro m g m' g' _ h
  refine ⟨fun c => Cert.KernelIdeal.Whole.W18 m g c (Proc.devRef .tc Cert.KernelIdeal.main_v78),
    fun c => Cert.KernelIdeal.Whole.W18 m g c (Proc.devRef .tc Cert.KernelIdeal.main_values_3),
    fun c => Cert.KernelIdeal.Whole.W18 m g c (Proc.devRef .tc Cert.KernelIdeal.main_v41), ?_, ?_⟩
  · exact (θ_run Cert.KernelIdeal.defs _ _).mono (fun r hr c =>
      ⟨hr.1 c _ (Cert.KernelIdeal.Whole.mem_uc Cert.KernelIdeal.main_v78 (by decide)),
       hr.1 c _ (Cert.KernelIdeal.Whole.mem_uc Cert.KernelIdeal.main_values_3 (by decide)),
       hr.1 c _ (Cert.KernelIdeal.Whole.mem_uc Cert.KernelIdeal.main_v41 (by decide)),
       (hr.1 c _ (Cert.KernelIdeal.Whole.mem_uc Cert.KernelIdeal.main_arg0 (by decide))).trans (Cert.KernelIdeal.Whole.W18_main_arg0 m g c),
       (hr.1 c _ (Cert.KernelIdeal.Whole.mem_uc Cert.KernelIdeal.main_arg1 (by decide))).trans (Cert.KernelIdeal.Whole.W18_main_arg1 m g c),
       (hr.1 c _ (Cert.KernelIdeal.Whole.mem_uc Cert.KernelIdeal.main_arg2 (by decide))).trans (Cert.KernelIdeal.Whole.W18_main_arg2 m g c)⟩) (Cert.KernelIdeal.Whole.run_all m g)
  · exact (θ_run Cert.ReferenceIdeal.defs _ _).mono (fun r hr c =>
      ⟨(hr c Cert.ReferenceIdeal.main_v171 rfl).trans (box_eq m g m' c (h c).1 (h c).2.1 (h c).2.2),
       (hr c Cert.ReferenceIdeal.main_values_30 rfl).trans (score_eq m g m' c (h c).1 (h c).2.1 (h c).2.2),
       (hr c Cert.ReferenceIdeal.main_v174 rfl).trans (label_eq m g m' c (h c).1 (h c).2.1 (h c).2.2),
       (hr c Cert.ReferenceIdeal.main_arg0 rfl).trans (Cert.ReferenceIdeal.Frm.final_keeps m' c _ (by decide)),
       (hr c Cert.ReferenceIdeal.main_arg1 rfl).trans (Cert.ReferenceIdeal.Frm.final_keeps m' c _ (by decide)),
       (hr c Cert.ReferenceIdeal.main_arg2 rfl).trans (Cert.ReferenceIdeal.Frm.final_keeps m' c _ (by decide))⟩) (Cert.ReferenceIdeal.Value.run_fold m' g')

end Cert.Agree
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.KernelRun
public import proofs.«01_k».proof.Proof.KernelIdealRun
public import proofs.«01_k».proof.Proof.ReferenceFrame
public import proofs.«01_k».proof.Proof.Algebraic

@[expose] public section

noncomputable section

namespace Cert.Proof

/-- The certificate's claims, one after the other. -/
theorem claim : Cert.Claim :=
  ⟨Cert.Kernel.Gen.facts, Cert.KernelIdeal.Gen.facts, Cert.ReferenceIdeal.Gen.facts,
    fun m ρ _ => Cert.Kernel.Whole.frame m ρ,
    fun m ρ _ => Cert.KernelIdeal.Whole.frame m ρ,
    fun m ρ _ => Cert.ReferenceIdeal.Frm.frame m ρ,
    trivial,
    Cert.Agree.algebraic⟩

end Cert.Proof

end
